-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal__scales_nonneg [hPre__scales_nonneg : Cert.Pre__scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre__scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal__scales_nonneg [hPre__scales_nonneg : Cert.Pre__scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre__scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre__scales_nonneg [hKernelIdeal : Cert.KernelIdeal.Facts] [hPre__scales_nonneg : Cert.Pre__scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal__scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre__scales_nonneg [hReferenceIdeal : Cert.ReferenceIdeal.Facts] [hPre__scales_nonneg : Cert.Pre__scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal__scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre__scales_nonneg [hKernelIdeal : Cert.KernelIdeal.Facts] [hReferenceIdeal : Cert.ReferenceIdeal.Facts] [hPre__scales_nonneg : Cert.Pre__scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal__scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)) →
    ∃ (v0 : (c : Dev Cert.KernelQkvIdeal.nD) → Buf (Elt Ideal) ((c.tc : Thread Cert.KernelQkvIdeal.nD Cert.KernelQkvIdeal.τ).loc Cert.KernelQkvIdeal.main_v47_0)) (v1 : (c : Dev Cert.KernelQkvIdeal.nD) → Buf (Elt Ideal) ((c.tc : Thread Cert.KernelQkvIdeal.nD Cert.KernelQkvIdeal.τ).loc Cert.KernelQkvIdeal.main_v47_1)) (v2 : (c : Dev Cert.KernelQkvIdeal.nD) → Buf (Elt Ideal) ((c.tc : Thread Cert.KernelQkvIdeal.nD Cert.KernelQkvIdeal.τ).loc Cert.KernelQkvIdeal.main_v47_2)) (v3 : (c : Dev Cert.KernelQkvIdeal.nD) → Buf (Elt Ideal) ((c.tc : Thread Cert.KernelQkvIdeal.nD Cert.KernelQkvIdeal.τ).loc Cert.KernelQkvIdeal.main_v47_3)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v47_0) = v0 c
          ∧ r.2.mem ((c.tc : Thread Cert.KernelQkvIdeal.nD Cert.KernelQkvIdeal.τ).loc Cert.KernelQkvIdeal.main_v47_1) = v1 c
          ∧ r.2.mem ((c.tc : Thread Cert.KernelQkvIdeal.nD Cert.KernelQkvIdeal.τ).loc Cert.KernelQkvIdeal.main_v47_2) = v2 c
          ∧ r.2.mem ((c.tc : Thread Cert.KernelQkvIdeal.nD Cert.KernelQkvIdeal.τ).loc Cert.KernelQkvIdeal.main_v47_3) = v3 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v87_0) = v0 c
          ∧ r.2.mem ((c.tc : Thread Cert.ReferenceQkvIdeal.nD Cert.ReferenceQkvIdeal.τ).loc Cert.ReferenceQkvIdeal.main_v87_1) = v1 c
          ∧ r.2.mem ((c.tc : Thread Cert.ReferenceQkvIdeal.nD Cert.ReferenceQkvIdeal.τ).loc Cert.ReferenceQkvIdeal.main_v87_2) = v2 c
          ∧ r.2.mem ((c.tc : Thread Cert.ReferenceQkvIdeal.nD Cert.ReferenceQkvIdeal.τ).loc Cert.ReferenceQkvIdeal.main_v87_3) = v3 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)) →
    ∃ (v0 : (c : Dev Cert.KernelVIdeal.nD) → Buf (Elt Ideal) ((c.tc : Thread Cert.KernelVIdeal.nD Cert.KernelVIdeal.τ).loc Cert.KernelVIdeal.main_v2)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v2) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v0) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1))

def Claim : Prop :=
  ∃ (hKernel : Cert.Kernel.Facts) (hKernelIdeal : Cert.KernelIdeal.Facts) (hReferenceIdeal : Cert.ReferenceIdeal.Facts) (hKernelQkv : Cert.KernelQkv.Facts) (hKernelQkvIdeal : Cert.KernelQkvIdeal.Facts) (hReferenceQkvIdeal : Cert.ReferenceQkvIdeal.Facts) (hKernelV : Cert.KernelV.Facts) (hKernelVIdeal : Cert.KernelVIdeal.Facts) (hReferenceVIdeal : Cert.ReferenceVIdeal.Facts) (hPre__scales_nonneg : Cert.Pre__scales_nonneg.Facts),
    quiescent_Kernel (hKernel := hKernel)
    ∧ quiescent_KernelIdeal (hKernelIdeal := hKernelIdeal)
    ∧ quiescent_KernelIdeal_pre__scales_nonneg (hKernelIdeal := hKernelIdeal) (hPre__scales_nonneg := hPre__scales_nonneg)
    ∧ quiescent_ReferenceIdeal (hReferenceIdeal := hReferenceIdeal)
    ∧ quiescent_ReferenceIdeal_pre__scales_nonneg (hReferenceIdeal := hReferenceIdeal) (hPre__scales_nonneg := hPre__scales_nonneg)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelV (hKernelV := hKernelV)
    ∧ quiescent_KernelVIdeal (hKernelVIdeal := hKernelVIdeal)
    ∧ quiescent_ReferenceVIdeal (hReferenceVIdeal := hReferenceVIdeal)
    ∧ preserves_Kernel_KernelIdeal
    ∧ algebraic_KernelIdeal_ReferenceIdeal_pre__scales_nonneg (hKernelIdeal := hKernelIdeal) (hReferenceIdeal := hReferenceIdeal) (hPre__scales_nonneg := hPre__scales_nonneg)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelV_KernelVIdeal
    ∧ algebraic_KernelVIdeal_ReferenceVIdeal (hKernelVIdeal := hKernelVIdeal) (hReferenceVIdeal := hReferenceVIdeal)
-- ==== Pre__scales_nonneg.lean ====
abbrev S32x29952x128 : Shape := ⟨3, ![32, 29952, 128]⟩
abbrev S32x1x29952 : Shape := ⟨3, ![32, 1, 29952]⟩
abbrev S32x234x128 : Shape := ⟨3, ![32, 234, 128]⟩
abbrev S32x1x1 : Shape := ⟨3, ![32, 1, 1]⟩
abbrev S32x128x29952 : Shape := ⟨3, ![32, 128, 29952]⟩
abbrev S_ : Shape := ⟨0, ![]⟩

class Facts : Prop where
  bcast_S_S32x1x29952 : S_.BroadcastsInDim S32x1x29952 (![] : Fin 0 → Fin S32x1x29952.rank)
  reducesTo_S32x1x29952_S_d0_1_2 : S32x1x29952.ReducesTo [0, 1, 2] S_
  h_S_ : 0 < S_.numel

variable [Facts]

def fn {F : FTy → Type} [FloatOps F] (main_arg0 : FVec F S32x29952x128 .bf16) (main_arg1 : FVec F S32x1x29952 .f32) (main_arg2 : FVec F S32x234x128 .f32) (main_arg3 : FVec F S32x1x1 .f32) (main_arg4 : FVec F S32x29952x128 .bf16) (main_arg5 : FVec F S32x128x29952 .fp8e4m3) : IVec S_ 1 :=
  let main_cst : FVec F S_ .f32 := constant S_ .f32 0x00000000#32
  let main_v0 : FVec F S32x1x29952 .f32 := broadcastInDim S32x1x29952 ![] bcast_S_S32x1x29952 main_cst
  let main_v1 : IVec S32x1x29952 1 := cmpf .oge main_arg1 main_v0
  let main_c : IVec S_ 1 := constantI S_ 1 1#1
  let main_v2 : IVec S_ 1 := (fun x v => Host.reduce IntOp.andi x v reducesTo_S32x1x29952_S_d0_1_2 h_S_) main_v1 main_c
  main_v2
-- ==== Kernel.lean ====
abbrev S32x29952x128 : Shape := ⟨3, ![32, 29952, 128]⟩
abbrev S32x1x29952 : Shape := ⟨3, ![32, 1, 29952]⟩
abbrev S32x234x128 : Shape := ⟨3, ![32, 234, 128]⟩
abbrev S32x1x1 : Shape := ⟨3, ![32, 1, 1]⟩
abbrev S32x128x29952 : Shape := ⟨3, ![32, 128, 29952]⟩
abbrev S2x29952x2048 : Shape := ⟨3, ![2, 29952, 2048]⟩
abbrev S1x256x128 : Shape := ⟨3, ![1, 256, 128]⟩
abbrev S1x1x256 : Shape := ⟨3, ![1, 1, 256]⟩
abbrev S1x234x128 : Shape := ⟨3, ![1, 234, 128]⟩
abbrev S1x1x1 : Shape := ⟨3, ![1, 1, 1]⟩
abbrev S29952x256 : Shape := ⟨2, ![29952, 256]⟩
abbrev S29952x128 : Shape := ⟨2, ![29952, 128]⟩
abbrev S128x29952 : Shape := ⟨2, ![128, 29952]⟩
abbrev S8x256 : Shape := ⟨2, ![8, 256]⟩
abbrev S128x256 : Shape := ⟨2, ![128, 256]⟩
abbrev S2 : Shape := ⟨1, ![2]⟩
abbrev S1 : Shape := ⟨1, ![1]⟩
abbrev S_ : Shape := ⟨0, ![]⟩
abbrev S1x29952x128 : Shape := ⟨3, ![1, 29952, 128]⟩
abbrev S1x128x29952 : Shape := ⟨3, ![1, 128, 29952]⟩
abbrev S1x1x128 : Shape := ⟨3, ![1, 1, 128]⟩
abbrev S1x128 : Shape := ⟨2, ![1, 128]⟩
abbrev S128x128 : Shape := ⟨2, ![128, 128]⟩
abbrev S1x256 : Shape := ⟨2, ![1, 256]⟩
abbrev S256 : Shape := ⟨1, ![256]⟩
abbrev S256x128 : Shape := ⟨2, ![256, 128]⟩
abbrev S1152x128 : Shape := ⟨2, ![1152, 128]⟩
abbrev S1152x256 : Shape := ⟨2, ![1152, 256]⟩
abbrev S16x8x256 : Shape := ⟨3, ![16, 8, 256]⟩

abbrev nBuf : Space → Nat
  | .hbm => 7
  | .vmem => 14
  | .smem => 2
  | _ => 0

abbrev bufTy : (tb : Table) → Fin (tcTables nBuf tb) → BufTy
  | .hbm, ⟨0, _⟩ => ⟨S32x29952x128, .bf16⟩
  | .hbm, ⟨1, _⟩ => ⟨S32x1x29952, .f32⟩
  | .hbm, ⟨2, _⟩ => ⟨S32x234x128, .f32⟩
  | .hbm, ⟨3, _⟩ => ⟨S32x1x1, .f32⟩
  | .hbm, ⟨4, _⟩ => ⟨S32x29952x128, .bf16⟩
  | .hbm, ⟨5, _⟩ => ⟨S32x128x29952, .fp8e4m3⟩
  | .hbm, ⟨6, _⟩ => ⟨S2x29952x2048, .bf16⟩
  | .local _ .vmem, ⟨0, _⟩ => ⟨S1x256x128, .bf16⟩
  | .local _ .vmem, ⟨1, _⟩ => ⟨S1x256x128, .bf16⟩
  | .local _ .vmem, ⟨2, _⟩ => ⟨S1x1x256, .f32⟩
  | .local _ .vmem, ⟨3, _⟩ => ⟨S1x1x256, .f32⟩
  | .local _ .vmem, ⟨4, _⟩ => ⟨S1x234x128, .f32⟩
  | .local _ .vmem, ⟨5, _⟩ => ⟨S1x234x128, .f32⟩
  | .local _ .vmem, ⟨6, _⟩ => ⟨S1x256x128, .bf16⟩
  | .local _ .vmem, ⟨7, _⟩ => ⟨S1x256x128, .bf16⟩
  | .local _ .vmem, ⟨8, _⟩ => ⟨S29952x256, .f32⟩
  | .local _ .vmem, ⟨9, _⟩ => ⟨S29952x128, .bf16⟩
  | .local _ .vmem, ⟨10, _⟩ => ⟨S128x29952, .fp8e4m3⟩
  | .local _ .vmem, ⟨11, _⟩ => ⟨S29952x128, .f32⟩
  | .local _ .vmem, ⟨12, _⟩ => ⟨S8x256, .f32⟩
  | .local _ .vmem, ⟨13, _⟩ => ⟨S128x256, .f32⟩
  | .local _ .smem, ⟨0, _⟩ => ⟨S1x1x1, .f32⟩
  | .local _ .smem, ⟨1, _⟩ => ⟨S1x1x1, .f32⟩
  | _, _ => ⟨S32x29952x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg3_0 : Ref sig .tc := ⟨.smem, 0, rfl⟩
abbrev cc0_stg3_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 118], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_32 : BitVec 32 := 0#32
  let c0_i32_33 : BitVec 32 := 0#32
  ![arg0.toNat, 0, 0]
def k0_off2 (i : grid0.Coords) : Fin 3 → Nat :=
  let arg0 : BitVec 32 := BitVec.ofNat 32 (i 0).val
  let c0_i32_35 : BitVec 32 := 0#32
  let c0_i32_36 : BitVec 32 := 0#32
  ![arg0.toNat, 0, 0]
@[reducible] def k0_t1_loop : Scf.Loop 32 :=
  let c0_i32_37 : BitVec 32 := 0#32
  let c234_i32 : BitVec 32 := 234#32
  let v53 : BitVec 32 := Scalar.addi c0_i32_37 c234_i32
  let c1_i32_38 : BitVec 32 := 1#32
  ⟨c0_i32_37, v53, c1_i32_38⟩
def k0_off3 (k0_t1 : Fin k0_t1_loop.trips) : Fin 3 → Nat :=
  let c0_49 : Index := 0#32
  let c0_i32_37 : BitVec 32 := 0#32
  let c1_i32_38 : BitVec 32 := 1#32
  let arg16 : BitVec 32 := Scf.iv c0_i32_37 c1_i32_38 k0_t1
  let v66 : Index := Scalar.indexCast arg16
  let c0_50 : Index := 0#32
  ![0, v66.toNat, 0]
def k0_mult1 (k0_t1 : Fin k0_t1_loop.trips) : BitVec 32 :=
  let c0_i32_37 : BitVec 32 := 0#32
  let c1_i32_38 : BitVec 32 := 1#32
  let arg16 : BitVec 32 := Scf.iv c0_i32_37 c1_i32_38 k0_t1
  let c128_i32 : BitVec 32 := 128#32
  let v72 : BitVec 32 := Scalar.muli arg16 c128_i32
  v72
def k0_off4 (k0_t1 : Fin k0_t1_loop.trips) : Fin 2 → Nat :=
  let c0_i32_37 : BitVec 32 := 0#32
  let c1_i32_38 : BitVec 32 := 1#32
  let arg16 : BitVec 32 := Scf.iv c0_i32_37 c1_i32_38 k0_t1
  let c128_i32 : BitVec 32 := 128#32
  let v72 : BitVec 32 := Scalar.muli arg16 c128_i32
  let v73 : BitVec 32 := v72
  let v74 : Index := Scalar.indexCast v73
  let c0_51 : Index := 0#32
  ![v74.toNat, 0]
@[reducible] def k0_t2_loop : Scf.Loop 32 :=
  let c0_i32_18 : BitVec 32 := 0#32
  let c26_i32 : BitVec 32 := 26#32
  let v27 : BitVec 32 := Scalar.addi c0_i32_18 c26_i32
  let c1_i32 : BitVec 32 := 1#32
  ⟨c0_i32_18, v27, c1_i32⟩
def k0_mult2 (k0_t2 : Fin k0_t2_loop.trips) : BitVec 32 :=
  let c0_i32_18 : BitVec 32 := 0#32
  let c1_i32 : BitVec 32 := 1#32
  let arg16 : BitVec 32 := Scf.iv c0_i32_18 c1_i32 k0_t2
  let c1152_i32 : BitVec 32 := 1152#32
  let v45 : BitVec 32 := Scalar.muli arg16 c1152_i32
  v45
def k0_off5 (k0_t2 : Fin k0_t2_loop.trips) : Fin 2 → Nat :=
  let c0_i32_18 : BitVec 32 := 0#32
  let c1_i32 : BitVec 32 := 1#32
  let arg16 : BitVec 32 := Scf.iv c0_i32_18 c1_i32 k0_t2
  let c1152_i32 : BitVec 32 := 1152#32
  let v45 : BitVec 32 := Scalar.muli arg16 c1152_i32
  let v46 : BitVec 32 := v45
  let v47 : Index := Scalar.indexCast v46
  let c0_31 : Index := 0#32
  ![v47.toNat, 0]
def k0_off6 (k0_t2 : Fin k0_t2_loop.trips) (c0_i32_33 : BitVec 32) : Fin 2 → Nat :=
  let c0_i32_18 : BitVec 32 := 0#32
  let c1_i32 : BitVec 32 := 1#32
  let arg16 : BitVec 32 := Scf.iv c0_i32_18 c1_i32 k0_t2
  let c1152_i32 : BitVec 32 := 1152#32
  let v45 : BitVec 32 := Scalar.muli arg16 c1152_i32
  let v46 : BitVec 32 := v45
  let v50 : BitVec 32 := Scalar.addi v46 c0_i32_33
  let v51 : Index := Scalar.indexCast v50
  let c0_34 : Index := 0#32
  ![v51.toNat, 0]
def k0_off7 (k0_t2 : Fin k0_t2_loop.trips) (c0_i32_38 : BitVec 32) : Fin 2 → Nat :=
  let c0_39 : Index := 0#32
  let c0_i32_18 : BitVec 32 := 0#32
  let c1_i32 : BitVec 32 := 1#32
  let arg16 : BitVec 32 := Scf.iv c0_i32_18 c1_i32 k0_t2
  let c1152_i32 : BitVec 32 := 1152#32
  let v45 : BitVec 32 := Scalar.muli arg16 c1152_i32
  let v46 : BitVec 32 := v45
  let v66 : BitVec 32 := Scalar.addi v46 c0_i32_38
  let v67 : Index := Scalar.indexCast v66
  ![0, v67.toNat]
def k0_off8 (k0_t2 : Fin k0_t2_loop.trips) (c0_i32_33 : BitVec 32) : Fin 2 → Nat :=
  let c0_i32_18 : BitVec 32 := 0#32
  let c1_i32 : BitVec 32 := 1#32
  let arg16 : BitVec 32 := Scf.iv c0_i32_18 c1_i32 k0_t2
  let c1152_i32 : BitVec 32 := 1152#32
  let v45 : BitVec 32 := Scalar.muli arg16 c1152_i32
  let v46 : BitVec 32 := v45
  let v50 : BitVec 32 := Scalar.addi v46 c0_i32_33
  let v70 : Index := Scalar.indexCast v50
  let c0_41 : Index := 0#32
  ![v70.toNat, 0]
def cc0_transform_0 (i : grid0.Coords) : Fin 3 → Nat :=
  let arg0 : BitVec 32 := BitVec.ofNat 32 (i 0).val
  let arg1 : BitVec 32 := BitVec.ofNat 32 (i 1).val
  let c116_i32 : BitVec 32 := 116#32
  let v0 : BitVec 32 := Scalar.minsi arg1 c116_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi arg1 c1_i32_4
  let c0_i32_5 : BitVec 32 := 0#32
  let v18 : BitVec 32 := Scalar.maxsi v17 c0_i32_5
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v16.toNat, v18.toNat, v28.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x234x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .smem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S32x29952x128 : Shape := ⟨3, ![32, 29952, 128]⟩
abbrev S32x1x29952 : Shape := ⟨3, ![32, 1, 29952]⟩
abbrev S32x234x128 : Shape := ⟨3, ![32, 234, 128]⟩
abbrev S32x1x1 : Shape := ⟨3, ![32, 1, 1]⟩
abbrev S32x128x29952 : Shape := ⟨3, ![32, 128, 29952]⟩
abbrev S2x29952x2048 : Shape := ⟨3, ![2, 29952, 2048]⟩
abbrev S32x29952x29952 : Shape := ⟨3, ![32, 29952, 29952]⟩
abbrev S32x29952x1 : Shape := ⟨3, ![32, 29952, 1]⟩
abbrev S32x29952 : Shape := ⟨2, ![32, 29952]⟩
abbrev S2x16x29952x128 : Shape := ⟨4, ![2, 16, 29952, 128]⟩
abbrev S2x29952x16x128 : Shape := ⟨4, ![2, 29952, 16, 128]⟩

abbrev nBuf : Space → Nat
  | .hbm => 7
  | .vmem => 7
  | .smem => 0
  | _ => 0

abbrev bufTy : (tb : Table) → Fin (tcTables nBuf tb) → BufTy
  | .hbm, ⟨0, _⟩ => ⟨S32x29952x128, .bf16⟩
  | .hbm, ⟨1, _⟩ => ⟨S32x1x29952, .f32⟩
  | .hbm, ⟨2, _⟩ => ⟨S32x234x128, .f32⟩
  | .hbm, ⟨3, _⟩ => ⟨S32x1x1, .f32⟩
  | .hbm, ⟨4, _⟩ => ⟨S32x29952x128, .bf16⟩
  | .hbm, ⟨5, _⟩ => ⟨S32x128x29952, .fp8e4m3⟩
  | .hbm, ⟨6, _⟩ => ⟨S2x29952x2048, .bf16⟩
  | .local _ .vmem, ⟨0, _⟩ => ⟨S32x29952x128, .bf16⟩
  | .local _ .vmem, ⟨1, _⟩ => ⟨S32x1x29952, .f32⟩
  | .local _ .vmem, ⟨2, _⟩ => ⟨S32x234x128, .f32⟩
  | .local _ .vmem, ⟨3, _⟩ => ⟨S32x1x1, .f32⟩
  | .local _ .vmem, ⟨4, _⟩ => ⟨S32x29952x128, .bf16⟩
  | .local _ .vmem, ⟨5, _⟩ => ⟨S32x128x29952, .fp8e4m3⟩
  | .local _ .vmem, ⟨6, _⟩ => ⟨S2x29952x2048, .bf16⟩
  | _, _ => ⟨S32x29952x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "scale" => some (((Real.sqrt 128)⁻¹ : ℝ) : EReal)
  | _ => none

abbrev grid0 : Pipeline.Grid := .none

abbrev stage0_0 : Fin 1 → Memref sig .tc .vmem S32x29952x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x29952 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x234x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x29952x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128x29952 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x29952x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelQkv.lean ====
abbrev S2x29952x16x128 : Shape := ⟨4, ![2, 29952, 16, 128]⟩
abbrev S64 : Shape := ⟨1, ![64]⟩
abbrev S128x128 : Shape := ⟨2, ![128, 128]⟩
abbrev S29952 : Shape := ⟨1, ![29952]⟩
abbrev S_ : Shape := ⟨0, ![]⟩
abbrev S29952x1 : Shape := ⟨2, ![29952, 1]⟩
abbrev S29952x3 : Shape := ⟨2, ![29952, 3]⟩
abbrev S22 : Shape := ⟨1, ![22]⟩
abbrev S21 : Shape := ⟨1, ![21]⟩
abbrev S64x1 : Shape := ⟨2, ![64, 1]⟩
abbrev S29952x64 : Shape := ⟨2, ![29952, 64]⟩
abbrev S1x64 : Shape := ⟨2, ![1, 64]⟩
abbrev S29952x64x2 : Shape := ⟨3, ![29952, 64, 2]⟩
abbrev S29952x128 : Shape := ⟨2, ![29952, 128]⟩
abbrev S2x29952x16 : Shape := ⟨3, ![2, 29952, 16]⟩
abbrev S2x16x128 : Shape := ⟨3, ![2, 16, 128]⟩
abbrev S1x128x16x128 : Shape := ⟨4, ![1, 128, 16, 128]⟩
abbrev S1x128x16 : Shape := ⟨3, ![1, 128, 16]⟩
abbrev S1x16x128 : Shape := ⟨3, ![1, 16, 128]⟩
abbrev S128x16x128 : Shape := ⟨3, ![128, 16, 128]⟩
abbrev S2048x128 : Shape := ⟨2, ![2048, 128]⟩
abbrev S128x1x128 : Shape := ⟨3, ![128, 1, 128]⟩
abbrev S128x16 : Shape := ⟨2, ![128, 16]⟩
abbrev S128x16x1 : Shape := ⟨3, ![128, 16, 1]⟩
abbrev S16x128 : Shape := ⟨2, ![16, 128]⟩
abbrev S16 : Shape := ⟨1, ![16]⟩
abbrev S16x1 : Shape := ⟨2, ![16, 1]⟩

abbrev nBuf : Space → Nat
  | .hbm => 145
  | .vmem => 21
  | .smem => 0
  | _ => 0

abbrev hbmTy0_0 (i : Nat) : BufTy := match i % 128 with
  | 0 => ⟨S2x29952x16x128, .bf16⟩
  | 1 => ⟨S2x29952x16x128, .bf16⟩
  | 2 => ⟨S2x29952x16x128, .bf16⟩
  | 3 => ⟨S64, .i32⟩
  | 4 => ⟨S64, .i1⟩
  | 5 => ⟨S128x128, .bf16⟩
  | 6 => ⟨S29952, .i32⟩
  | 7 => ⟨S_, .i32⟩
  | 8 => ⟨S_, .i32⟩
  | 9 => ⟨S29952, .i32⟩
  | 10 => ⟨S29952, .i32⟩
  | 11 => ⟨S29952, .i32⟩
  | 12 => ⟨S_, .i32⟩
  | 13 => ⟨S29952, .i32⟩
  | 14 => ⟨S29952, .i1⟩
  | 15 => ⟨S29952, .i32⟩
  | 16 => ⟨S29952, .i32⟩
  | 17 => ⟨S_, .i32⟩
  | 18 => ⟨S29952, .i32⟩
  | 19 => ⟨S29952, .i1⟩
  | 20 => ⟨S29952, .i1⟩
  | 21 => ⟨S_, .i32⟩
  | 22 => ⟨S29952, .i32⟩
  | 23 => ⟨S29952, .i32⟩
  | 24 => ⟨S29952, .i32⟩
  | 25 => ⟨S_, .i32⟩
  | 26 => ⟨S_, .i32⟩
  | 27 => ⟨S29952, .i32⟩
  | 28 => ⟨S29952, .i32⟩
  | 29 => ⟨S29952, .i32⟩
  | 30 => ⟨S_, .i32⟩
  | 31 => ⟨S29952, .i32⟩
  | 32 => ⟨S29952, .i1⟩
  | 33 => ⟨S29952, .i32⟩
  | 34 => ⟨S29952, .i32⟩
  | 35 => ⟨S_, .i32⟩
  | 36 => ⟨S29952, .i32⟩
  | 37 => ⟨S29952, .i1⟩
  | 38 => ⟨S29952, .i1⟩
  | 39 => ⟨S_, .i32⟩
  | 40 => ⟨S29952, .i32⟩
  | 41 => ⟨S29952, .i32⟩
  | 42 => ⟨S29952, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S29952, .i32⟩
  | 50 => ⟨S29952, .i32⟩
  | 51 => ⟨S_, .i32⟩
  | 52 => ⟨S29952, .i32⟩
  | 53 => ⟨S29952, .i1⟩
  | 54 => ⟨S_, .i32⟩
  | 55 => ⟨S29952, .i32⟩
  | 56 => ⟨S29952, .i1⟩
  | 57 => ⟨S_, .i32⟩
  | 58 => ⟨S_, .i1⟩
  | 59 => ⟨S29952, .i1⟩
  | 60 => ⟨S29952, .i1⟩
  | 61 => ⟨S29952, .i1⟩
  | 62 => ⟨S29952, .i32⟩
  | 63 => ⟨S29952, .i32⟩
  | 64 => ⟨S29952, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S29952, .i32⟩
  | 72 => ⟨S29952, .i32⟩
  | 73 => ⟨S_, .i32⟩
  | 74 => ⟨S29952, .i32⟩
  | 75 => ⟨S29952, .i1⟩
  | 76 => ⟨S_, .i32⟩
  | 77 => ⟨S29952, .i32⟩
  | 78 => ⟨S29952, .i1⟩
  | 79 => ⟨S_, .i32⟩
  | 80 => ⟨S_, .i1⟩
  | 81 => ⟨S29952, .i1⟩
  | 82 => ⟨S29952, .i1⟩
  | 83 => ⟨S29952, .i1⟩
  | 84 => ⟨S29952, .i32⟩
  | 85 => ⟨S29952, .i32⟩
  | 86 => ⟨S29952, .i32⟩
  | 87 => ⟨S29952x1, .i32⟩
  | 88 => ⟨S29952x1, .i32⟩
  | 89 => ⟨S29952x1, .i32⟩
  | 90 => ⟨S29952x3, .i32⟩
  | 91 => ⟨S29952x3, .f32⟩
  | 92 => ⟨S22, .f32⟩
  | 93 => ⟨S_, .f32⟩
  | 94 => ⟨S22, .f32⟩
  | 95 => ⟨S22, .f32⟩
  | 96 => ⟨S_, .f32⟩
  | 97 => ⟨S22, .f32⟩
  | 98 => ⟨S22, .f32⟩
  | 99 => ⟨S_, .f32⟩
  | 100 => ⟨S22, .f32⟩
  | 101 => ⟨S22, .f32⟩
  | 102 => ⟨S_, .f32⟩
  | 103 => ⟨S22, .f32⟩
  | 104 => ⟨S22, .f32⟩
  | 105 => ⟨S_, .f32⟩
  | 106 => ⟨S22, .f32⟩
  | 107 => ⟨S22, .f32⟩
  | 108 => ⟨S21, .f32⟩
  | 109 => ⟨S_, .f32⟩
  | 110 => ⟨S21, .f32⟩
  | 111 => ⟨S21, .f32⟩
  | 112 => ⟨S_, .f32⟩
  | 113 => ⟨S21, .f32⟩
  | 114 => ⟨S21, .f32⟩
  | 115 => ⟨S_, .f32⟩
  | 116 => ⟨S21, .f32⟩
  | 117 => ⟨S21, .f32⟩
  | 118 => ⟨S_, .f32⟩
  | 119 => ⟨S21, .f32⟩
  | 120 => ⟨S21, .f32⟩
  | 121 => ⟨S_, .f32⟩
  | 122 => ⟨S21, .f32⟩
  | 123 => ⟨S21, .f32⟩
  | 124 => ⟨S64, .f32⟩
  | 125 => ⟨S_, .i32⟩
  | 126 => ⟨S64, .i32⟩
  | 127 => ⟨S64, .i32⟩
  | _ => ⟨S2x29952x16x128, .bf16⟩

abbrev hbmTy0_1 (i : Nat) : BufTy := match i % 128 with
  | 0 => ⟨S64, .i32⟩
  | 1 => ⟨S64x1, .i32⟩
  | 2 => ⟨S29952x64, .f32⟩
  | 3 => ⟨S1x64, .f32⟩
  | 4 => ⟨S29952x64, .f32⟩
  | 5 => ⟨S29952x64, .f32⟩
  | 6 => ⟨S29952x64, .f32⟩
  | 7 => ⟨S29952x64x2, .f32⟩
  | 8 => ⟨S29952x128, .f32⟩
  | 9 => ⟨S29952x64, .f32⟩
  | 10 => ⟨S29952x64x2, .f32⟩
  | 11 => ⟨S29952x128, .f32⟩
  | 12 => ⟨S2x29952x16x128, .i8⟩
  | 13 => ⟨S2x29952x16, .f32⟩
  | 14 => ⟨S2x29952x16x128, .i8⟩
  | 15 => ⟨S2x29952x16, .f32⟩
  | 16 => ⟨S2x16x128, .f32⟩
  | _ => ⟨S2x29952x16x128, .bf16⟩

abbrev hbmTy (i : Nat) : BufTy := match i / 128 with
  | 0 => hbmTy0_0 i
  | 1 => hbmTy0_1 i
  | _ => ⟨S2x29952x16x128, .bf16⟩

abbrev bufTy : (tb : Table) → Fin (tcTables nBuf tb) → BufTy
  | .hbm, ⟨i, _⟩ => hbmTy i
  | .local _ .vmem, ⟨0, _⟩ => ⟨S1x128x16x128, .bf16⟩
  | .local _ .vmem, ⟨1, _⟩ => ⟨S1x128x16x128, .bf16⟩
  | .local _ .vmem, ⟨2, _⟩ => ⟨S1x128x16x128, .bf16⟩
  | .local _ .vmem, ⟨3, _⟩ => ⟨S1x128x16x128, .bf16⟩
  | .local _ .vmem, ⟨4, _⟩ => ⟨S1x128x16x128, .bf16⟩
  | .local _ .vmem, ⟨5, _⟩ => ⟨S1x128x16x128, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .bf16⟩
  | .local _ .vmem, ⟨11, _⟩ => ⟨S1x128x16x128, .i8⟩
  | .local _ .vmem, ⟨12, _⟩ => ⟨S1x128x16x128, .i8⟩
  | .local _ .vmem, ⟨13, _⟩ => ⟨S1x128x16, .f32⟩
  | .local _ .vmem, ⟨14, _⟩ => ⟨S1x128x16, .f32⟩
  | .local _ .vmem, ⟨15, _⟩ => ⟨S1x128x16x128, .i8⟩
  | .local _ .vmem, ⟨16, _⟩ => ⟨S1x128x16x128, .i8⟩
  | .local _ .vmem, ⟨17, _⟩ => ⟨S1x128x16, .f32⟩
  | .local _ .vmem, ⟨18, _⟩ => ⟨S1x128x16, .f32⟩
  | .local _ .vmem, ⟨19, _⟩ => ⟨S1x16x128, .f32⟩
  | .local _ .vmem, ⟨20, _⟩ => ⟨S1x16x128, .f32⟩
  | _, _ => ⟨S2x29952x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v2 : Ref sig .tc := ⟨.hbm, 42, rfl⟩
abbrev main_c_3 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_1 : Ref sig .tc := ⟨.hbm, 51, rfl⟩
abbrev main_call2_v5 : Ref sig .tc := ⟨.hbm, 52, rfl⟩
abbrev main_call2_v6 : Ref sig .tc := ⟨.hbm, 53, rfl⟩
abbrev main_call2_c_2 : Ref sig .tc := ⟨.hbm, 54, rfl⟩
abbrev main_call2_v7 : Ref sig .tc := ⟨.hbm, 55, rfl⟩
abbrev main_call2_v8 : Ref sig .tc := ⟨.hbm, 56, rfl⟩
abbrev main_call2_c_3 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_v3 : Ref sig .tc := ⟨.hbm, 64, rfl⟩
abbrev main_c_4 : Ref sig .tc := ⟨.hbm, 65, rfl⟩
abbrev main_call3_v0 : Ref sig .tc := ⟨.hbm, 66, rfl⟩
abbrev main_call3_c : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_c_1 : Ref sig .tc := ⟨.hbm, 73, rfl⟩
abbrev main_call3_v5 : Ref sig .tc := ⟨.hbm, 74, rfl⟩
abbrev main_call3_v6 : Ref sig .tc := ⟨.hbm, 75, rfl⟩
abbrev main_call3_c_2 : Ref sig .tc := ⟨.hbm, 76, rfl⟩
abbrev main_call3_v7 : Ref sig .tc := ⟨.hbm, 77, rfl⟩
abbrev main_call3_v8 : Ref sig .tc := ⟨.hbm, 78, rfl⟩
abbrev main_call3_c_3 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_v4 : Ref sig .tc := ⟨.hbm, 86, rfl⟩
abbrev main_v5 : Ref sig .tc := ⟨.hbm, 87, rfl⟩
abbrev main_v6 : Ref sig .tc := ⟨.hbm, 88, rfl⟩
abbrev main_v7 : Ref sig .tc := ⟨.hbm, 89, rfl⟩
abbrev main_v8 : Ref sig .tc := ⟨.hbm, 90, rfl⟩
abbrev main_v9 : Ref sig .tc := ⟨.hbm, 91, rfl⟩
abbrev main_v10 : Ref sig .tc := ⟨.hbm, 92, rfl⟩
abbrev main_cst_5 : Ref sig .tc := ⟨.hbm, 93, rfl⟩
abbrev main_v11 : Ref sig .tc := ⟨.hbm, 94, rfl⟩
abbrev main_v12 : Ref sig .tc := ⟨.hbm, 95, rfl⟩
abbrev main_cst_6 : Ref sig .tc := ⟨.hbm, 96, rfl⟩
abbrev main_v13 : Ref sig .tc := ⟨.hbm, 97, rfl⟩
abbrev main_v14 : Ref sig .tc := ⟨.hbm, 98, rfl⟩
abbrev main_cst_7 : Ref sig .tc := ⟨.hbm, 99, rfl⟩
abbrev main_v15 : Ref sig .tc := ⟨.hbm, 100, rfl⟩
abbrev main_v16 : Ref sig .tc := ⟨.hbm, 101, rfl⟩
abbrev main_cst_8 : Ref sig .tc := ⟨.hbm, 102, rfl⟩
abbrev main_v17 : Ref sig .tc := ⟨.hbm, 103, rfl⟩
abbrev main_v18 : Ref sig .tc := ⟨.hbm, 104, rfl⟩
abbrev main_cst_9 : Ref sig .tc := ⟨.hbm, 105, rfl⟩
abbrev main_v19 : Ref sig .tc := ⟨.hbm, 106, rfl⟩
abbrev main_v20 : Ref sig .tc := ⟨.hbm, 107, rfl⟩
abbrev main_v21 : Ref sig .tc := ⟨.hbm, 108, rfl⟩
abbrev main_cst_10 : Ref sig .tc := ⟨.hbm, 109, rfl⟩
abbrev main_v22 : Ref sig .tc := ⟨.hbm, 110, rfl⟩
abbrev main_v23 : Ref sig .tc := ⟨.hbm, 111, rfl⟩
abbrev main_cst_11 : Ref sig .tc := ⟨.hbm, 112, rfl⟩
abbrev main_v24 : Ref sig .tc := ⟨.hbm, 113, rfl⟩
abbrev main_v25 : Ref sig .tc := ⟨.hbm, 114, rfl⟩
abbrev main_cst_12 : Ref sig .tc := ⟨.hbm, 115, rfl⟩
abbrev main_v26 : Ref sig .tc := ⟨.hbm, 116, rfl⟩
abbrev main_v27 : Ref sig .tc := ⟨.hbm, 117, rfl⟩
abbrev main_cst_13 : Ref sig .tc := ⟨.hbm, 118, rfl⟩
abbrev main_v28 : Ref sig .tc := ⟨.hbm, 119, rfl⟩
abbrev main_v29 : Ref sig .tc := ⟨.hbm, 120, rfl⟩
abbrev main_cst_14 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_c_15 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47_0 : Ref sig .tc := ⟨.hbm, 140, rfl⟩
abbrev main_v47_1 : Ref sig .tc := ⟨.hbm, 141, rfl⟩
abbrev main_v47_2 : Ref sig .tc := ⟨.hbm, 142, rfl⟩
abbrev main_v47_3 : Ref sig .tc := ⟨.hbm, 143, rfl⟩
abbrev main_v47_4 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 234], ![false, false]⟩

def k0_cond1 (i : grid0.Coords) : BitVec 1 :=
  let arg1 : BitVec 32 := BitVec.ofNat 32 (i 1).val
  let c0_i32 : BitVec 32 := 0#32
  let v84 : BitVec 1 := Scalar.cmpi .eq arg1 c0_i32
  let v85 : BitVec 32 := Scalar.extui v84
  let c0_i32_45 : BitVec 32 := 0#32
  let v86 : BitVec 1 := Scalar.cmpi .ne v85 c0_i32_45
  v86

def k0_cond2 (i : grid0.Coords) : BitVec 1 :=
  let arg1 : BitVec 32 := BitVec.ofNat 32 (i 1).val
  let c0_i32_46 : BitVec 32 := 0#32
  let v87 : BitVec 1 := Scalar.cmpi .ne arg1 c0_i32_46
  let v88 : BitVec 32 := Scalar.extui v87
  let c0_i32_47 : BitVec 32 := 0#32
  let v89 : BitVec 1 := Scalar.cmpi .ne v88 c0_i32_47
  v89

def k0_cond3 (i : grid0.Coords) : BitVec 1 :=
  let arg1 : BitVec 32 := BitVec.ofNat 32 (i 1).val
  let c233_i32 : BitVec 32 := 233#32
  let v90 : BitVec 1 := Scalar.cmpi .eq arg1 c233_i32
  let v91 : BitVec 32 := Scalar.extui v90
  let c0_i32_48 : BitVec 32 := 0#32
  let v92 : BitVec 1 := Scalar.cmpi .ne v91 c0_i32_48
  v92

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x16x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x16x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceQkvIdeal.lean ====
abbrev S2x29952x16x128 : Shape := ⟨4, ![2, 29952, 16, 128]⟩
abbrev S64 : Shape := ⟨1, ![64]⟩
abbrev S29952 : Shape := ⟨1, ![29952]⟩
abbrev S_ : Shape := ⟨0, ![]⟩
abbrev S29952x1 : Shape := ⟨2, ![29952, 1]⟩
abbrev S29952x3 : Shape := ⟨2, ![29952, 3]⟩
abbrev S22 : Shape := ⟨1, ![22]⟩
abbrev S21 : Shape := ⟨1, ![21]⟩
abbrev S64x1 : Shape := ⟨2, ![64, 1]⟩
abbrev S29952x64 : Shape := ⟨2, ![29952, 64]⟩
abbrev S1x64 : Shape := ⟨2, ![1, 64]⟩
abbrev S2x29952x16x64x2 : Shape := ⟨5, ![2, 29952, 16, 64, 2]⟩
abbrev S2x29952x16x64x1 : Shape := ⟨5, ![2, 29952, 16, 64, 1]⟩
abbrev S2x29952x16x64 : Shape := ⟨4, ![2, 29952, 16, 64]⟩
abbrev S1x29952x1x64 : Shape := ⟨4, ![1, 29952, 1, 64]⟩
abbrev S2x29952x16 : Shape := ⟨3, ![2, 29952, 16]⟩
abbrev S2x29952x16x1 : Shape := ⟨4, ![2, 29952, 16, 1]⟩

abbrev nBuf : Space → Nat
  | .hbm => 183
  | .vmem => 6
  | .smem => 0
  | _ => 0

abbrev hbmTy0_0 (i : Nat) : BufTy := match i % 128 with
  | 0 => ⟨S2x29952x16x128, .bf16⟩
  | 1 => ⟨S2x29952x16x128, .bf16⟩
  | 2 => ⟨S2x29952x16x128, .bf16⟩
  | 3 => ⟨S64, .i32⟩
  | 4 => ⟨S64, .i1⟩
  | 5 => ⟨S29952, .i32⟩
  | 6 => ⟨S_, .i32⟩
  | 7 => ⟨S_, .i32⟩
  | 8 => ⟨S29952, .i32⟩
  | 9 => ⟨S29952, .i32⟩
  | 10 => ⟨S29952, .i32⟩
  | 11 => ⟨S_, .i32⟩
  | 12 => ⟨S29952, .i32⟩
  | 13 => ⟨S29952, .i1⟩
  | 14 => ⟨S29952, .i32⟩
  | 15 => ⟨S29952, .i32⟩
  | 16 => ⟨S_, .i32⟩
  | 17 => ⟨S29952, .i32⟩
  | 18 => ⟨S29952, .i1⟩
  | 19 => ⟨S29952, .i1⟩
  | 20 => ⟨S_, .i32⟩
  | 21 => ⟨S29952, .i32⟩
  | 22 => ⟨S29952, .i32⟩
  | 23 => ⟨S29952, .i32⟩
  | 24 => ⟨S_, .i32⟩
  | 25 => ⟨S_, .i32⟩
  | 26 => ⟨S29952, .i32⟩
  | 27 => ⟨S29952, .i32⟩
  | 28 => ⟨S29952, .i32⟩
  | 29 => ⟨S_, .i32⟩
  | 30 => ⟨S29952, .i32⟩
  | 31 => ⟨S29952, .i1⟩
  | 32 => ⟨S29952, .i32⟩
  | 33 => ⟨S29952, .i32⟩
  | 34 => ⟨S_, .i32⟩
  | 35 => ⟨S29952, .i32⟩
  | 36 => ⟨S29952, .i1⟩
  | 37 => ⟨S29952, .i1⟩
  | 38 => ⟨S_, .i32⟩
  | 39 => ⟨S29952, .i32⟩
  | 40 => ⟨S29952, .i32⟩
  | 41 => ⟨S29952, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S29952, .i32⟩
  | 49 => ⟨S29952, .i32⟩
  | 50 => ⟨S_, .i32⟩
  | 51 => ⟨S29952, .i32⟩
  | 52 => ⟨S29952, .i1⟩
  | 53 => ⟨S_, .i32⟩
  | 54 => ⟨S29952, .i32⟩
  | 55 => ⟨S29952, .i1⟩
  | 56 => ⟨S_, .i32⟩
  | 57 => ⟨S_, .i1⟩
  | 58 => ⟨S29952, .i1⟩
  | 59 => ⟨S29952, .i1⟩
  | 60 => ⟨S29952, .i1⟩
  | 61 => ⟨S29952, .i32⟩
  | 62 => ⟨S29952, .i32⟩
  | 63 => ⟨S29952, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S29952, .i32⟩
  | 71 => ⟨S29952, .i32⟩
  | 72 => ⟨S_, .i32⟩
  | 73 => ⟨S29952, .i32⟩
  | 74 => ⟨S29952, .i1⟩
  | 75 => ⟨S_, .i32⟩
  | 76 => ⟨S29952, .i32⟩
  | 77 => ⟨S29952, .i1⟩
  | 78 => ⟨S_, .i32⟩
  | 79 => ⟨S_, .i1⟩
  | 80 => ⟨S29952, .i1⟩
  | 81 => ⟨S29952, .i1⟩
  | 82 => ⟨S29952, .i1⟩
  | 83 => ⟨S29952, .i32⟩
  | 84 => ⟨S29952, .i32⟩
  | 85 => ⟨S29952, .i32⟩
  | 86 => ⟨S29952x1, .i32⟩
  | 87 => ⟨S29952x1, .i32⟩
  | 88 => ⟨S29952x1, .i32⟩
  | 89 => ⟨S29952x3, .i32⟩
  | 90 => ⟨S29952x3, .f32⟩
  | 91 => ⟨S22, .f32⟩
  | 92 => ⟨S_, .f32⟩
  | 93 => ⟨S22, .f32⟩
  | 94 => ⟨S22, .f32⟩
  | 95 => ⟨S_, .f32⟩
  | 96 => ⟨S22, .f32⟩
  | 97 => ⟨S22, .f32⟩
  | 98 => ⟨S_, .f32⟩
  | 99 => ⟨S22, .f32⟩
  | 100 => ⟨S22, .f32⟩
  | 101 => ⟨S_, .f32⟩
  | 102 => ⟨S22, .f32⟩
  | 103 => ⟨S22, .f32⟩
  | 104 => ⟨S_, .f32⟩
  | 105 => ⟨S22, .f32⟩
  | 106 => ⟨S22, .f32⟩
  | 107 => ⟨S21, .f32⟩
  | 108 => ⟨S_, .f32⟩
  | 109 => ⟨S21, .f32⟩
  | 110 => ⟨S21, .f32⟩
  | 111 => ⟨S_, .f32⟩
  | 112 => ⟨S21, .f32⟩
  | 113 => ⟨S21, .f32⟩
  | 114 => ⟨S_, .f32⟩
  | 115 => ⟨S21, .f32⟩
  | 116 => ⟨S21, .f32⟩
  | 117 => ⟨S_, .f32⟩
  | 118 => ⟨S21, .f32⟩
  | 119 => ⟨S21, .f32⟩
  | 120 => ⟨S_, .f32⟩
  | 121 => ⟨S21, .f32⟩
  | 122 => ⟨S21, .f32⟩
  | 123 => ⟨S64, .f32⟩
  | 124 => ⟨S_, .i32⟩
  | 125 => ⟨S64, .i32⟩
  | 126 => ⟨S64, .i32⟩
  | 127 => ⟨S64, .i32⟩
  | _ => ⟨S2x29952x16x128, .bf16⟩

abbrev hbmTy0_1 (i : Nat) : BufTy := match i % 128 with
  | 0 => ⟨S64x1, .i32⟩
  | 1 => ⟨S29952x64, .f32⟩
  | 2 => ⟨S1x64, .f32⟩
  | 3 => ⟨S29952x64, .f32⟩
  | 4 => ⟨S29952x64, .f32⟩
  | 5 => ⟨S29952x64, .f32⟩
  | 6 => ⟨S29952x64, .f32⟩
  | 7 => ⟨S2x29952x16x128, .f32⟩
  | 8 => ⟨S2x29952x16x64x2, .f32⟩
  | 9 => ⟨S2x29952x16x64x1, .f32⟩
  | 10 => ⟨S2x29952x16x64, .f32⟩
  | 11 => ⟨S2x29952x16x64x1, .f32⟩
  | 12 => ⟨S2x29952x16x64, .f32⟩
  | 13 => ⟨S1x29952x1x64, .f32⟩
  | 14 => ⟨S1x29952x1x64, .f32⟩
  | 15 => ⟨S2x29952x16x64, .f32⟩
  | 16 => ⟨S2x29952x16x64, .f32⟩
  | 17 => ⟨S2x29952x16x64, .f32⟩
  | 18 => ⟨S2x29952x16x64, .f32⟩
  | 19 => ⟨S2x29952x16x64, .f32⟩
  | 20 => ⟨S2x29952x16x64, .f32⟩
  | 21 => ⟨S2x29952x16x64, .f32⟩
  | 22 => ⟨S2x29952x16x64, .f32⟩
  | 23 => ⟨S2x29952x16x64, .f32⟩
  | 24 => ⟨S2x29952x16x64, .f32⟩
  | 25 => ⟨S2x29952x16x64x1, .f32⟩
  | 26 => ⟨S2x29952x16x64x1, .f32⟩
  | 27 => ⟨S2x29952x16x64x2, .f32⟩
  | 28 => ⟨S2x29952x16x128, .f32⟩
  | 29 => ⟨S2x29952x16x128, .f32⟩
  | 30 => ⟨S2x29952x16x64x2, .f32⟩
  | 31 => ⟨S2x29952x16x64x1, .f32⟩
  | 32 => ⟨S2x29952x16x64, .f32⟩
  | 33 => ⟨S2x29952x16x64x1, .f32⟩
  | 34 => ⟨S2x29952x16x64, .f32⟩
  | 35 => ⟨S1x29952x1x64, .f32⟩
  | 36 => ⟨S1x29952x1x64, .f32⟩
  | 37 => ⟨S2x29952x16x64, .f32⟩
  | 38 => ⟨S2x29952x16x64, .f32⟩
  | 39 => ⟨S2x29952x16x64, .f32⟩
  | 40 => ⟨S2x29952x16x64, .f32⟩
  | 41 => ⟨S2x29952x16x64, .f32⟩
  | 42 => ⟨S2x29952x16x64, .f32⟩
  | 43 => ⟨S2x29952x16x64, .f32⟩
  | 44 => ⟨S2x29952x16x64, .f32⟩
  | 45 => ⟨S2x29952x16x64, .f32⟩
  | 46 => ⟨S2x29952x16x64, .f32⟩
  | 47 => ⟨S2x29952x16x64x1, .f32⟩
  | 48 => ⟨S2x29952x16x64x1, .f32⟩
  | 49 => ⟨S2x29952x16x64x2, .f32⟩
  | 50 => ⟨S2x29952x16x128, .f32⟩
  | 51 => ⟨S2x29952x16x128, .i8⟩
  | 52 => ⟨S2x29952x16, .f32⟩
  | 53 => ⟨S2x29952x16x128, .i8⟩
  | 54 => ⟨S2x29952x16, .f32⟩
  | _ => ⟨S2x29952x16x128, .bf16⟩

abbrev hbmTy (i : Nat) : BufTy := match i / 128 with
  | 0 => hbmTy0_0 i
  | 1 => hbmTy0_1 i
  | _ => ⟨S2x29952x16x128, .bf16⟩

abbrev bufTy : (tb : Table) → Fin (tcTables nBuf tb) → BufTy
  | .hbm, ⟨i, _⟩ => hbmTy i
  | .local _ .vmem, ⟨0, _⟩ => ⟨S2x29952x16x128, .f32⟩
  | .local _ .vmem, ⟨1, _⟩ => ⟨S2x29952x16x128, .f32⟩
  | .local _ .vmem, ⟨2, _⟩ => ⟨S2x29952x16x128, .i8⟩
  | .local _ .vmem, ⟨3, _⟩ => ⟨S2x29952x16, .f32⟩
  | .local _ .vmem, ⟨4, _⟩ => ⟨S2x29952x16x128, .i8⟩
  | .local _ .vmem, ⟨5, _⟩ => ⟨S2x29952x16, .f32⟩
  | _, _ => ⟨S2x29952x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v2 : Ref sig .tc := ⟨.hbm, 41, rfl⟩
abbrev main_c_3 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_1 : Ref sig .tc := ⟨.hbm, 50, rfl⟩
abbrev main_call2_v5 : Ref sig .tc := ⟨.hbm, 51, rfl⟩
abbrev main_call2_v6 : Ref sig .tc := ⟨.hbm, 52, rfl⟩
abbrev main_call2_c_2 : Ref sig .tc := ⟨.hbm, 53, rfl⟩
abbrev main_call2_v7 : Ref sig .tc := ⟨.hbm, 54, rfl⟩
abbrev main_call2_v8 : Ref sig .tc := ⟨.hbm, 55, rfl⟩
abbrev main_call2_c_3 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_v3 : Ref sig .tc := ⟨.hbm, 63, rfl⟩
abbrev main_c_4 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_v5 : Ref sig .tc := ⟨.hbm, 73, rfl⟩
abbrev main_call3_v6 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_c_3 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_v4 : Ref sig .tc := ⟨.hbm, 85, rfl⟩
abbrev main_v5 : Ref sig .tc := ⟨.hbm, 86, rfl⟩
abbrev main_v6 : Ref sig .tc := ⟨.hbm, 87, rfl⟩
abbrev main_v7 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_cst : Ref sig .tc := ⟨.hbm, 92, rfl⟩
abbrev main_v11 : Ref sig .tc := ⟨.hbm, 93, rfl⟩
abbrev main_v12 : Ref sig .tc := ⟨.hbm, 94, rfl⟩
abbrev main_cst_5 : Ref sig .tc := ⟨.hbm, 95, rfl⟩
abbrev main_v13 : Ref sig .tc := ⟨.hbm, 96, rfl⟩
abbrev main_v14 : Ref sig .tc := ⟨.hbm, 97, rfl⟩
abbrev main_cst_6 : Ref sig .tc := ⟨.hbm, 98, rfl⟩
abbrev main_v15 : Ref sig .tc := ⟨.hbm, 99, rfl⟩
abbrev main_v16 : Ref sig .tc := ⟨.hbm, 100, rfl⟩
abbrev main_cst_7 : Ref sig .tc := ⟨.hbm, 101, rfl⟩
abbrev main_v17 : Ref sig .tc := ⟨.hbm, 102, rfl⟩
abbrev main_v18 : Ref sig .tc := ⟨.hbm, 103, rfl⟩
abbrev main_cst_8 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_cst_9 : Ref sig .tc := ⟨.hbm, 108, rfl⟩
abbrev main_v22 : Ref sig .tc := ⟨.hbm, 109, rfl⟩
abbrev main_v23 : Ref sig .tc := ⟨.hbm, 110, rfl⟩
abbrev main_cst_10 : Ref sig .tc := ⟨.hbm, 111, rfl⟩
abbrev main_v24 : Ref sig .tc := ⟨.hbm, 112, rfl⟩
abbrev main_v25 : Ref sig .tc := ⟨.hbm, 113, rfl⟩
abbrev main_cst_11 : Ref sig .tc := ⟨.hbm, 114, rfl⟩
abbrev main_v26 : Ref sig .tc := ⟨.hbm, 115, rfl⟩
abbrev main_v27 : Ref sig .tc := ⟨.hbm, 116, rfl⟩
abbrev main_cst_12 : Ref sig .tc := ⟨.hbm, 117, rfl⟩
abbrev main_v28 : Ref sig .tc := ⟨.hbm, 118, rfl⟩
abbrev main_v29 : Ref sig .tc := ⟨.hbm, 119, rfl⟩
abbrev main_cst_13 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_c_14 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87_0 : Ref sig .tc := ⟨.hbm, 179, rfl⟩
abbrev main_v87_1 : Ref sig .tc := ⟨.hbm, 180, rfl⟩
abbrev main_v87_2 : Ref sig .tc := ⟨.hbm, 181, rfl⟩
abbrev main_v87_3 : Ref sig .tc := ⟨.hbm, 182, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x29952x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x29952x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x29952x16x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x29952x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x29952x16x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x29952x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelV.lean ====
abbrev S2x29952x16x128 : Shape := ⟨4, ![2, 29952, 16, 128]⟩
abbrev S2x16 : Shape := ⟨2, ![2, 16]⟩
abbrev S2x16x1 : Shape := ⟨3, ![2, 16, 1]⟩
abbrev S2x16x128 : Shape := ⟨3, ![2, 16, 128]⟩
abbrev S1x128x16x128 : Shape := ⟨4, ![1, 128, 16, 128]⟩
abbrev S1x16x128 : Shape := ⟨3, ![1, 16, 128]⟩
abbrev S128x16x128 : Shape := ⟨3, ![128, 16, 128]⟩
abbrev S16x128 : Shape := ⟨2, ![16, 128]⟩

abbrev nBuf : Space → Nat
  | .hbm => 5
  | .vmem => 6
  | .smem => 0
  | _ => 0

abbrev bufTy : (tb : Table) → Fin (tcTables nBuf tb) → BufTy
  | .hbm, ⟨0, _⟩ => ⟨S2x29952x16x128, .bf16⟩
  | .hbm, ⟨1, _⟩ => ⟨S2x16, .f32⟩
  | .hbm, ⟨2, _⟩ => ⟨S2x16x1, .f32⟩
  | .hbm, ⟨3, _⟩ => ⟨S2x16x128, .f32⟩
  | .hbm, ⟨4, _⟩ => ⟨S2x29952x16x128, .fp8e4m3⟩
  | .local _ .vmem, ⟨0, _⟩ => ⟨S1x128x16x128, .bf16⟩
  | .local _ .vmem, ⟨1, _⟩ => ⟨S1x128x16x128, .bf16⟩
  | .local _ .vmem, ⟨2, _⟩ => ⟨S1x16x128, .f32⟩
  | .local _ .vmem, ⟨3, _⟩ => ⟨S1x16x128, .f32⟩
  | .local _ .vmem, ⟨4, _⟩ => ⟨S1x128x16x128, .fp8e4m3⟩
  | .local _ .vmem, ⟨5, _⟩ => ⟨S1x128x16x128, .fp8e4m3⟩
  | _, _ => ⟨S2x29952x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 234], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x16x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceVIdeal.lean ====
abbrev S2x29952x16x128 : Shape := ⟨4, ![2, 29952, 16, 128]⟩
abbrev S2x16 : Shape := ⟨2, ![2, 16]⟩
abbrev S2x1x16x1 : Shape := ⟨4, ![2, 1, 16, 1]⟩

abbrev nBuf : Space → Nat
  | .hbm => 3
  | .vmem => 3
  | .smem => 0
  | _ => 0

abbrev bufTy : (tb : Table) → Fin (tcTables nBuf tb) → BufTy
  | .hbm, ⟨0, _⟩ => ⟨S2x29952x16x128, .bf16⟩
  | .hbm, ⟨1, _⟩ => ⟨S2x16, .f32⟩
  | .hbm, ⟨2, _⟩ => ⟨S2x29952x16x128, .fp8e4m3⟩
  | .local _ .vmem, ⟨0, _⟩ => ⟨S2x29952x16x128, .bf16⟩
  | .local _ .vmem, ⟨1, _⟩ => ⟨S2x16, .f32⟩
  | .local _ .vmem, ⟨2, _⟩ => ⟨S2x29952x16x128, .fp8e4m3⟩
  | _, _ => ⟨S2x29952x16x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x29952x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x29952x16x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Loops.lean ====
/- The two counted loops of the attention call's body — the fill of the key scales and the pass over the chunks of keys — as
   obligations of the executor, over the algebra that counts transfers. One trip of each loop is run once, over a symbolic trip;
   what the trips write is collected by recursion on the number of trips done. The text follows the generated loops module of
   this certificate line by line; only the algebra is another one. -/
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.Frame

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (Pipeline.UD sig nD τ) ℕ
/-! ## `cc0_attention` -/

/-- The class of invariants of `k0_part8`'s counted loop `k0_t1_loop` (`scf.for %arg16 = %c0_i32_37
   to %53 step %c1_i32_38 : i32 {`), trip `k0_t1`, carrying `Unit`, region `Gen.k0_t1_body`.
   Classifier: AFFINE — every store at a `Rect.unit` whose offsets are a stated closed form of the
   trips, nothing carried, no transfer or conditional inside: the invariant is the pieces of the
   trips before `k`. Per trip it STORES through arg12 at (k0_off4
   k0_t1). It LOADS through arg4 at (k0_off3 k0_t1); arg12 at (k0_off4 k0_t1). generated below:
   `Gen.loopInv_k0_t1` (`@[sl_loop]`), at the frame kit's algebra — a run at that algebra (the
   generated frame's, or a hand proof's over `MT nD τ sig Unit (Elt F) ℕ (Pipeline.UD sig nD τ) ℕ`) goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 k0_h1)

/-! ### `k0_t1_loop`: the generated invariant (classifier: affine) -/

/-- One trip's resources: what the region reads (arg4) at its contents, what it writes (arg12) at
   any. -/
abbrev Trip_k0_t1 (c : Dev nD) (arg4 : Memref sig .tc .vmem S1x234x128 .f32) (arg12 : Memref sig .tc .vmem S29952x128 .f32) (X_arg4 : BufTy.Contents (Elt F) arg4.view.ty) (f_arg12 : BufTy.Contents (Elt F) arg12.view.ty) : sProp 𝕄G :=
  iprop((arg4.view.loc (c : Thread nD τ) ↦[arg4.view.set]{fullShare} X_arg4) ∗ (arg12.view.loc (c : Thread nD τ) ↦[arg12.view.set]{fullShare} f_arg12))

/-- ONE TRIP of `k0_t1_loop` at a symbolic `k`, run by `sl_exec` (its rectangles' offsets closed
   forms of `k`, their geometry linear arithmetic): the pieces it writes into arg12 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (k : Fin k0_t1_loop.trips) :
    { L_arg12 : List (View.Piece (Elt F) S29952x128 .f32) // ∀ (E : Set ℕ) (f_arg12 : BufTy.Contents (Elt F) arg12.view.ty),
      Trip_k0_t1 (F := F) c arg4 arg12 X_arg4 f_arg12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 k0_h1 k PUnit.unit)
          (fun _ => Trip_k0_t1 (F := F) c arg4 arg12 X_arg4 (arg12.view.writes (Elt F) f_arg12 L_arg12)) } := by
  have hk : k.val < 234 := Nat.lt_of_lt_of_le k.isLt k0_t1_abs.2.1
  refine ⟨?_, fun E f_arg12 => ?run⟩
  case run =>
    unfold k0_t1_body
    iintro ⟨HR_arg4, HW_arg12⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (k : Fin k0_t1_loop.trips) : List (View.Piece (Elt F) S29952x128 .f32) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (k : ℕ) (prev : List (View.Piece (Elt F) S29952x128 .f32)) : List (View.Piece (Elt F) S29952x128 .f32) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 ⟨k, h⟩) ++ prev
  else prev

/-- The pieces of the trips before `k` (last first), per written memref. -/
def pb_k0_t1 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) : ℕ → List (View.Piece (Elt F) S29952x128 .f32)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k)

theorem pb_k0_t1_succ (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k.val) := by
  rw [pb_k0_t1.eq_2]; unfold pb_k0_t1Step; exact dif_pos k.isLt

/-- THE INVARIANT before trip `k`: arg4 read at `X_·`; arg12 holding the pieces of the trips before
   `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (G_arg12 : BufTy.Contents (Elt F) arg12.view.ty) (k : ℕ) (_u : PUnit) : sProp 𝕄G :=
  iprop((arg4.view.loc (c : Thread nD τ) ↦[arg4.view.set]{fullShare} X_arg4) ∗ (∃ f, (arg12.view.loc (c : Thread nD τ) ↦[arg12.view.set]{fullShare} f) ∗ ⌜f = arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (G_arg12 : BufTy.Contents (Elt F) arg12.view.ty) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 k0_h1 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 G_arg12
  step k acc := by
    iintro ⟨HR_arg4, ⟨%f_arg12, HW_arg12, %h_arg12⟩⟩
    iapply (wp_wand_r Idealize.ShloMosaic.frame (wpE (defs₀ (F := F)) 𝒱 (c : Thread nD τ) bd) E)
    isplitl [HR_arg4 HW_arg12]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k).2 E f_arg12)
      isplitl [HR_arg4]; · iexact HR_arg4
      iexact HW_arg12
    · iintro %_ ⟨HR_arg4, HW_arg12⟩
      isplitl [HR_arg4]; · iexact HR_arg4
      rw [pb_k0_t1_succ]
      iexists _; isplitl [HW_arg12]; · iexact HW_arg12
      ipureintro; rw [h_arg12, ← View.writes_append]

/-- The class of invariants of `k0_part8`'s counted loop `k0_t2_loop` (`%28:2 = scf.for %arg16 =
   %c0_i32_18 to %27 step %c1_i32 iter_args(%arg17 = %25, %arg18 = %26) -> (vector<8x256xf32>,
   vector<8x256xf32>) : i32 {`), trip `k0_t2`, carrying `FVec F S8x256 .f32 × FVec F S8x256 .f32`,
   region `Gen.k0_t2_body`. Classifier: LISTED — every store at a `Rect.unit` through a memref
   parameter of the region, no rectangle computed from the carried value, no transfer or conditional
   inside: the invariant is the pieces of the trips before `k`; not affine (the trip loads `arg9`
   live and stores into it through a chain applied at row constants (`(k0_off6 k0_t2 0#32)`): the
   generated run does not place such a load against the trip's own stores, so the stores are left
   unevaluated), so a frame cannot place those pieces and must find the memref written covered by a
   whole-block store of the same case. The region loads back what it stores into `arg9`, `arg14` (an
   accumulation): each trip's pieces are stated as functions of the contents it finds there. The
   same recursion (`Gen.st_k0_t2`) gives the carried value before trip `k`, each trip's yield a
   function the run finds. One trip calls the parts `k0_part1`, `k0_part2`, `k0_part3`, `k0_part4`,
   `k0_part5`, `k0_part6`, `k0_part7`. Per trip it STORES through arg9 at (k0_off6 k0_t2 0#32); arg9
   at (k0_off6 k0_t2 128#32); arg9 at (k0_off6 k0_t2 256#32); arg9 at (k0_off6 k0_t2 384#32); arg9
   at (k0_off6 k0_t2 512#32); arg9 at (k0_off6 k0_t2 640#32); arg9 at (k0_off6 k0_t2 768#32); arg9
   at (k0_off6 k0_t2 896#32); arg9 at (k0_off6 k0_t2 1024#32); arg14 at ![0, 0]. It LOADS through
   arg10 at (k0_off5 k0_t2); arg9 at (k0_off6 k0_t2 0#32); arg11 at (k0_off7 k0_t2 0#32); arg12 at
   (k0_off8 k0_t2 0#32); arg9 at (k0_off6 k0_t2 128#32); arg11 at (k0_off7 k0_t2 128#32); arg12 at
   (k0_off8 k0_t2 128#32); arg9 at (k0_off6 k0_t2 256#32); arg11 at (k0_off7 k0_t2 256#32); arg12 at
   (k0_off8 k0_t2 256#32); arg9 at (k0_off6 k0_t2 384#32); arg11 at (k0_off7 k0_t2 384#32); and
   more. generated below: `Gen.loopInv_k0_t2` (`@[sl_loop]`), at the frame kit's algebra — a run at
   that algebra (the generated frame's, or a hand proof's over `MT nD τ sig Unit (Elt F) ℕ (UR sig
   nD τ) ℕ`) goes through the loop with nothing more to state; a proof at another algebra instances
   the class itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (init : FVec F S8x256 .f32 × FVec F S8x256 .f32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok init (k0_t2_body (F := F) i arg2 harg2 arg3 harg3 arg4 harg4 arg5 harg5 arg6 harg6 arg7 harg7 arg8 harg8 arg9 harg9 arg10 harg10 arg11 harg11 arg12 harg12 arg13 harg13 arg14 harg14 arg15 v8 v12 v18)

/-! ### `k0_t2_loop`: the generated invariant (classifier: listed) -/

/-- One trip's resources: what the region reads (arg10, arg11, arg12) at its contents, what it
   writes (arg9, arg14) at any. -/
abbrev Trip_k0_t2 (c : Dev nD) (arg10 : Memref sig .tc .vmem S29952x128 .bf16) (arg11 : Memref sig .tc .vmem S128x29952 .fp8e4m3) (arg12 : Memref sig .tc .vmem S29952x128 .f32) (arg9 : Memref sig .tc .vmem S29952x256 .f32) (arg14 : Memref sig .tc .vmem S128x256 .f32) (X_arg10 : BufTy.Contents (Elt F) arg10.view.ty) (X_arg11 : BufTy.Contents (Elt F) arg11.view.ty) (X_arg12 : BufTy.Contents (Elt F) arg12.view.ty) (f_arg9 : BufTy.Contents (Elt F) arg9.view.ty) (f_arg14 : BufTy.Contents (Elt F) arg14.view.ty) : sProp 𝕄G :=
  iprop((arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg9.view.loc (c : Thread nD τ) ↦[arg9.view.set]{fullShare} f_arg9) ∗ (arg14.view.loc (c : Thread nD τ) ↦[arg14.view.set]{fullShare} f_arg14))

/-- ONE TRIP of `k0_t2_loop` at a symbolic `k` and carried value `acc`, run by `sl_exec` (its
   rectangles where the program's in-range evidence puts them, their places unread): what it yields
   and the pieces it writes into arg9, arg14 are the run's own finds — the witnesses `sl_close`
   assigns handing the buffers to the continuation, as functions of the carried value and of the
   contents the trip finds in the memrefs it writes (the region loads some of them back).
   `@[irreducible]`: cited, never unfolded. -/
@[irreducible] def trip_k0_t2 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (k : Fin k0_t2_loop.trips) :
    Σ' (R_k0_t2 : ((FVec F S8x256 .f32 × FVec F S8x256 .f32) → BufTy.Contents (Elt F) arg9.view.ty → BufTy.Contents (Elt F) arg14.view.ty → FVec F S8x256 .f32 × FVec F S8x256 .f32)) (L_arg9 : ((FVec F S8x256 .f32 × FVec F S8x256 .f32) → BufTy.Contents (Elt F) arg9.view.ty → BufTy.Contents (Elt F) arg14.view.ty → List (View.Piece (Elt F) S29952x256 .f32))) , { L_arg14 : ((FVec F S8x256 .f32 × FVec F S8x256 .f32) → BufTy.Contents (Elt F) arg9.view.ty → BufTy.Contents (Elt F) arg14.view.ty → List (View.Piece (Elt F) S128x256 .f32)) // ∀ (E : Set ℕ) (acc : FVec F S8x256 .f32 × FVec F S8x256 .f32) (f_arg9 : BufTy.Contents (Elt F) arg9.view.ty) (f_arg14 : BufTy.Contents (Elt F) arg14.view.ty),
      Trip_k0_t2 (F := F) c arg10 arg11 arg12 arg9 arg14 X_arg10 X_arg11 X_arg12 f_arg9 f_arg14
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 v8 v12 v18 k acc)
          (fun yld => iprop(⌜yld = R_k0_t2 acc f_arg9 f_arg14⌝ ∗ Trip_k0_t2 (F := F) c arg10 arg11 arg12 arg9 arg14 X_arg10 X_arg11 X_arg12 (arg9.view.writes (Elt F) f_arg9 (L_arg9 acc f_arg9 f_arg14)) (arg14.view.writes (Elt F) f_arg14 (L_arg14 acc f_arg9 f_arg14)))) } := by
  have hk : k.val < 26 := Nat.lt_of_lt_of_le k.isLt k0_t2_abs.2.1
  refine ⟨?_, ?_, ?_, fun E acc f_arg9 f_arg14 => ?run⟩
  case run =>
    unfold k0_t2_body
    iintro ⟨HR_arg10, HR_arg11, HR_arg12, HW_arg9, HW_arg14⟩
    sl_exec
    sl_step
    sl_close

/-- The trip's result (a plain projection of `trip_…`, for the recursion below to cite without its
   proof). -/
abbrev tripR_k0_t2 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (k : Fin k0_t2_loop.trips) (acc : FVec F S8x256 .f32 × FVec F S8x256 .f32) (f_arg9 : BufTy.Contents (Elt F) arg9.view.ty) (f_arg14 : BufTy.Contents (Elt F) arg14.view.ty) : FVec F S8x256 .f32 × FVec F S8x256 .f32 :=
  (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k).1 acc f_arg9 f_arg14

/-- The trip's piece lists (plain projections of `trip_…`, for the recursion below to cite without
   its proof), at the carried value and the contents the trip finds in the written memrefs. -/
abbrev tripL_k0_t2 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (k : Fin k0_t2_loop.trips) (acc : FVec F S8x256 .f32 × FVec F S8x256 .f32) (f_arg9 : BufTy.Contents (Elt F) arg9.view.ty) (f_arg14 : BufTy.Contents (Elt F) arg14.view.ty) : List (View.Piece (Elt F) S29952x256 .f32) × List (View.Piece (Elt F) S128x256 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k).2.1 acc f_arg9 f_arg14, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k).2.2.1 acc f_arg9 f_arg14)

/-- Trip `k`'s contribution to the state the recursion `st_k0_t2` below carries (`prev`): its result
   as the new carried value and its pieces in front, per written memref; past the last trip, `prev`
   itself. -/
@[irreducible] def st_k0_t2Step (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) (k : ℕ) (prev : (FVec F S8x256 .f32 × FVec F S8x256 .f32) × List (View.Piece (Elt F) S29952x256 .f32) × List (View.Piece (Elt F) S128x256 .f32)) : (FVec F S8x256 .f32 × FVec F S8x256 .f32) × List (View.Piece (Elt F) S29952x256 .f32) × List (View.Piece (Elt F) S128x256 .f32) :=
  if h : k < k0_t2_loop.trips then
    (tripR_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 ⟨k, h⟩ prev.1 (arg9.view.writes (Elt F) G_arg9 prev.2.1) (arg14.view.writes (Elt F) G_arg14 prev.2.2), (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 ⟨k, h⟩ prev.1 (arg9.view.writes (Elt F) G_arg9 prev.2.1) (arg14.view.writes (Elt F) G_arg14 prev.2.2)).1 ++ prev.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 ⟨k, h⟩ prev.1 (arg9.view.writes (Elt F) G_arg9 prev.2.1) (arg14.view.writes (Elt F) G_arg14 prev.2.2)).2 ++ prev.2.2)
  else prev

/-- The STATE before trip `k`: the carried value and, per written memref, the pieces of the trips
   before (last first), starting from the contents `G_·` at loop entry; each trip's pieces taken at
   the contents the earlier trips left. -/
def st_k0_t2 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) : ℕ → (FVec F S8x256 .f32 × FVec F S8x256 .f32) × List (View.Piece (Elt F) S29952x256 .f32) × List (View.Piece (Elt F) S128x256 .f32)
  | 0 => (init, [], [])
  | k + 1 => st_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k)

theorem st_k0_t2_succ (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) (k : Fin k0_t2_loop.trips) :
    st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init (k.val + 1)
      = ((tripR_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).1 (arg9.view.writes (Elt F) G_arg9 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.1) (arg14.view.writes (Elt F) G_arg14 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.2)), (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).1 (arg9.view.writes (Elt F) G_arg9 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.1) (arg14.view.writes (Elt F) G_arg14 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.2)).1 ++ (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).1 (arg9.view.writes (Elt F) G_arg9 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.1) (arg14.view.writes (Elt F) G_arg14 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.2)).2 ++ (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.2) := by
  rw [st_k0_t2.eq_2]; unfold st_k0_t2Step; exact dif_pos k.isLt

/-- The carried value before trip 0 is the initial one: the invariant's equation at loop entry,
   which the run closes by this (`sl_pure`) without unfolding the value it holds. -/
theorem st_k0_t2_zero (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) :
    (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init 0).1 = init := rfl

/-- THE INVARIANT before trip `k`: arg10, arg11, arg12 read at `X_·`; arg9, arg14 holding the pieces
   of the trips before `k` written over the contents at loop entry `G_·` (stated `∃ f, … ∗ ⌜f = …⌝`,
   so that a hypothesis of any contents matches and the equation is what is proved); and `acc` equal
   to the state's carried value (an equation the run substitutes after the loop). -/
abbrev inv_k0_t2 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) (k : ℕ) (acc : FVec F S8x256 .f32 × FVec F S8x256 .f32) : sProp 𝕄G :=
  iprop((arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (∃ f, (arg9.view.loc (c : Thread nD τ) ↦[arg9.view.set]{fullShare} f) ∗ ⌜f = arg9.view.writes (Elt F) G_arg9 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k).2.1⌝) ∗ (∃ f, (arg14.view.loc (c : Thread nD τ) ↦[arg14.view.set]{fullShare} f) ∗ ⌜f = arg14.view.writes (Elt F) G_arg14 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k).2.2⌝) ∗ ⌜acc = (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k).1⌝)

set_option warn.classDefReducibility false in
/-- THE LOOP BY ITS INVARIANT — generated (`@[sl_loop]`: `sl_exec` finds it meeting `k0_t2_loop`,
   fixing `X_· G_·` and `init` against the context; after the loop each written memref holds `writes
   G (st … trips).2` and what it yields is `(st … trips).1`). -/
@[sl_loop] def loopInv_k0_t2 (𝒱 : Variants) (c : Dev nD) (bd : Option 𝒱.V) (E : Set ℕ) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) :
    LoopInvTy_k0_t2 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 v8 v12 v18 init where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init
  step k acc := by
    iintro ⟨HR_arg10, HR_arg11, HR_arg12, ⟨%f_arg9, HW_arg9, %h_arg9⟩, ⟨%f_arg14, HW_arg14, %h_arg14⟩, %h_acc⟩
    subst h_acc
    iapply (wp_wand_r Idealize.ShloMosaic.frame (wpE (defs₀ (F := F)) 𝒱 (c : Thread nD τ) bd) E)
    isplitl [HR_arg10 HR_arg11 HR_arg12 HW_arg9 HW_arg14]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k).2.2.2 E (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k).1 f_arg9 f_arg14)
      isplitl [HR_arg10]; · iexact HR_arg10
      isplitl [HR_arg11]; · iexact HR_arg11
      isplitl [HR_arg12]; · iexact HR_arg12
      isplitl [HW_arg9]; · iexact HW_arg9
      iexact HW_arg14
    · iintro %yld ⟨%h_res, HR_arg10, HR_arg11, HR_arg12, HW_arg9, HW_arg14⟩
      isplitl [HR_arg10]; · iexact HR_arg10
      isplitl [HR_arg11]; · iexact HR_arg11
      isplitl [HR_arg12]; · iexact HR_arg12
      simp only [st_k0_t2_succ]
      isplitl [HW_arg9]
      · iexists _; isplitl [HW_arg9]; · iexact HW_arg9
        ipureintro; rw [h_arg9, h_arg14, ← View.writes_append]
      isplitl [HW_arg14]
      · iexists _; isplitl [HW_arg14]; · iexact HW_arg14
        ipureintro; rw [h_arg9, h_arg14, ← View.writes_append]
      ipureintro; rw [h_res, h_arg9, h_arg14]

end Cert.Kernel.Attn

end
-- ==== Proof.Kernel.Run.lean ====
/- Hand-written. One call of the attention kernel's body, at any reading of the floats: from the windows' buffers, the scratch
   buffers and the two HBM operands, the body runs to the end, and what it leaves in each buffer is stated as a term over
   what it found (`RelA` at the first step of a head, `RelB` at the later ones). -/
module

public import proofs.«01_k».proof.Proof.Gen.Kernel.Frame
public import proofs.«01_k».proof.Proof.Kernel.Loops

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-! ## The operands -/

/-- The scores of the query block of the step before, one row per key. -/
abbrev scY : Memref sig .tc .vmem S29952x256 .f32 := Memref.whole cc0_scratch0
/-- The head's keys. -/
abbrev scK : Memref sig .tc .vmem S29952x128 .bf16 := Memref.whole cc0_scratch1
/-- The head's values, transposed. -/
abbrev scV : Memref sig .tc .vmem S128x29952 .fp8e4m3 := Memref.whole cc0_scratch2
/-- The head's key scales, each repeated along a row. -/
abbrev scS : Memref sig .tc .vmem S29952x128 .f32 := Memref.whole cc0_scratch3
/-- Eight partial maxima per query of the scores. -/
abbrev scM : Memref sig .tc .vmem S8x256 .f32 := Memref.whole cc0_scratch4
/-- The accumulator of the weighted values. -/
abbrev scA : Memref sig .tc .vmem S128x256 .f32 := Memref.whole cc0_scratch5
/-- The keys in HBM. -/
abbrev hbK : Memref sig .tc .hbm S32x29952x128 .bf16 := Memref.whole main_arg4
/-- The transposed values in HBM. -/
abbrev hbV : Memref sig .tc .hbm S32x128x29952 .fp8e4m3 := Memref.whole main_arg5

abbrev WBuf (c : Dev nD) {sp : Space} {S : Shape} {e : EltTy} (M : Memref sig .tc sp S e) : Type := Buf (Elt F) (M.view.loc (c : Thread nD τ))
abbrev wPt (c : Dev nD) {sp : Space} {S : Shape} {e : EltTy} (M : Memref sig .tc sp S e) (f : WBuf (F := F) c M) : sProp 𝕄 :=
  M.view.loc (c : Thread nD τ) ↦{fullShare} f
abbrev wPs (c : Dev nD) {sp : Space} {S : Shape} {e : EltTy} (M : Memref sig .tc sp S e) (f : WBuf (F := F) c M) : sProp 𝕄 :=
  M.view.loc (c : Thread nD τ) ↦[M.view.set]{fullShare} f

/-- The second guard's word: one at the first step of the first head only. -/
abbrev cond2 (i : grid0.Coords) : BitVec 1 :=
  Scalar.cmpi .ne (Scalar.extui (Scalar.andi (Scalar.cmpi .eq (BitVec.ofNat 32 (i 1).val) 0#32) (Scalar.cmpi .eq (BitVec.ofNat 32 (i 0).val) 0#32))) 0#32

/-- The contents of the six scratch buffers. -/
structure St (F : FTy → Type) (c : Dev nD) where
  Y : WBuf (F := F) c scY
  K : WBuf (F := F) c scK
  V : WBuf (F := F) c scV
  S : WBuf (F := F) c scS
  M : WBuf (F := F) c scM
  A : WBuf (F := F) c scA

/-- The six scratch buffers held at the contents `s`. -/
abbrev stPts (c : Dev nD) (s : St F c) : sProp 𝕄 :=
  iprop(wPs c scY s.Y ∗ wPs c scK s.K ∗ wPs c scV s.V ∗ wPs c scS s.S ∗ wPs c scM s.M ∗ wPs c scA s.A)

section Run
variable (c : Dev nD) (i : grid0.Coords)
    (arg2 : Memref sig .tc .vmem S1x256x128 .bf16) (harg2 : arg2.IsWhole) (arg3 : Memref sig .tc .vmem S1x1x256 .f32) (harg3 : arg3.IsWhole)
    (arg4 : Memref sig .tc .vmem S1x234x128 .f32) (harg4 : arg4.IsWhole) (arg5 : Memref sig .tc .smem S1x1x1 .f32) (harg5 : arg5.IsWhole)
    (arg8 : Memref sig .tc .vmem S1x256x128 .bf16) (harg8 : arg8.IsWhole)

/-- What the loop over the chunks ends with: the carried pair, the pieces written into the scores, the pieces written into
    the accumulator. -/
abbrev stT (v8 : Vec F S1x1x256 .f32) (v12 : Vec F S8x256 .f32) (v18 : Vec F S1x256x128 .bf16)
    (XK : WBuf (F := F) c scK) (XV : WBuf (F := F) c scV) (XS : WBuf (F := F) c scS) (GY : WBuf (F := F) c scY) :=
  st_k0_t2 (F := F) Variants.none c none i arg2 harg2 arg3 harg3 arg4 harg4 arg5 harg5 hbK (Memref.isWhole_whole _) hbV (Memref.isWhole_whole _) arg8 harg8
          scY (Memref.isWhole_whole _) scK (Memref.isWhole_whole _) scV (Memref.isWhole_whole _) scS (Memref.isWhole_whole _) scM (Memref.isWhole_whole _) scA (Memref.isWhole_whole _) cc0_scratch6
    v8 v12 v18 XK XV XS GY
    (scA.view.writes (Elt F) scA.view.junk [⟨Rect.unit ![0, 0] S128x256.size inb_S128x256_S128x256_0_0, k0_pay62⟩])
    (k0_pay63, k0_pay64) (Scf.trips k0_t2_loop.lb k0_t2_loop.ub k0_t2_loop.st)

/-- The pieces the fill loop writes into the key scales' scratch. -/
abbrev pbT (h1 : k0_cond1 i = 1#1) (f4 : WBuf (F := F) c arg4) :=
  pb_k0_t1 (F := F) Variants.none c none i arg2 harg2 arg3 harg3 arg4 harg4 arg5 harg5 hbK (Memref.isWhole_whole _) hbV (Memref.isWhole_whole _) arg8 harg8
          scY (Memref.isWhole_whole _) scK (Memref.isWhole_whole _) scV (Memref.isWhole_whole _) scS (Memref.isWhole_whole _) scM (Memref.isWhole_whole _) scA (Memref.isWhole_whole _) cc0_scratch6
    h1 f4 (Scf.trips k0_t1_loop.lb k0_t1_loop.ub k0_t1_loop.st)

/-- What the copy of the head's keys lands. -/
abbrev dmaK (h1 : k0_cond1 i = 1#1) (fhK : WBuf (F := F) c hbK) : S29952x128.Idx → Elt F .bf16 :=
  ReadAs.same.apply (View.read (Elt F)
    ((hbK.slice (Rect.unit (s := S32x29952x128) (k0_off1 i) S1x29952x128.size (k0_off1_inb i h1)) (fun _ => rfl)).squeeze S29952x128
          squeezes_S1x29952x128_S29952x128).view fhK)
/-- What the copy of the head's values lands. -/
abbrev dmaV (h1 : k0_cond1 i = 1#1) (fhV : WBuf (F := F) c hbV) : S128x29952.Idx → Elt F .fp8e4m3 :=
  ReadAs.same.apply (View.read (Elt F)
    ((hbV.slice (Rect.unit (s := S32x128x29952) (k0_off2 i) S1x128x29952.size (k0_off2_inb i h1)) (fun _ => rfl)).squeeze S128x29952
          squeezes_S1x128x29952_S128x29952).view fhV)

/-- A LATER STEP of a head, from the scratch contents `s`: keys, values and scales stay; the scores, the maxima and the
    output block are those of the chunk loop run over `s`. -/
def RelB (f2 : WBuf (F := F) c arg2) (f3 : WBuf (F := F) c arg3) (f5 : WBuf (F := F) c arg5) (f8 : WBuf (F := F) c arg8)
    (s s' : St F c) (o : WBuf (F := F) c arg8) : Prop :=
  let T := stT c i arg2 harg2 arg3 harg3 arg4 harg4 arg5 harg5 arg8 harg8
    (View.readAt (Elt F) arg3.view (Rect.unit ![0, 0, 0] S1x1x256.size inb_S1x1x256_S1x1x256_0_0_0).toLoadRect f3)
    (View.readAt (Elt F) scM.view (Rect.unit ![0, 0] S8x256.size inb_S8x256_S8x256_0_0).toLoadRect s.M)
    (View.readAt (Elt F) arg2.view (Rect.unit ![0, 0, 0] S1x256x128.size inb_S1x256x128_S1x256x128_0_0_0).toLoadRect f2)
    s.K s.V s.S s.Y
  s'.K = s.K ∧ s'.V = s.V ∧ s'.S = s.S
    ∧ s'.Y = scY.view.writes (Elt F) s.Y T.2.1
    ∧ s'.M = scM.view.writes (Elt F) s.M [⟨Rect.unit ![0, 0] S8x256.size inb_S8x256_S8x256_0_0, k0_pay1 T.1.2⟩]
    ∧ o = arg8.view.writes (Elt F) f8 [⟨Rect.unit ![0, 0, 0] S1x256x128.size inb_S1x256x128_S1x256x128_0_0_0,
        k0_pay2 T.1.1
          (scA.view.readCov (T.2.2 ++ [⟨Rect.unit ![0, 0] S128x256.size inb_S128x256_S128x256_0_0, k0_pay62⟩])
            (Rect.unit ![0, 0] S128x256.size inb_S128x256_S128x256_0_0).toLoadRect)
          (View.readAt (Elt F) arg5.view (Rect.unit ![0, 0, 0] S1x1x1.size inb_S1x1x1_S1x1x1_0_0_0).toLoadRect f5 (Shape.Idx.first (s := S1x1x1) (by decide)))⟩]

/-- THE FIRST STEP of a head: keys and values are copied in, the key scales filled in; the scores and the maxima are those
    of a chunk loop run over the head's keys and scales, whatever scores it started from. -/
def RelA (h1 : k0_cond1 i = 1#1) (f2 : WBuf (F := F) c arg2) (f3 : WBuf (F := F) c arg3) (f4 : WBuf (F := F) c arg4)
    (fhK : WBuf (F := F) c hbK) (fhV : WBuf (F := F) c hbV) (s s' : St F c) : Prop :=
  ∃ (v12 : Vec F S8x256 .f32) (GY : WBuf (F := F) c scY) (LM : List (View.Piece (Elt F) S8x256 .f32)),
  let T := stT c i arg2 harg2 arg3 harg3 arg4 harg4 arg5 harg5 arg8 harg8
    (View.readAt (Elt F) arg3.view (Rect.unit ![0, 0, 0] S1x1x256.size inb_S1x1x256_S1x1x256_0_0_0).toLoadRect f3)
    v12
    (View.readAt (Elt F) arg2.view (Rect.unit ![0, 0, 0] S1x256x128.size inb_S1x256x128_S1x256x128_0_0_0).toLoadRect f2)
    s'.K s'.V s'.S GY
  s'.K = scK.view.writes (Elt F) scK.view.junk [⟨Rect.whole S29952x128, dmaK c i h1 fhK⟩]
    ∧ s'.V = scV.view.writes (Elt F) scV.view.junk [⟨Rect.whole S128x29952, dmaV c i h1 fhV⟩]
    ∧ s'.S = scS.view.writes (Elt F) s.S (pbT c i arg2 harg2 arg3 harg3 arg4 harg4 arg5 harg5 arg8 harg8 h1 f4)
    ∧ s'.Y = scY.view.writes (Elt F) GY T.2.1
    ∧ s'.M = scM.view.writes (Elt F) scM.view.junk (⟨Rect.unit ![0, 0] S8x256.size inb_S8x256_S8x256_0_0, k0_pay1 T.1.2⟩ :: LM)

variable (f2 : WBuf (F := F) c arg2) (f3 : WBuf (F := F) c arg3) (f4 : WBuf (F := F) c arg4) (f5 : WBuf (F := F) c arg5) (f8 : WBuf (F := F) c arg8)
    (s : St F c) (fhK : WBuf (F := F) c hbK) (fhV : WBuf (F := F) c hbV)

/-- The body's resources: windows, scratch, the two cells of its copies at zero, the two HBM operands. -/
abbrev runPre (f8 : WBuf (F := F) c arg8) (s : St F c) : sProp 𝕄 :=
  iprop(wPs c arg2 f2 ∗ wPs c arg3 f3 ∗ wPs c arg4 f4 ∗ wPs c arg5 f5 ∗ wPs c arg8 f8 ∗ stPts c s
      ∗ semVal ((c : Thread nD τ), SemLoc.dma 10) 0 ∗ semVal ((c : Thread nD τ), SemLoc.dma 11) 0
      ∗ wPt c hbK fhK ∗ wPt c hbV fhV)

/-- The body's program on these operands. -/
abbrev bodyP : Prog (TpuEff nD τ sig (Elt F) Λ₀ .tc) PUnit :=
  cc0_attention (F := F) i arg2 harg2 arg3 harg3 arg4 harg4 arg5 harg5 hbK (Memref.isWhole_whole _) hbV (Memref.isWhole_whole _) arg8 harg8
          scY (Memref.isWhole_whole _) scK (Memref.isWhole_whole _) scV (Memref.isWhole_whole _) scS (Memref.isWhole_whole _) scM (Memref.isWhole_whole _) scA (Memref.isWhole_whole _) cc0_scratch6

set_option maxHeartbeats 4000000 in
/-- The body at a later step of a head. -/
theorem runB (h1 : ¬ (k0_cond1 i = 1#1)) (h2 : ¬ (cond2 i = 1#1)) (W : Waits sig Unit) (K : PUnit → sProp 𝕄) :
    iprop(runPre c arg2 arg3 arg4 arg5 arg8 f2 f3 f4 f5 fhK fhV f8 s ∗ owes (c : Thread nD τ) 0 W
      ∗ ((∃ s' o W', runPre c arg2 arg3 arg4 arg5 arg8 f2 f3 f4 f5 fhK fhV o s' ∗ owes (c : Thread nD τ) 0 W'
            ∗ ⌜RelB c i arg2 harg2 arg3 harg3 arg4 harg4 arg5 harg5 arg8 harg8 f2 f3 f5 f8 s s' o⌝) -∗ K ⟨⟩))
    ⊢ wp frame (wpE (defs₀ (F := F)) Variants.none c none) Set.univ
        (bodyP (F := F) i arg2 harg2 arg3 harg3 arg4 harg4 arg5 harg5 arg8 harg8) K := by
  unfold bodyP
  rw [cc0_attention_eq_skeleton]; unfold cc0_attention_skel; rw [k0_part8_eq_skeleton]; unfold k0_part8_skel
  iintro ⟨⟨H2, H3, H4, H5, H8, ⟨HY, HK, HV, HS, HM, HA⟩, Hq0, Hq1, Hh0, Hh1⟩, HW, Hk⟩
  sl_exec
  rw [bind_assoc]
  sl_exec
  sl_step
  iapply Hk
  iexists (St.mk _ _ _ _ _ _), _, _
  isplitl [H2 H3 H4 H5 H8 HY HK HV HS HM HA Hq0 Hq1 Hh0 Hh1]
  · isplitl [H2]; · iexact H2
    isplitl [H3]; · iexact H3
    isplitl [H4]; · iexact H4
    isplitl [H5]; · iexact H5
    isplitl [H8]; · iexact H8
    isplitl [HY HK HV HS HM HA]
    · isplitl [HY]; · iexact HY
      isplitl [HK]; · iexact HK
      isplitl [HV]; · iexact HV
      isplitl [HS]; · iexact HS
      isplitl [HM]; · iexact HM
      iexact HA
    isplitl [Hq0]; · iexact Hq0
    isplitl [Hq1]; · iexact Hq1
    isplitl [Hh0]; · iexact Hh0
    iexact Hh1
  isplitl [HW]; · iexact HW
  ipureintro
  exact ⟨rfl, rfl, rfl, rfl, rfl, rfl⟩

set_option maxHeartbeats 4000000 in
/-- The body at the first step of a head. -/
theorem runA (h1 : k0_cond1 i = 1#1) (W : Waits sig Unit) (K : PUnit → sProp 𝕄) :
    iprop(runPre c arg2 arg3 arg4 arg5 arg8 f2 f3 f4 f5 fhK fhV f8 s ∗ owes (c : Thread nD τ) 0 W
      ∗ ((∃ s' o W', runPre c arg2 arg3 arg4 arg5 arg8 f2 f3 f4 f5 fhK fhV o s' ∗ owes (c : Thread nD τ) 0 W'
            ∗ ⌜RelA c i arg2 harg2 arg3 harg3 arg4 harg4 arg5 harg5 arg8 harg8 h1 f2 f3 f4 fhK fhV s s'⌝) -∗ K ⟨⟩))
    ⊢ wp frame (wpE (defs₀ (F := F)) Variants.none c none) Set.univ
        (bodyP (F := F) i arg2 harg2 arg3 harg3 arg4 harg4 arg5 harg5 arg8 harg8) K := by
  unfold bodyP
  rw [cc0_attention_eq_skeleton]; unfold cc0_attention_skel; rw [k0_part8_eq_skeleton]; unfold k0_part8_skel
  iintro ⟨⟨H2, H3, H4, H5, H8, ⟨HY, HK, HV, HS, HM, HA⟩, Hq0, Hq1, Hh0, Hh1⟩, HW, Hk⟩
  by_cases h2 : cond2 i = 1#1
  all_goals
    sl_exec
    rw [bind_assoc]
    sl_exec
    rw [bind_assoc]
    sl_exec
    sl_step
    iapply Hk
    iexists (St.mk _ _ _ _ _ _), _, _
    isplitl [H2 H3 H4 H5 H8 HY HK HV HS HM HA Hq0 Hq1 Hh0 Hh1]
    · isplitl [H2]; · iexact H2
      isplitl [H3]; · iexact H3
      isplitl [H4]; · iexact H4
      isplitl [H5]; · iexact H5
      isplitl [H8]; · iexact H8
      isplitl [HY HK HV HS HM HA]
      · isplitl [HY]; · iexact HY
        isplitl [HK]; · iexact HK
        isplitl [HV]; · iexact HV
        isplitl [HS]; · iexact HS
        isplitl [HM]; · iexact HM
        iexact HA
      isplitl [Hq0]; · iexact Hq0
      isplitl [Hq1]; · iexact Hq1
      isplitl [Hh0]; · iexact Hh0
      iexact Hh1
    isplitl [HW]; · iexact HW
    ipureintro
  · refine ⟨runA.sl.v12, scY.view.writes (Elt F) scY.view.junk
      [⟨Rect.unit ![0, 0] S29952x256.size inb_S29952x256_S29952x256_0_0, k0_pay58⟩],
      runA.sl.HM_1, ?_, ?_, ?_, ?_, ?_⟩
    · dsimp only; unfold runA.sl.dma0; rfl
    · dsimp only; unfold runA.sl.dma0_1; rfl
    · rfl
    · dsimp only; unfold runA.sl.dma0 runA.sl.dma0_1; exact View.writes_append ..
    · dsimp only
  · refine ⟨runA.sl.v12, s.Y, runA.sl.HM_1, ?_, ?_, ?_, ?_, ?_⟩
    · dsimp only; unfold runA.sl.dma0_2; rfl
    · dsimp only; unfold runA.sl.dma0_3; rfl
    · rfl
    · dsimp only; unfold runA.sl.dma0_2 runA.sl.dma0_3; rfl
    · dsimp only; unfold runA.sl.dma0_2 runA.sl.dma0_3;  rfl

end Run

end Cert.Kernel.Attn
-- ==== Proof.Kernel.Body.lean ====
/- Hand-written. The attention call as a whole, at any reading of the floats: the pipeline's proof data over an invariant `I` of
   the scratch buffers and a predicate `O` of the written block, the body obligation from one step's relation (Run.lean), and
   the launch. `Spec` is what a step has to establish; with `I` and `O` true it is the frame. -/
module

public import proofs.«01_k».proof.Proof.Kernel.Run
public import Idealize.ShloMosaic.Lib.Pipeline.DatRel
public import Idealize.ShloMosaic.Lib.Pipeline.ArrRel

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main up to the region, over the algebra that counts transfers. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's two DMA cells. -/
abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body's transfers read: keys and values. -/
def H0 : Finset (Ref sig .tc) := {main_arg4, main_arg5}
theorem H0_sub : H0 ⊆ Pipeline.restRefs sig spec0 := by decide
theorem hbmPts0_eq (c : Dev nD) :
    (bigSep H0 (fun b => ((c : Thread nD τ).loc b) ↦{fullShare} V m c b) : sProp 𝕄)
      = iprop(wPt c hbK (V m c main_arg4) ∗ wPt c hbV (V m c main_arg5)) := by
  rw [BI.bigSep_eq_bigSepL_of_eq [main_arg4, main_arg5] (by decide) (by decide)]; rfl

/-- What the launch hands the invariant, spelt out. -/
theorem PhiD0_eq (c : Dev nD) :
    (Pipeline.ΦD osem0 spec0 H0 (V m) c : sProp 𝕄)
      = iprop(iprop((∃ f, wPt c scY f) ∗ (∃ f, wPt c scK f) ∗ (∃ f, wPt c scV f) ∗ (∃ f, wPt c scS f) ∗ (∃ f, wPt c scM f) ∗ (∃ f, wPt c scA f))
          ∗ (∃ r, prngReg c r)
          ∗ iprop(semVal ((c : Thread nD τ), SemLoc.dma 10) 0 ∗ semVal ((c : Thread nD τ), SemLoc.dma 11) 0)
          ∗ iprop(wPt c hbK (V m c main_arg4) ∗ wPt c hbV (V m c main_arg5))) := by
  rw [Pipeline.ΦD_eq, scopedRest0_eq, ownSems00_eq, hbmPts0_eq]

theorem wPs_whole (c : Dev nD) (b : Ref sig .tc) (f : Buf (Elt F) ((c : Thread nD τ).loc b)) :
    (wPs c (Memref.whole b) f : sProp 𝕄) = wPt c (Memref.whole b) f := by
  show ((Memref.whole b).view.loc (c : Thread nD τ) ↦[(Memref.whole b).view.set]{fullShare} f : sProp 𝕄) = _
  simp only [Memref.view_whole, View.set_whole]

theorem wPs_of (c : Dev nD) (b : Ref sig .tc) (f : Buf (Elt F) ((c : Thread nD τ).loc b)) :
    (wPt c (Memref.whole b) f : sProp 𝕄) ⊢ wPs c (Memref.whole b) f := by rw [wPs_whole]
theorem wPt_of (c : Dev nD) (b : Ref sig .tc) (f : Buf (Elt F) ((c : Thread nD τ).loc b)) :
    (wPs c (Memref.whole b) f : sProp 𝕄) ⊢ wPt c (Memref.whole b) f := by rw [wPs_whole]

/-- What one step has to establish of the invariant `I` (over the number of steps done) and the predicate `O` of the block
    written at a step: the first step of a head makes the invariant from anything and may write any block; a later step keeps
    the invariant and writes a block meeting `O`. The windows' buffers are known by what they read: their blocks. -/
structure Spec (c : Dev nD) (I : ℕ → St F c → Prop) (O : Fin cfg0.N → (S1x256x128.Idx → Elt F .bf16) → Prop) : Prop where
  init : ∀ s, I 0 s
  stepA : ∀ (t : Fin cfg0.N) (h1 : k0_cond1 (grid0.coords t) = 1#1)
    (f2 : WBuf (F := F) c (st0_0 t)) (f3 : WBuf (F := F) c (st0_1 t)) (f4 : WBuf (F := F) c (st0_2 t)) (s s' : St F c),
    (st0_0 t).view.read (Elt F) f2 = iblk m c 0 t → (st0_1 t).view.read (Elt F) f3 = iblk m c 1 t → (st0_2 t).view.read (Elt F) f4 = iblk m c 2 t →
    RelA c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) h1 f2 f3 f4 (V m c main_arg4) (V m c main_arg5) s s' →
    I (t.val + 1) s'
  outA : ∀ (t : Fin cfg0.N) (h1 : k0_cond1 (grid0.coords t) = 1#1) X, O t X
  stepB : ∀ (t : Fin cfg0.N) (h1 : ¬ k0_cond1 (grid0.coords t) = 1#1)
    (f2 : WBuf (F := F) c (st0_0 t)) (f3 : WBuf (F := F) c (st0_1 t)) (f5 : WBuf (F := F) c (st0_3 t)) (f8 o : WBuf (F := F) c (st0_4 t)) (s s' : St F c),
    (st0_0 t).view.read (Elt F) f2 = iblk m c 0 t → (st0_1 t).view.read (Elt F) f3 = iblk m c 1 t → (st0_3 t).view.read (Elt F) f5 = iblk m c 3 t →
    I t.val s →
    RelB c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) f2 f3 f5 f8 s s' o →
    I (t.val + 1) s' ∧ O t ((st0_4 t).view.read (Elt F) o)

section
variable (c : Dev nD) (I : ℕ → St F c → Prop) (O : Fin cfg0.N → (S1x256x128.Idx → Elt F .bf16) → Prop)

/-- What is held between two steps, `n` steps done. -/
abbrev PhiI (n : ℕ) : sProp 𝕄 :=
  iprop(∃ s : St F c, ⌜I n s⌝ ∗ stPts c s ∗ (∃ r, prngReg c r)
          ∗ iprop(semVal ((c : Thread nD τ), SemLoc.dma 10) 0 ∗ semVal ((c : Thread nD τ), SemLoc.dma 11) 0)
          ∗ iprop(wPt c hbK (V m c main_arg4) ∗ wPt c hbV (V m c main_arg5)))

/-- The pipeline's proof data: the arrays as launched, every input's block left in place, the invariant over the scratch. -/
def dat : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := PhiI m c I t.val
  q _ := fullShare
  owed _ := 0

theorem before_0 (t : Fin cfg0.N) (d) : (dat m c I).before 0 t d = iblk m c 0 t :=
  ((dat m c I).before_in_eq_fetched 0 rfl (fun _ => rfl) (fun _ _ _ => rfl) (fun t => rfl) t d).trans rfl
theorem before_1 (t : Fin cfg0.N) (d) : (dat m c I).before 1 t d = iblk m c 1 t :=
  ((dat m c I).before_in_eq_fetched 1 rfl (fun _ => rfl) (fun _ _ _ => rfl) (fun t => rfl) t d).trans rfl
theorem before_2 (t : Fin cfg0.N) (d) : (dat m c I).before 2 t d = iblk m c 2 t :=
  ((dat m c I).before_in_eq_fetched 2 rfl (fun _ => rfl) (fun _ _ _ => rfl) (fun t => rfl) t d).trans rfl
theorem before_3 (t : Fin cfg0.N) (d) : (dat m c I).before 3 t d = iblk m c 3 t :=
  ((dat m c I).before_in_eq_fetched 3 rfl (fun _ => rfl) (fun _ _ _ => rfl) (fun t => rfl) t d).trans rfl

/-- The output window is the one held to a predicate. -/
def fgt : Fin cfg0.W → Bool
  | ⟨4, _⟩ => true
  | _ => false
/-- Its predicate. -/
def Rl : (w : Fin cfg0.W) → Fin cfg0.N → ((cfg0.win w).block.Idx → Elt F (cfg0.win w).elt) → Prop
  | ⟨4, _⟩ => fun t X => O t X
  | _ => fun _ _ => True

theorem defs₀_row (t : Fin cfg0.N) : defs₀ (F := F) .tc cfg0.body (cfg0.bodyArgs t (cfg0.slots t)) = bodyAt0 t := by
  unfold defs₀; rw [Defs.onTc_tc]

/-- The first step of a head is the only one at which the second guard may hold. -/
theorem cond2_of (i : grid0.Coords) (h1 : ¬ (k0_cond1 i = 1#1)) : ¬ (cond2 i = 1#1) := by
  intro h2; apply h1
  have key : ∀ a b : BitVec 1, Scalar.cmpi .ne (Scalar.extui (Scalar.andi a b)) 0#32 = 1#1 → Scalar.cmpi .ne (Scalar.extui a) 0#32 = 1#1 := by decide
  exact key _ _ h2

set_option maxHeartbeats 4000000 in
/-- One step, over the window buffers. -/
theorem body_step (sp : Spec m c I O) (t : Fin cfg0.N) :
    iprop(PhiI m c I t.val ∗ (dat m c I).owesAt () t.castSucc
      ∗ (∃ d, owns (c : Thread nD τ) (st0_0 t) fullShare ((dat m c I).before 0 t d))
      ∗ (∃ d, owns (c : Thread nD τ) (st0_1 t) fullShare ((dat m c I).before 1 t d))
      ∗ (∃ d, owns (c : Thread nD τ) (st0_2 t) fullShare ((dat m c I).before 2 t d))
      ∗ (∃ d, owns (c : Thread nD τ) (st0_3 t) fullShare ((dat m c I).before 3 t d))
      ∗ (∃ Y, ⌜((dat m c I).toRRel fgt (Rl O)).Finds 4 t Y⌝ ∗ owns (c : Thread nD τ) (st0_4 t) fullShare Y))
    ⊢ wp frame (wpE (defs₀ (F := F)) Variants.none c none) Set.univ (bodyAt0 t) fun _ =>
        iprop(PhiI m c I (t.val + 1) ∗ (dat m c I).owesAt () t.succ
          ∗ owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ (∃ X, ⌜Rl O 4 t X⌝ ∗ owns (c : Thread nD τ) (st0_4 t) fullShare X)) := by
  simp only [before_0, before_1, before_2, before_3]
  unfold Dat.owesAt Pipeline.owesWithin owns
  iintro ⟨⟨%s, %hI, Hst, Hr, ⟨Hq0, Hq1⟩, Hh0, Hh1⟩, ⟨%W, -, HW⟩, ⟨%d0, H0⟩, ⟨%d1, H1⟩, ⟨%d2, H2⟩, ⟨%d3, H3⟩, ⟨%Y, -, H4⟩⟩
  icases H0 with ⟨%f2, %hf2, H0⟩
  icases H1 with ⟨%f3, %hf3, H1⟩
  icases H2 with ⟨%f4, %hf4, H2⟩
  icases H3 with ⟨%f5, %hf5, H3⟩
  icases H4 with ⟨%f8, -, H4⟩
  by_cases h1 : k0_cond1 (grid0.coords t) = 1#1
  · iapply (runA (F := F) c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) f2 f3 f4 f5 f8 s (V m c main_arg4) (V m c main_arg5) h1 W _)
    isplitl [H0 H1 H2 H3 H4 Hst Hq0 Hq1 Hh0 Hh1]
    · isplitl [H0]; · iexact H0
      isplitl [H1]; · iexact H1
      isplitl [H2]; · iexact H2
      isplitl [H3]; · iexact H3
      isplitl [H4]; · iexact H4
      isplitl [Hst]; · iexact Hst
      isplitl [Hq0]; · iexact Hq0
      isplitl [Hq1]; · iexact Hq1
      isplitl [Hh0]; · iexact Hh0
      iexact Hh1
    isplitl [HW]; · iexact HW
    iintro ⟨%s', %o, %W', ⟨H0, H1, H2, H3, H4, Hst, Hq0, Hq1, Hh0, Hh1⟩, HW, %hR⟩
    isplitl [Hst Hr Hq0 Hq1 Hh0 Hh1]
    · iexists s'
      isplitr; · ipureintro; exact sp.stepA t h1 f2 f3 f4 s s' hf2 hf3 hf4 hR
      isplitl [Hst]; · iexact Hst
      isplitl [Hr]; · iexact Hr
      isplitl [Hq0 Hq1]
      · isplitl [Hq0]; · iexact Hq0
        iexact Hq1
      isplitl [Hh0]; · iexact Hh0
      iexact Hh1
    isplitl [HW]
    · iexists W'; isplitr
      · ipureintro; exact fun _ _ => Or.inl trivial
      · iexact HW
    isplitl [H0]; · iexists f2; isplitr; · ipureintro; exact hf2
                    iexact H0
    isplitl [H1]; · iexists f3; isplitr; · ipureintro; exact hf3
                    iexact H1
    isplitl [H2]; · iexists f4; isplitr; · ipureintro; exact hf4
                    iexact H2
    isplitl [H3]; · iexists f5; isplitr; · ipureintro; exact hf5
                    iexact H3
    iexists ((st0_4 t).view.read (Elt F) o)
    isplitr; · ipureintro; exact sp.outA t h1 _
    iexists o; isplitr; · ipureintro; rfl
    iexact H4
  · iapply (runB (F := F) c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) f2 f3 f4 f5 f8 s (V m c main_arg4) (V m c main_arg5) h1 (cond2_of _ h1) W _)
    isplitl [H0 H1 H2 H3 H4 Hst Hq0 Hq1 Hh0 Hh1]
    · isplitl [H0]; · iexact H0
      isplitl [H1]; · iexact H1
      isplitl [H2]; · iexact H2
      isplitl [H3]; · iexact H3
      isplitl [H4]; · iexact H4
      isplitl [Hst]; · iexact Hst
      isplitl [Hq0]; · iexact Hq0
      isplitl [Hq1]; · iexact Hq1
      isplitl [Hh0]; · iexact Hh0
      iexact Hh1
    isplitl [HW]; · iexact HW
    iintro ⟨%s', %o, %W', ⟨H0, H1, H2, H3, H4, Hst, Hq0, Hq1, Hh0, Hh1⟩, HW, %hR⟩
    isplitl [Hst Hr Hq0 Hq1 Hh0 Hh1]
    · iexists s'
      isplitr; · ipureintro; exact (sp.stepB t h1 f2 f3 f5 f8 o s s' hf2 hf3 hf5 hI hR).1
      isplitl [Hst]; · iexact Hst
      isplitl [Hr]; · iexact Hr
      isplitl [Hq0 Hq1]
      · isplitl [Hq0]; · iexact Hq0
        iexact Hq1
      isplitl [Hh0]; · iexact Hh0
      iexact Hh1
    isplitl [HW]
    · iexists W'; isplitr
      · ipureintro; exact fun _ _ => Or.inl trivial
      · iexact HW
    isplitl [H0]; · iexists f2; isplitr; · ipureintro; exact hf2
                    iexact H0
    isplitl [H1]; · iexists f3; isplitr; · ipureintro; exact hf3
                    iexact H1
    isplitl [H2]; · iexists f4; isplitr; · ipureintro; exact hf4
                    iexact H2
    isplitl [H3]; · iexists f5; isplitr; · ipureintro; exact hf5
                    iexact H3
    iexists ((st0_4 t).view.read (Elt F) o)
    isplitr; · ipureintro; exact (sp.stepB t h1 f2 f3 f5 f8 o s s' hf2 hf3 hf5 hI hR).2
    iexists o; isplitr; · ipureintro; rfl
    iexact H4

/-- The body obligation of the data, the output window held to its predicate. -/
theorem bodyRel (sp : Spec m c I O) : BodyObligationRel (dat m c I) (defs₀ (F := F)) Variants.none () Set.univ fgt (Rl O) := fun t => by
  rw [bigSep_W0, bigSep_W0, defs₀_row]
  dsimp only [fgt]
  exact body_step m c I O sp t

end

/-- THE RUN: at any invariant and predicate that a step establishes, the kernel terminates without fault, the inputs end as
    they were, the output array is one that blocks meeting the predicate can have left, and every semaphore ends at zero. -/
theorem run_of (I : (c : Dev nD) → ℕ → St F c → Prop) (O : (c : Dev nD) → Fin cfg0.N → (S1x256x128.Idx → Elt F .bf16) → Prop)
    (sp : ∀ c, Spec m c (I c) (O c)) :
    θ_run defs (onTc (τ := τ) (main (F := F))) (s₀ m ρ)
      (fun r => RDat.FramePost cfg0 (fun c => (dat m c (I c)).toRRel fgt (Rl (O c))) (V m) r ∧ r.2.sem = (fun _ => 0)) :=
  RDat.θ_run_frame_dma cfgs 0 launch0 osem0 defs₀ Variants.none (fun c => (dat m c (I c)).toRRel fgt (Rl (O c))) ownSemFacts0 H0 H0_sub m ρ main
    (fun c => (bodyRel m c (I c) (O c) (sp c)).toRRel) (fun c => (dat m c (I c)).share_full fun _ => rfl) (fun _ _ => rfl) (V m) (hmain m Variants.none) (fun _ _ => rfl)
    (fun c => by
      rw [PhiD0_eq]
      show _ ⊢ PhiI m c (I c) 0
      iintro ⟨⟨⟨%y, HY⟩, ⟨%k, HK⟩, ⟨%v, HV⟩, ⟨%x, HS⟩, ⟨%mm, HM⟩, ⟨%a, HA⟩⟩, Hr, Hq, Hh⟩
      iexists (St.mk y k v x mm a)
      isplitr; · ipureintro; exact (sp c).init _
      isplitl [HY HK HV HS HM HA]
      · isplitl [HY]; · iapply (wPs_of c cc0_scratch0 y); iexact HY
        isplitl [HK]; · iapply (wPs_of c cc0_scratch1 k); iexact HK
        isplitl [HV]; · iapply (wPs_of c cc0_scratch2 v); iexact HV
        isplitl [HS]; · iapply (wPs_of c cc0_scratch3 x); iexact HS
        isplitl [HM]; · iapply (wPs_of c cc0_scratch4 mm); iexact HM
        iapply (wPs_of c cc0_scratch5 a); iexact HA
      isplitl [Hr]; · iexact Hr
      isplitl [Hq]; · iexact Hq
      iexact Hh)
    (fun c => by
      rw [PhiD0_eq]
      show PhiI m c (I c) _ ⊢ _
      iintro ⟨%s, -, Hst, Hr, Hq, Hh⟩
      icases Hst with ⟨HY, HK, HV, HS, HM, HA⟩
      isplitl [HY HK HV HS HM HA]
      · isplitl [HY]; · iexists s.Y; iapply (wPt_of c cc0_scratch0 s.Y); iexact HY
        isplitl [HK]; · iexists s.K; iapply (wPt_of c cc0_scratch1 s.K); iexact HK
        isplitl [HV]; · iexists s.V; iapply (wPt_of c cc0_scratch2 s.V); iexact HV
        isplitl [HS]; · iexists s.S; iapply (wPt_of c cc0_scratch3 s.S); iexact HS
        isplitl [HM]; · iexists s.M; iapply (wPt_of c cc0_scratch4 s.M); iexact HM
        iexists s.A; iapply (wPt_of c cc0_scratch5 s.A); iexact HA
      isplitl [Hr]; · iexact Hr
      isplitl [Hq]; · iexact Hq
      iexact Hh)
    _ (fun _ h => h)

end Cert.Kernel.Attn

end
-- ==== Proof.Kernel.FrameRun.lean ====
/- Hand-written. The frame of the attention call, at any reading of the floats: the run of Body.lean with nothing asked of the
   scratch buffers or of the written blocks. -/
module

public import proofs.«01_k».proof.Proof.Kernel.Body

@[expose] public section

set_option maxRecDepth 16384

noncomputable section

namespace Cert.Kernel.Attn

open Cert.Kernel Cert.Kernel.Gen
open Idealize.ShloMosaic Idealize.ShloMosaic.TcCoe
open Idealize.SL.Sem
open Idealize.ShloMosaic.Pipeline (Dat RDat Cfg Window)

variable {F : FTy → Type} [FloatOps F]
variable (m : (ℓ : Loc nD τ sig) → Buf (Elt F) ℓ) (ρ : Dev nD → PrngReg)

/-- The argument arrays end as they were, read off the run's post. -/
theorem args_of_post (I : (c : Dev nD) → ℕ → St F c → Prop) (O : (c : Dev nD) → Fin cfg0.N → (S1x256x128.Idx → Elt F .bf16) → Prop)
    (r : PUnit × MemSt nD τ sig (Elt F))
    (h : RDat.FramePost cfg0 (fun c => (dat m c (I c)).toRRel fgt (Rl (O c))) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨h.arr_in c 0 rfl, h.arr_in c 1 rfl, h.arr_in c 2 rfl, h.arr_in c 3 rfl,
    (h c).2 main_arg4 (Pipeline.mem_restRefs_of main_arg4 (by decide) (by decide)),
    (h c).2 main_arg5 (Pipeline.mem_restRefs_of main_arg5 (by decide) (by decide))⟩

/-- THE FRAME: the call terminates, nothing faults, its six argument arrays end unchanged, every semaphore ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of_post m _ _ r h.1, h.2⟩)
    (run_of m ρ (fun _ _ _ => True) (fun _ _ _ => True) fun _ =>
      ⟨fun _ => trivial, fun _ _ _ _ _ _ _ _ _ _ _ => trivial, fun _ _ _ => trivial, fun _ _ _ _ _ _ _ _ _ _ _ _ _ _ => ⟨trivial, trivial⟩⟩)

end Cert.Kernel.Attn

end
-- ==== Proof.KernelIdeal.Loops.lean ====
/- The two counted loops of the attention call's body — the fill of the key scales and the pass over the chunks of keys — as
   obligations of the executor, over the algebra that counts transfers. One trip of each loop is run once, over a symbolic trip;
   what the trips write is collected by recursion on the number of trips done. The text follows the generated loops module of
   this certificate line by line; only the algebra is another one. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.Frame

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (Pipeline.UD sig nD τ) ℕ
/-! ## `cc0_attention` -/

/-- The class of invariants of `k0_part8`'s counted loop `k0_t1_loop` (`scf.for %arg16 = %c0_i32_37
   to %53 step %c1_i32_38 : i32 {`), trip `k0_t1`, carrying `Unit`, region `Gen.k0_t1_body`.
   Classifier: AFFINE — every store at a `Rect.unit` whose offsets are a stated closed form of the
   trips, nothing carried, no transfer or conditional inside: the invariant is the pieces of the
   trips before `k`. Per trip it STORES through arg12 at (k0_off4
   k0_t1). It LOADS through arg4 at (k0_off3 k0_t1); arg12 at (k0_off4 k0_t1). generated below:
   `Gen.loopInv_k0_t1` (`@[sl_loop]`), at the frame kit's algebra — a run at that algebra (the
   generated frame's, or a hand proof's over `MT nD τ sig Unit (Elt F) ℕ (Pipeline.UD sig nD τ) ℕ`) goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 k0_h1)

/-! ### `k0_t1_loop`: the generated invariant (classifier: affine) -/

/-- One trip's resources: what the region reads (arg4) at its contents, what it writes (arg12) at
   any. -/
abbrev Trip_k0_t1 (c : Dev nD) (arg4 : Memref sig .tc .vmem S1x234x128 .f32) (arg12 : Memref sig .tc .vmem S29952x128 .f32) (X_arg4 : BufTy.Contents (Elt F) arg4.view.ty) (f_arg12 : BufTy.Contents (Elt F) arg12.view.ty) : sProp 𝕄G :=
  iprop((arg4.view.loc (c : Thread nD τ) ↦[arg4.view.set]{fullShare} X_arg4) ∗ (arg12.view.loc (c : Thread nD τ) ↦[arg12.view.set]{fullShare} f_arg12))

/-- ONE TRIP of `k0_t1_loop` at a symbolic `k`, run by `sl_exec` (its rectangles' offsets closed
   forms of `k`, their geometry linear arithmetic): the pieces it writes into arg12 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (k : Fin k0_t1_loop.trips) :
    { L_arg12 : List (View.Piece (Elt F) S29952x128 .f32) // ∀ (E : Set ℕ) (f_arg12 : BufTy.Contents (Elt F) arg12.view.ty),
      Trip_k0_t1 (F := F) c arg4 arg12 X_arg4 f_arg12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 k0_h1 k PUnit.unit)
          (fun _ => Trip_k0_t1 (F := F) c arg4 arg12 X_arg4 (arg12.view.writes (Elt F) f_arg12 L_arg12)) } := by
  have hk : k.val < 234 := Nat.lt_of_lt_of_le k.isLt k0_t1_abs.2.1
  refine ⟨?_, fun E f_arg12 => ?run⟩
  case run =>
    unfold k0_t1_body
    iintro ⟨HR_arg4, HW_arg12⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (k : Fin k0_t1_loop.trips) : List (View.Piece (Elt F) S29952x128 .f32) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (k : ℕ) (prev : List (View.Piece (Elt F) S29952x128 .f32)) : List (View.Piece (Elt F) S29952x128 .f32) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 ⟨k, h⟩) ++ prev
  else prev

/-- The pieces of the trips before `k` (last first), per written memref. -/
def pb_k0_t1 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) : ℕ → List (View.Piece (Elt F) S29952x128 .f32)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k)

theorem pb_k0_t1_succ (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k.val) := by
  rw [pb_k0_t1.eq_2]; unfold pb_k0_t1Step; exact dif_pos k.isLt

/-- THE INVARIANT before trip `k`: arg4 read at `X_·`; arg12 holding the pieces of the trips before
   `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (G_arg12 : BufTy.Contents (Elt F) arg12.view.ty) (k : ℕ) (_u : PUnit) : sProp 𝕄G :=
  iprop((arg4.view.loc (c : Thread nD τ) ↦[arg4.view.set]{fullShare} X_arg4) ∗ (∃ f, (arg12.view.loc (c : Thread nD τ) ↦[arg12.view.set]{fullShare} f) ∗ ⌜f = arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (k0_h1 : k0_cond1 i = 1#1) (X_arg4 : BufTy.Contents (Elt F) arg4.view.ty) (G_arg12 : BufTy.Contents (Elt F) arg12.view.ty) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 k0_h1 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 G_arg12
  step k acc := by
    iintro ⟨HR_arg4, ⟨%f_arg12, HW_arg12, %h_arg12⟩⟩
    iapply (wp_wand_r Idealize.ShloMosaic.frame (wpE (defs₀ (F := F)) 𝒱 (c : Thread nD τ) bd) E)
    isplitl [HR_arg4 HW_arg12]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 k0_h1 X_arg4 k).2 E f_arg12)
      isplitl [HR_arg4]; · iexact HR_arg4
      iexact HW_arg12
    · iintro %_ ⟨HR_arg4, HW_arg12⟩
      isplitl [HR_arg4]; · iexact HR_arg4
      rw [pb_k0_t1_succ]
      iexists _; isplitl [HW_arg12]; · iexact HW_arg12
      ipureintro; rw [h_arg12, ← View.writes_append]

/-- The class of invariants of `k0_part8`'s counted loop `k0_t2_loop` (`%28:2 = scf.for %arg16 =
   %c0_i32_18 to %27 step %c1_i32 iter_args(%arg17 = %25, %arg18 = %26) -> (vector<8x256xf32>,
   vector<8x256xf32>) : i32 {`), trip `k0_t2`, carrying `FVec F S8x256 .f32 × FVec F S8x256 .f32`,
   region `Gen.k0_t2_body`. Classifier: LISTED — every store at a `Rect.unit` through a memref
   parameter of the region, no rectangle computed from the carried value, no transfer or conditional
   inside: the invariant is the pieces of the trips before `k`; not affine (the trip loads `arg9`
   live and stores into it through a chain applied at row constants (`(k0_off6 k0_t2 0#32)`): the
   generated run does not place such a load against the trip's own stores, so the stores are left
   unevaluated), so a frame cannot place those pieces and must find the memref written covered by a
   whole-block store of the same case. The region loads back what it stores into `arg9`, `arg14` (an
   accumulation): each trip's pieces are stated as functions of the contents it finds there. The
   same recursion (`Gen.st_k0_t2`) gives the carried value before trip `k`, each trip's yield a
   function the run finds. One trip calls the parts `k0_part1`, `k0_part2`, `k0_part3`, `k0_part4`,
   `k0_part5`, `k0_part6`, `k0_part7`. Per trip it STORES through arg9 at (k0_off6 k0_t2 0#32); arg9
   at (k0_off6 k0_t2 128#32); arg9 at (k0_off6 k0_t2 256#32); arg9 at (k0_off6 k0_t2 384#32); arg9
   at (k0_off6 k0_t2 512#32); arg9 at (k0_off6 k0_t2 640#32); arg9 at (k0_off6 k0_t2 768#32); arg9
   at (k0_off6 k0_t2 896#32); arg9 at (k0_off6 k0_t2 1024#32); arg14 at ![0, 0]. It LOADS through
   arg10 at (k0_off5 k0_t2); arg9 at (k0_off6 k0_t2 0#32); arg11 at (k0_off7 k0_t2 0#32); arg12 at
   (k0_off8 k0_t2 0#32); arg9 at (k0_off6 k0_t2 128#32); arg11 at (k0_off7 k0_t2 128#32); arg12 at
   (k0_off8 k0_t2 128#32); arg9 at (k0_off6 k0_t2 256#32); arg11 at (k0_off7 k0_t2 256#32); arg12 at
   (k0_off8 k0_t2 256#32); arg9 at (k0_off6 k0_t2 384#32); arg11 at (k0_off7 k0_t2 384#32); and
   more. generated below: `Gen.loopInv_k0_t2` (`@[sl_loop]`), at the frame kit's algebra — a run at
   that algebra (the generated frame's, or a hand proof's over `MT nD τ sig Unit (Elt F) ℕ (UR sig
   nD τ) ℕ`) goes through the loop with nothing more to state; a proof at another algebra instances
   the class itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (init : FVec F S8x256 .f32 × FVec F S8x256 .f32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok init (k0_t2_body (F := F) i arg2 harg2 arg3 harg3 arg4 harg4 arg5 harg5 arg6 harg6 arg7 harg7 arg8 harg8 arg9 harg9 arg10 harg10 arg11 harg11 arg12 harg12 arg13 harg13 arg14 harg14 arg15 v8 v12 v18)

/-! ### `k0_t2_loop`: the generated invariant (classifier: listed) -/

/-- One trip's resources: what the region reads (arg10, arg11, arg12) at its contents, what it
   writes (arg9, arg14) at any. -/
abbrev Trip_k0_t2 (c : Dev nD) (arg10 : Memref sig .tc .vmem S29952x128 .bf16) (arg11 : Memref sig .tc .vmem S128x29952 .fp8e4m3) (arg12 : Memref sig .tc .vmem S29952x128 .f32) (arg9 : Memref sig .tc .vmem S29952x256 .f32) (arg14 : Memref sig .tc .vmem S128x256 .f32) (X_arg10 : BufTy.Contents (Elt F) arg10.view.ty) (X_arg11 : BufTy.Contents (Elt F) arg11.view.ty) (X_arg12 : BufTy.Contents (Elt F) arg12.view.ty) (f_arg9 : BufTy.Contents (Elt F) arg9.view.ty) (f_arg14 : BufTy.Contents (Elt F) arg14.view.ty) : sProp 𝕄G :=
  iprop((arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg9.view.loc (c : Thread nD τ) ↦[arg9.view.set]{fullShare} f_arg9) ∗ (arg14.view.loc (c : Thread nD τ) ↦[arg14.view.set]{fullShare} f_arg14))

/-- ONE TRIP of `k0_t2_loop` at a symbolic `k` and carried value `acc`, run by `sl_exec` (its
   rectangles where the program's in-range evidence puts them, their places unread): what it yields
   and the pieces it writes into arg9, arg14 are the run's own finds — the witnesses `sl_close`
   assigns handing the buffers to the continuation, as functions of the carried value and of the
   contents the trip finds in the memrefs it writes (the region loads some of them back).
   `@[irreducible]`: cited, never unfolded. -/
@[irreducible] def trip_k0_t2 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (k : Fin k0_t2_loop.trips) :
    Σ' (R_k0_t2 : ((FVec F S8x256 .f32 × FVec F S8x256 .f32) → BufTy.Contents (Elt F) arg9.view.ty → BufTy.Contents (Elt F) arg14.view.ty → FVec F S8x256 .f32 × FVec F S8x256 .f32)) (L_arg9 : ((FVec F S8x256 .f32 × FVec F S8x256 .f32) → BufTy.Contents (Elt F) arg9.view.ty → BufTy.Contents (Elt F) arg14.view.ty → List (View.Piece (Elt F) S29952x256 .f32))) , { L_arg14 : ((FVec F S8x256 .f32 × FVec F S8x256 .f32) → BufTy.Contents (Elt F) arg9.view.ty → BufTy.Contents (Elt F) arg14.view.ty → List (View.Piece (Elt F) S128x256 .f32)) // ∀ (E : Set ℕ) (acc : FVec F S8x256 .f32 × FVec F S8x256 .f32) (f_arg9 : BufTy.Contents (Elt F) arg9.view.ty) (f_arg14 : BufTy.Contents (Elt F) arg14.view.ty),
      Trip_k0_t2 (F := F) c arg10 arg11 arg12 arg9 arg14 X_arg10 X_arg11 X_arg12 f_arg9 f_arg14
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 v8 v12 v18 k acc)
          (fun yld => iprop(⌜yld = R_k0_t2 acc f_arg9 f_arg14⌝ ∗ Trip_k0_t2 (F := F) c arg10 arg11 arg12 arg9 arg14 X_arg10 X_arg11 X_arg12 (arg9.view.writes (Elt F) f_arg9 (L_arg9 acc f_arg9 f_arg14)) (arg14.view.writes (Elt F) f_arg14 (L_arg14 acc f_arg9 f_arg14)))) } := by
  have hk : k.val < 26 := Nat.lt_of_lt_of_le k.isLt k0_t2_abs.2.1
  refine ⟨?_, ?_, ?_, fun E acc f_arg9 f_arg14 => ?run⟩
  case run =>
    unfold k0_t2_body
    iintro ⟨HR_arg10, HR_arg11, HR_arg12, HW_arg9, HW_arg14⟩
    sl_exec
    sl_step
    sl_close

/-- The trip's result (a plain projection of `trip_…`, for the recursion below to cite without its
   proof). -/
abbrev tripR_k0_t2 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (k : Fin k0_t2_loop.trips) (acc : FVec F S8x256 .f32 × FVec F S8x256 .f32) (f_arg9 : BufTy.Contents (Elt F) arg9.view.ty) (f_arg14 : BufTy.Contents (Elt F) arg14.view.ty) : FVec F S8x256 .f32 × FVec F S8x256 .f32 :=
  (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k).1 acc f_arg9 f_arg14

/-- The trip's piece lists (plain projections of `trip_…`, for the recursion below to cite without
   its proof), at the carried value and the contents the trip finds in the written memrefs. -/
abbrev tripL_k0_t2 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (k : Fin k0_t2_loop.trips) (acc : FVec F S8x256 .f32 × FVec F S8x256 .f32) (f_arg9 : BufTy.Contents (Elt F) arg9.view.ty) (f_arg14 : BufTy.Contents (Elt F) arg14.view.ty) : List (View.Piece (Elt F) S29952x256 .f32) × List (View.Piece (Elt F) S128x256 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k).2.1 acc f_arg9 f_arg14, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k).2.2.1 acc f_arg9 f_arg14)

/-- Trip `k`'s contribution to the state the recursion `st_k0_t2` below carries (`prev`): its result
   as the new carried value and its pieces in front, per written memref; past the last trip, `prev`
   itself. -/
@[irreducible] def st_k0_t2Step (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) (k : ℕ) (prev : (FVec F S8x256 .f32 × FVec F S8x256 .f32) × List (View.Piece (Elt F) S29952x256 .f32) × List (View.Piece (Elt F) S128x256 .f32)) : (FVec F S8x256 .f32 × FVec F S8x256 .f32) × List (View.Piece (Elt F) S29952x256 .f32) × List (View.Piece (Elt F) S128x256 .f32) :=
  if h : k < k0_t2_loop.trips then
    (tripR_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 ⟨k, h⟩ prev.1 (arg9.view.writes (Elt F) G_arg9 prev.2.1) (arg14.view.writes (Elt F) G_arg14 prev.2.2), (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 ⟨k, h⟩ prev.1 (arg9.view.writes (Elt F) G_arg9 prev.2.1) (arg14.view.writes (Elt F) G_arg14 prev.2.2)).1 ++ prev.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 ⟨k, h⟩ prev.1 (arg9.view.writes (Elt F) G_arg9 prev.2.1) (arg14.view.writes (Elt F) G_arg14 prev.2.2)).2 ++ prev.2.2)
  else prev

/-- The STATE before trip `k`: the carried value and, per written memref, the pieces of the trips
   before (last first), starting from the contents `G_·` at loop entry; each trip's pieces taken at
   the contents the earlier trips left. -/
def st_k0_t2 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) : ℕ → (FVec F S8x256 .f32 × FVec F S8x256 .f32) × List (View.Piece (Elt F) S29952x256 .f32) × List (View.Piece (Elt F) S128x256 .f32)
  | 0 => (init, [], [])
  | k + 1 => st_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k)

theorem st_k0_t2_succ (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) (k : Fin k0_t2_loop.trips) :
    st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init (k.val + 1)
      = ((tripR_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).1 (arg9.view.writes (Elt F) G_arg9 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.1) (arg14.view.writes (Elt F) G_arg14 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.2)), (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).1 (arg9.view.writes (Elt F) G_arg9 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.1) (arg14.view.writes (Elt F) G_arg14 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.2)).1 ++ (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).1 (arg9.view.writes (Elt F) G_arg9 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.1) (arg14.view.writes (Elt F) G_arg14 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.2)).2 ++ (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k.val).2.2) := by
  rw [st_k0_t2.eq_2]; unfold st_k0_t2Step; exact dif_pos k.isLt

/-- The carried value before trip 0 is the initial one: the invariant's equation at loop entry,
   which the run closes by this (`sl_pure`) without unfolding the value it holds. -/
theorem st_k0_t2_zero (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) :
    (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init 0).1 = init := rfl

/-- THE INVARIANT before trip `k`: arg10, arg11, arg12 read at `X_·`; arg9, arg14 holding the pieces
   of the trips before `k` written over the contents at loop entry `G_·` (stated `∃ f, … ∗ ⌜f = …⌝`,
   so that a hypothesis of any contents matches and the equation is what is proved); and `acc` equal
   to the state's carried value (an equation the run substitutes after the loop). -/
abbrev inv_k0_t2 (𝒱 : Variants) (c : Dev nD) (bd : Option 𝒱.V) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) (k : ℕ) (acc : FVec F S8x256 .f32 × FVec F S8x256 .f32) : sProp 𝕄G :=
  iprop((arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (∃ f, (arg9.view.loc (c : Thread nD τ) ↦[arg9.view.set]{fullShare} f) ∗ ⌜f = arg9.view.writes (Elt F) G_arg9 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k).2.1⌝) ∗ (∃ f, (arg14.view.loc (c : Thread nD τ) ↦[arg14.view.set]{fullShare} f) ∗ ⌜f = arg14.view.writes (Elt F) G_arg14 (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k).2.2⌝) ∗ ⌜acc = (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k).1⌝)

set_option warn.classDefReducibility false in
/-- THE LOOP BY ITS INVARIANT — generated (`@[sl_loop]`: `sl_exec` finds it meeting `k0_t2_loop`,
   fixing `X_· G_·` and `init` against the context; after the loop each written memref holds `writes
   G (st … trips).2` and what it yields is `(st … trips).1`). -/
@[sl_loop] def loopInv_k0_t2 (𝒱 : Variants) (c : Dev nD) (bd : Option 𝒱.V) (E : Set ℕ) (i : grid0.Coords) (arg2 : Memref sig .tc .vmem S1x256x128 .bf16) (harg2 : arg2.IsWhole) (arg3 : Memref sig .tc .vmem S1x1x256 .f32) (harg3 : arg3.IsWhole) (arg4 : Memref sig .tc .vmem S1x234x128 .f32) (harg4 : arg4.IsWhole) (arg5 : Memref sig .tc .smem S1x1x1 .f32) (harg5 : arg5.IsWhole) (arg6 : Memref sig .tc .hbm S32x29952x128 .bf16) (harg6 : arg6.IsWhole) (arg7 : Memref sig .tc .hbm S32x128x29952 .fp8e4m3) (harg7 : arg7.IsWhole) (arg8 : Memref sig .tc .vmem S1x256x128 .bf16) (harg8 : arg8.IsWhole) (arg9 : Memref sig .tc .vmem S29952x256 .f32) (harg9 : arg9.IsWhole) (arg10 : Memref sig .tc .vmem S29952x128 .bf16) (harg10 : arg10.IsWhole) (arg11 : Memref sig .tc .vmem S128x29952 .fp8e4m3) (harg11 : arg11.IsWhole) (arg12 : Memref sig .tc .vmem S29952x128 .f32) (harg12 : arg12.IsWhole) (arg13 : Memref sig .tc .vmem S8x256 .f32) (harg13 : arg13.IsWhole) (arg14 : Memref sig .tc .vmem S128x256 .f32) (harg14 : arg14.IsWhole) (arg15 : DmaSems sig S2) (v8 : Vec F S1x1x256 .f32) (v12 : Vec F S8x256 .f32) (v18 : Vec F S1x256x128 .bf16) (X_arg10 : BufTy.Contents (Elt F) arg10.view.ty) (X_arg11 : BufTy.Contents (Elt F) arg11.view.ty) (X_arg12 : BufTy.Contents (Elt F) arg12.view.ty) (G_arg9 : BufTy.Contents (Elt F) arg9.view.ty) (G_arg14 : BufTy.Contents (Elt F) arg14.view.ty) (init : FVec F S8x256 .f32 × FVec F S8x256 .f32) :
    LoopInvTy_k0_t2 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 v8 v12 v18 init where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init
  step k acc := by
    iintro ⟨HR_arg10, HR_arg11, HR_arg12, ⟨%f_arg9, HW_arg9, %h_arg9⟩, ⟨%f_arg14, HW_arg14, %h_arg14⟩, %h_acc⟩
    subst h_acc
    iapply (wp_wand_r Idealize.ShloMosaic.frame (wpE (defs₀ (F := F)) 𝒱 (c : Thread nD τ) bd) E)
    isplitl [HR_arg10 HR_arg11 HR_arg12 HW_arg9 HW_arg14]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 k).2.2.2 E (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 v8 v12 v18 X_arg10 X_arg11 X_arg12 G_arg9 G_arg14 init k).1 f_arg9 f_arg14)
      isplitl [HR_arg10]; · iexact HR_arg10
      isplitl [HR_arg11]; · iexact HR_arg11
      isplitl [HR_arg12]; · iexact HR_arg12
      isplitl [HW_arg9]; · iexact HW_arg9
      iexact HW_arg14
    · iintro %yld ⟨%h_res, HR_arg10, HR_arg11, HR_arg12, HW_arg9, HW_arg14⟩
      isplitl [HR_arg10]; · iexact HR_arg10
      isplitl [HR_arg11]; · iexact HR_arg11
      isplitl [HR_arg12]; · iexact HR_arg12
      simp only [st_k0_t2_succ]
      isplitl [HW_arg9]
      · iexists _; isplitl [HW_arg9]; · iexact HW_arg9
        ipureintro; rw [h_arg9, h_arg14, ← View.writes_append]
      isplitl [HW_arg14]
      · iexists _; isplitl [HW_arg14]; · iexact HW_arg14
        ipureintro; rw [h_arg9, h_arg14, ← View.writes_append]
      ipureintro; rw [h_res, h_arg9, h_arg14]

end Cert.KernelIdeal.Attn

end
-- ==== Proof.KernelIdeal.Run.lean ====
/- Hand-written. One call of the attention kernel's body, at any reading of the floats: from the windows' buffers, the scratch
   buffers and the two HBM operands, the body runs to the end, and what it leaves in each buffer is stated as a term over
   what it found (`RelA` at the first step of a head, `RelB` at the later ones). -/
module

public import proofs.«01_k».proof.Proof.Gen.KernelIdeal.Frame
public import proofs.«01_k».proof.Proof.KernelIdeal.Loops

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Pipeline.UD sig nD τ) ℕ

/-! ## The operands -/

/-- The scores of the query block of the step before, one row per key. -/
abbrev scY : Memref sig .tc .vmem S29952x256 .f32 := Memref.whole cc0_scratch0
/-- The head's keys. -/
abbrev scK : Memref sig .tc .vmem S29952x128 .bf16 := Memref.whole cc0_scratch1
/-- The head's values, transposed. -/
abbrev scV : Memref sig .tc .vmem S128x29952 .fp8e4m3 := Memref.whole cc0_scratch2
/-- The head's key scales, each repeated along a row. -/
abbrev scS : Memref sig .tc .vmem S29952x128 .f32 := Memref.whole cc0_scratch3
/-- Eight partial maxima per query of the scores. -/
abbrev scM : Memref sig .tc .vmem S8x256 .f32 := Memref.whole cc0_scratch4
/-- The accumulator of the weighted values. -/
abbrev scA : Memref sig .tc .vmem S128x256 .f32 := Memref.whole cc0_scratch5
/-- The keys in HBM. -/
abbrev hbK : Memref sig .tc .hbm S32x29952x128 .bf16 := Memref.whole main_arg4
/-- The transposed values in HBM. -/
abbrev hbV : Memref sig .tc .hbm S32x128x29952 .fp8e4m3 := Memref.whole main_arg5

abbrev WBuf (c : Dev nD) {sp : Space} {S : Shape} {e : EltTy} (M : Memref sig .tc sp S e) : Type := Buf (Elt F) (M.view.loc (c : Thread nD τ))
abbrev wPt (c : Dev nD) {sp : Space} {S : Shape} {e : EltTy} (M : Memref sig .tc sp S e) (f : WBuf (F := F) c M) : sProp 𝕄 :=
  M.view.loc (c : Thread nD τ) ↦{fullShare} f
abbrev wPs (c : Dev nD) {sp : Space} {S : Shape} {e : EltTy} (M : Memref sig .tc sp S e) (f : WBuf (F := F) c M) : sProp 𝕄 :=
  M.view.loc (c : Thread nD τ) ↦[M.view.set]{fullShare} f

/-- The second guard's word: one at the first step of the first head only. -/
abbrev cond2 (i : grid0.Coords) : BitVec 1 :=
  Scalar.cmpi .ne (Scalar.extui (Scalar.andi (Scalar.cmpi .eq (BitVec.ofNat 32 (i 1).val) 0#32) (Scalar.cmpi .eq (BitVec.ofNat 32 (i 0).val) 0#32))) 0#32

/-- The contents of the six scratch buffers. -/
structure St (F : FTy → Type) (c : Dev nD) where
  Y : WBuf (F := F) c scY
  K : WBuf (F := F) c scK
  V : WBuf (F := F) c scV
  S : WBuf (F := F) c scS
  M : WBuf (F := F) c scM
  A : WBuf (F := F) c scA

/-- The six scratch buffers held at the contents `s`. -/
abbrev stPts (c : Dev nD) (s : St F c) : sProp 𝕄 :=
  iprop(wPs c scY s.Y ∗ wPs c scK s.K ∗ wPs c scV s.V ∗ wPs c scS s.S ∗ wPs c scM s.M ∗ wPs c scA s.A)

section Run
variable (c : Dev nD) (i : grid0.Coords)
    (arg2 : Memref sig .tc .vmem S1x256x128 .bf16) (harg2 : arg2.IsWhole) (arg3 : Memref sig .tc .vmem S1x1x256 .f32) (harg3 : arg3.IsWhole)
    (arg4 : Memref sig .tc .vmem S1x234x128 .f32) (harg4 : arg4.IsWhole) (arg5 : Memref sig .tc .smem S1x1x1 .f32) (harg5 : arg5.IsWhole)
    (arg8 : Memref sig .tc .vmem S1x256x128 .bf16) (harg8 : arg8.IsWhole)

/-- What the loop over the chunks ends with: the carried pair, the pieces written into the scores, the pieces written into
    the accumulator. -/
abbrev stT (v8 : Vec F S1x1x256 .f32) (v12 : Vec F S8x256 .f32) (v18 : Vec F S1x256x128 .bf16)
    (XK : WBuf (F := F) c scK) (XV : WBuf (F := F) c scV) (XS : WBuf (F := F) c scS) (GY : WBuf (F := F) c scY) :=
  st_k0_t2 (F := F) Variants.none c none i arg2 harg2 arg3 harg3 arg4 harg4 arg5 harg5 hbK (Memref.isWhole_whole _) hbV (Memref.isWhole_whole _) arg8 harg8
          scY (Memref.isWhole_whole _) scK (Memref.isWhole_whole _) scV (Memref.isWhole_whole _) scS (Memref.isWhole_whole _) scM (Memref.isWhole_whole _) scA (Memref.isWhole_whole _) cc0_scratch6
    v8 v12 v18 XK XV XS GY
    (scA.view.writes (Elt F) scA.view.junk [⟨Rect.unit ![0, 0] S128x256.size inb_S128x256_S128x256_0_0, k0_pay62⟩])
    (k0_pay63, k0_pay64) (Scf.trips k0_t2_loop.lb k0_t2_loop.ub k0_t2_loop.st)

/-- The pieces the fill loop writes into the key scales' scratch. -/
abbrev pbT (h1 : k0_cond1 i = 1#1) (f4 : WBuf (F := F) c arg4) :=
  pb_k0_t1 (F := F) Variants.none c none i arg2 harg2 arg3 harg3 arg4 harg4 arg5 harg5 hbK (Memref.isWhole_whole _) hbV (Memref.isWhole_whole _) arg8 harg8
          scY (Memref.isWhole_whole _) scK (Memref.isWhole_whole _) scV (Memref.isWhole_whole _) scS (Memref.isWhole_whole _) scM (Memref.isWhole_whole _) scA (Memref.isWhole_whole _) cc0_scratch6
    h1 f4 (Scf.trips k0_t1_loop.lb k0_t1_loop.ub k0_t1_loop.st)

/-- What the copy of the head's keys lands. -/
abbrev dmaK (h1 : k0_cond1 i = 1#1) (fhK : WBuf (F := F) c hbK) : S29952x128.Idx → Elt F .bf16 :=
  ReadAs.same.apply (View.read (Elt F)
    ((hbK.slice (Rect.unit (s := S32x29952x128) (k0_off1 i) S1x29952x128.size (k0_off1_inb i h1)) (fun _ => rfl)).squeeze S29952x128
          squeezes_S1x29952x128_S29952x128).view fhK)
/-- What the copy of the head's values lands. -/
abbrev dmaV (h1 : k0_cond1 i = 1#1) (fhV : WBuf (F := F) c hbV) : S128x29952.Idx → Elt F .fp8e4m3 :=
  ReadAs.same.apply (View.read (Elt F)
    ((hbV.slice (Rect.unit (s := S32x128x29952) (k0_off2 i) S1x128x29952.size (k0_off2_inb i h1)) (fun _ => rfl)).squeeze S128x29952
          squeezes_S1x128x29952_S128x29952).view fhV)

/-- A LATER STEP of a head, from the scratch contents `s`: keys, values and scales stay; the scores, the maxima and the
    output block are those of the chunk loop run over `s`. -/
def RelB (f2 : WBuf (F := F) c arg2) (f3 : WBuf (F := F) c arg3) (f5 : WBuf (F := F) c arg5) (f8 : WBuf (F := F) c arg8)
    (s s' : St F c) (o : WBuf (F := F) c arg8) : Prop :=
  let T := stT c i arg2 harg2 arg3 harg3 arg4 harg4 arg5 harg5 arg8 harg8
    (View.readAt (Elt F) arg3.view (Rect.unit ![0, 0, 0] S1x1x256.size inb_S1x1x256_S1x1x256_0_0_0).toLoadRect f3)
    (View.readAt (Elt F) scM.view (Rect.unit ![0, 0] S8x256.size inb_S8x256_S8x256_0_0).toLoadRect s.M)
    (View.readAt (Elt F) arg2.view (Rect.unit ![0, 0, 0] S1x256x128.size inb_S1x256x128_S1x256x128_0_0_0).toLoadRect f2)
    s.K s.V s.S s.Y
  s'.K = s.K ∧ s'.V = s.V ∧ s'.S = s.S
    ∧ s'.Y = scY.view.writes (Elt F) s.Y T.2.1
    ∧ s'.M = scM.view.writes (Elt F) s.M [⟨Rect.unit ![0, 0] S8x256.size inb_S8x256_S8x256_0_0, k0_pay1 T.1.2⟩]
    ∧ o = arg8.view.writes (Elt F) f8 [⟨Rect.unit ![0, 0, 0] S1x256x128.size inb_S1x256x128_S1x256x128_0_0_0,
        k0_pay2 T.1.1
          (scA.view.readCov (T.2.2 ++ [⟨Rect.unit ![0, 0] S128x256.size inb_S128x256_S128x256_0_0, k0_pay62⟩])
            (Rect.unit ![0, 0] S128x256.size inb_S128x256_S128x256_0_0).toLoadRect)
          (View.readAt (Elt F) arg5.view (Rect.unit ![0, 0, 0] S1x1x1.size inb_S1x1x1_S1x1x1_0_0_0).toLoadRect f5 (Shape.Idx.first (s := S1x1x1) (by decide)))⟩]

/-- THE FIRST STEP of a head: keys and values are copied in, the key scales filled in; the scores and the maxima are those
    of a chunk loop run over the head's keys and scales, whatever scores it started from. -/
def RelA (h1 : k0_cond1 i = 1#1) (f2 : WBuf (F := F) c arg2) (f3 : WBuf (F := F) c arg3) (f4 : WBuf (F := F) c arg4)
    (fhK : WBuf (F := F) c hbK) (fhV : WBuf (F := F) c hbV) (s s' : St F c) : Prop :=
  ∃ (v12 : Vec F S8x256 .f32) (GY : WBuf (F := F) c scY) (LM : List (View.Piece (Elt F) S8x256 .f32)),
  let T := stT c i arg2 harg2 arg3 harg3 arg4 harg4 arg5 harg5 arg8 harg8
    (View.readAt (Elt F) arg3.view (Rect.unit ![0, 0, 0] S1x1x256.size inb_S1x1x256_S1x1x256_0_0_0).toLoadRect f3)
    v12
    (View.readAt (Elt F) arg2.view (Rect.unit ![0, 0, 0] S1x256x128.size inb_S1x256x128_S1x256x128_0_0_0).toLoadRect f2)
    s'.K s'.V s'.S GY
  s'.K = scK.view.writes (Elt F) scK.view.junk [⟨Rect.whole S29952x128, dmaK c i h1 fhK⟩]
    ∧ s'.V = scV.view.writes (Elt F) scV.view.junk [⟨Rect.whole S128x29952, dmaV c i h1 fhV⟩]
    ∧ s'.S = scS.view.writes (Elt F) s.S (pbT c i arg2 harg2 arg3 harg3 arg4 harg4 arg5 harg5 arg8 harg8 h1 f4)
    ∧ s'.Y = scY.view.writes (Elt F) GY T.2.1
    ∧ s'.M = scM.view.writes (Elt F) scM.view.junk (⟨Rect.unit ![0, 0] S8x256.size inb_S8x256_S8x256_0_0, k0_pay1 T.1.2⟩ :: LM)

variable (f2 : WBuf (F := F) c arg2) (f3 : WBuf (F := F) c arg3) (f4 : WBuf (F := F) c arg4) (f5 : WBuf (F := F) c arg5) (f8 : WBuf (F := F) c arg8)
    (s : St F c) (fhK : WBuf (F := F) c hbK) (fhV : WBuf (F := F) c hbV)

/-- The body's resources: windows, scratch, the two cells of its copies at zero, the two HBM operands. -/
abbrev runPre (f8 : WBuf (F := F) c arg8) (s : St F c) : sProp 𝕄 :=
  iprop(wPs c arg2 f2 ∗ wPs c arg3 f3 ∗ wPs c arg4 f4 ∗ wPs c arg5 f5 ∗ wPs c arg8 f8 ∗ stPts c s
      ∗ semVal ((c : Thread nD τ), SemLoc.dma 10) 0 ∗ semVal ((c : Thread nD τ), SemLoc.dma 11) 0
      ∗ wPt c hbK fhK ∗ wPt c hbV fhV)

/-- The body's program on these operands. -/
abbrev bodyP : Prog (TpuEff nD τ sig (Elt F) Λ₀ .tc) PUnit :=
  cc0_attention (F := F) i arg2 harg2 arg3 harg3 arg4 harg4 arg5 harg5 hbK (Memref.isWhole_whole _) hbV (Memref.isWhole_whole _) arg8 harg8
          scY (Memref.isWhole_whole _) scK (Memref.isWhole_whole _) scV (Memref.isWhole_whole _) scS (Memref.isWhole_whole _) scM (Memref.isWhole_whole _) scA (Memref.isWhole_whole _) cc0_scratch6

set_option maxHeartbeats 4000000 in
/-- The body at a later step of a head. -/
theorem runB (h1 : ¬ (k0_cond1 i = 1#1)) (h2 : ¬ (cond2 i = 1#1)) (W : Waits sig Unit) (K : PUnit → sProp 𝕄) :
    iprop(runPre c arg2 arg3 arg4 arg5 arg8 f2 f3 f4 f5 fhK fhV f8 s ∗ owes (c : Thread nD τ) 0 W
      ∗ ((∃ s' o W', runPre c arg2 arg3 arg4 arg5 arg8 f2 f3 f4 f5 fhK fhV o s' ∗ owes (c : Thread nD τ) 0 W'
            ∗ ⌜RelB c i arg2 harg2 arg3 harg3 arg4 harg4 arg5 harg5 arg8 harg8 f2 f3 f5 f8 s s' o⌝) -∗ K ⟨⟩))
    ⊢ wp frame (wpE (defs₀ (F := F)) Variants.none c none) Set.univ
        (bodyP (F := F) i arg2 harg2 arg3 harg3 arg4 harg4 arg5 harg5 arg8 harg8) K := by
  unfold bodyP
  rw [cc0_attention_eq_skeleton]; unfold cc0_attention_skel; rw [k0_part8_eq_skeleton]; unfold k0_part8_skel
  iintro ⟨⟨H2, H3, H4, H5, H8, ⟨HY, HK, HV, HS, HM, HA⟩, Hq0, Hq1, Hh0, Hh1⟩, HW, Hk⟩
  sl_exec
  rw [bind_assoc]
  sl_exec
  sl_step
  iapply Hk
  iexists (St.mk _ _ _ _ _ _), _, _
  isplitl [H2 H3 H4 H5 H8 HY HK HV HS HM HA Hq0 Hq1 Hh0 Hh1]
  · isplitl [H2]; · iexact H2
    isplitl [H3]; · iexact H3
    isplitl [H4]; · iexact H4
    isplitl [H5]; · iexact H5
    isplitl [H8]; · iexact H8
    isplitl [HY HK HV HS HM HA]
    · isplitl [HY]; · iexact HY
      isplitl [HK]; · iexact HK
      isplitl [HV]; · iexact HV
      isplitl [HS]; · iexact HS
      isplitl [HM]; · iexact HM
      iexact HA
    isplitl [Hq0]; · iexact Hq0
    isplitl [Hq1]; · iexact Hq1
    isplitl [Hh0]; · iexact Hh0
    iexact Hh1
  isplitl [HW]; · iexact HW
  ipureintro
  exact ⟨rfl, rfl, rfl, rfl, rfl, rfl⟩

set_option maxHeartbeats 4000000 in
/-- The body at the first step of a head. -/
theorem runA (h1 : k0_cond1 i = 1#1) (W : Waits sig Unit) (K : PUnit → sProp 𝕄) :
    iprop(runPre c arg2 arg3 arg4 arg5 arg8 f2 f3 f4 f5 fhK fhV f8 s ∗ owes (c : Thread nD τ) 0 W
      ∗ ((∃ s' o W', runPre c arg2 arg3 arg4 arg5 arg8 f2 f3 f4 f5 fhK fhV o s' ∗ owes (c : Thread nD τ) 0 W'
            ∗ ⌜RelA c i arg2 harg2 arg3 harg3 arg4 harg4 arg5 harg5 arg8 harg8 h1 f2 f3 f4 fhK fhV s s'⌝) -∗ K ⟨⟩))
    ⊢ wp frame (wpE (defs₀ (F := F)) Variants.none c none) Set.univ
        (bodyP (F := F) i arg2 harg2 arg3 harg3 arg4 harg4 arg5 harg5 arg8 harg8) K := by
  unfold bodyP
  rw [cc0_attention_eq_skeleton]; unfold cc0_attention_skel; rw [k0_part8_eq_skeleton]; unfold k0_part8_skel
  iintro ⟨⟨H2, H3, H4, H5, H8, ⟨HY, HK, HV, HS, HM, HA⟩, Hq0, Hq1, Hh0, Hh1⟩, HW, Hk⟩
  by_cases h2 : cond2 i = 1#1
  all_goals
    sl_exec
    rw [bind_assoc]
    sl_exec
    rw [bind_assoc]
    sl_exec
    sl_step
    iapply Hk
    iexists (St.mk _ _ _ _ _ _), _, _
    isplitl [H2 H3 H4 H5 H8 HY HK HV HS HM HA Hq0 Hq1 Hh0 Hh1]
    · isplitl [H2]; · iexact H2
      isplitl [H3]; · iexact H3
      isplitl [H4]; · iexact H4
      isplitl [H5]; · iexact H5
      isplitl [H8]; · iexact H8
      isplitl [HY HK HV HS HM HA]
      · isplitl [HY]; · iexact HY
        isplitl [HK]; · iexact HK
        isplitl [HV]; · iexact HV
        isplitl [HS]; · iexact HS
        isplitl [HM]; · iexact HM
        iexact HA
      isplitl [Hq0]; · iexact Hq0
      isplitl [Hq1]; · iexact Hq1
      isplitl [Hh0]; · iexact Hh0
      iexact Hh1
    isplitl [HW]; · iexact HW
    ipureintro
  · refine ⟨runA.sl.v12, scY.view.writes (Elt F) scY.view.junk
      [⟨Rect.unit ![0, 0] S29952x256.size inb_S29952x256_S29952x256_0_0, k0_pay58⟩],
      runA.sl.HM_1, ?_, ?_, ?_, ?_, ?_⟩
    · dsimp only; unfold runA.sl.dma0; rfl
    · dsimp only; unfold runA.sl.dma0_1; rfl
    · rfl
    · dsimp only; unfold runA.sl.dma0 runA.sl.dma0_1; exact View.writes_append ..
    · dsimp only
  · refine ⟨runA.sl.v12, s.Y, runA.sl.HM_1, ?_, ?_, ?_, ?_, ?_⟩
    · dsimp only; unfold runA.sl.dma0_2; rfl
    · dsimp only; unfold runA.sl.dma0_3; rfl
    · rfl
    · dsimp only; unfold runA.sl.dma0_2 runA.sl.dma0_3; rfl
    · dsimp only; unfold runA.sl.dma0_2 runA.sl.dma0_3;  rfl

end Run

end Cert.KernelIdeal.Attn
-- ==== Proof.KernelIdeal.Body.lean ====
/- Hand-written. The attention call as a whole, at any reading of the floats: the pipeline's proof data over an invariant `I` of
   the scratch buffers and a predicate `O` of the written block, the body obligation from one step's relation (Run.lean), and
   the launch. `Spec` is what a step has to establish; with `I` and `O` true it is the frame. -/
module

public import proofs.«01_k».proof.Proof.KernelIdeal.Run
public import Idealize.ShloMosaic.Lib.Pipeline.DatRel
public import Idealize.ShloMosaic.Lib.Pipeline.ArrRel

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- @main up to the region, over the algebra that counts transfers. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's two DMA cells. -/
abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The HBM operands the body's transfers read: keys and values. -/
def H0 : Finset (Ref sig .tc) := {main_arg4, main_arg5}
theorem H0_sub : H0 ⊆ Pipeline.restRefs sig spec0 := by decide
theorem hbmPts0_eq (c : Dev nD) :
    (bigSep H0 (fun b => ((c : Thread nD τ).loc b) ↦{fullShare} V m c b) : sProp 𝕄)
      = iprop(wPt c hbK (V m c main_arg4) ∗ wPt c hbV (V m c main_arg5)) := by
  rw [BI.bigSep_eq_bigSepL_of_eq [main_arg4, main_arg5] (by decide) (by decide)]; rfl

/-- What the launch hands the invariant, spelt out. -/
theorem PhiD0_eq (c : Dev nD) :
    (Pipeline.ΦD osem0 spec0 H0 (V m) c : sProp 𝕄)
      = iprop(iprop((∃ f, wPt c scY f) ∗ (∃ f, wPt c scK f) ∗ (∃ f, wPt c scV f) ∗ (∃ f, wPt c scS f) ∗ (∃ f, wPt c scM f) ∗ (∃ f, wPt c scA f))
          ∗ (∃ r, prngReg c r)
          ∗ iprop(semVal ((c : Thread nD τ), SemLoc.dma 10) 0 ∗ semVal ((c : Thread nD τ), SemLoc.dma 11) 0)
          ∗ iprop(wPt c hbK (V m c main_arg4) ∗ wPt c hbV (V m c main_arg5))) := by
  rw [Pipeline.ΦD_eq, scopedRest0_eq, ownSems00_eq, hbmPts0_eq]

theorem wPs_whole (c : Dev nD) (b : Ref sig .tc) (f : Buf (Elt F) ((c : Thread nD τ).loc b)) :
    (wPs c (Memref.whole b) f : sProp 𝕄) = wPt c (Memref.whole b) f := by
  show ((Memref.whole b).view.loc (c : Thread nD τ) ↦[(Memref.whole b).view.set]{fullShare} f : sProp 𝕄) = _
  simp only [Memref.view_whole, View.set_whole]

theorem wPs_of (c : Dev nD) (b : Ref sig .tc) (f : Buf (Elt F) ((c : Thread nD τ).loc b)) :
    (wPt c (Memref.whole b) f : sProp 𝕄) ⊢ wPs c (Memref.whole b) f := by rw [wPs_whole]
theorem wPt_of (c : Dev nD) (b : Ref sig .tc) (f : Buf (Elt F) ((c : Thread nD τ).loc b)) :
    (wPs c (Memref.whole b) f : sProp 𝕄) ⊢ wPt c (Memref.whole b) f := by rw [wPs_whole]

/-- What one step has to establish of the invariant `I` (over the number of steps done) and the predicate `O` of the block
    written at a step: the first step of a head makes the invariant from anything and may write any block; a later step keeps
    the invariant and writes a block meeting `O`. The windows' buffers are known by what they read: their blocks. -/
structure Spec (c : Dev nD) (I : ℕ → St F c → Prop) (O : Fin cfg0.N → (S1x256x128.Idx → Elt F .bf16) → Prop) : Prop where
  init : ∀ s, I 0 s
  stepA : ∀ (t : Fin cfg0.N) (h1 : k0_cond1 (grid0.coords t) = 1#1)
    (f2 : WBuf (F := F) c (st0_0 t)) (f3 : WBuf (F := F) c (st0_1 t)) (f4 : WBuf (F := F) c (st0_2 t)) (s s' : St F c),
    (st0_0 t).view.read (Elt F) f2 = iblk m c 0 t → (st0_1 t).view.read (Elt F) f3 = iblk m c 1 t → (st0_2 t).view.read (Elt F) f4 = iblk m c 2 t →
    RelA c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) h1 f2 f3 f4 (V m c main_arg4) (V m c main_arg5) s s' →
    I (t.val + 1) s'
  outA : ∀ (t : Fin cfg0.N) (h1 : k0_cond1 (grid0.coords t) = 1#1) X, O t X
  stepB : ∀ (t : Fin cfg0.N) (h1 : ¬ k0_cond1 (grid0.coords t) = 1#1)
    (f2 : WBuf (F := F) c (st0_0 t)) (f3 : WBuf (F := F) c (st0_1 t)) (f5 : WBuf (F := F) c (st0_3 t)) (f8 o : WBuf (F := F) c (st0_4 t)) (s s' : St F c),
    (st0_0 t).view.read (Elt F) f2 = iblk m c 0 t → (st0_1 t).view.read (Elt F) f3 = iblk m c 1 t → (st0_3 t).view.read (Elt F) f5 = iblk m c 3 t →
    I t.val s →
    RelB c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) f2 f3 f5 f8 s s' o →
    I (t.val + 1) s' ∧ O t ((st0_4 t).view.read (Elt F) o)

section
variable (c : Dev nD) (I : ℕ → St F c → Prop) (O : Fin cfg0.N → (S1x256x128.Idx → Elt F .bf16) → Prop)

/-- What is held between two steps, `n` steps done. -/
abbrev PhiI (n : ℕ) : sProp 𝕄 :=
  iprop(∃ s : St F c, ⌜I n s⌝ ∗ stPts c s ∗ (∃ r, prngReg c r)
          ∗ iprop(semVal ((c : Thread nD τ), SemLoc.dma 10) 0 ∗ semVal ((c : Thread nD τ), SemLoc.dma 11) 0)
          ∗ iprop(wPt c hbK (V m c main_arg4) ∗ wPt c hbV (V m c main_arg5)))

/-- The pipeline's proof data: the arrays as launched, every input's block left in place, the invariant over the scratch. -/
def dat : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := PhiI m c I t.val
  q _ := fullShare
  owed _ := 0

theorem before_0 (t : Fin cfg0.N) (d) : (dat m c I).before 0 t d = iblk m c 0 t :=
  ((dat m c I).before_in_eq_fetched 0 rfl (fun _ => rfl) (fun _ _ _ => rfl) (fun t => rfl) t d).trans rfl
theorem before_1 (t : Fin cfg0.N) (d) : (dat m c I).before 1 t d = iblk m c 1 t :=
  ((dat m c I).before_in_eq_fetched 1 rfl (fun _ => rfl) (fun _ _ _ => rfl) (fun t => rfl) t d).trans rfl
theorem before_2 (t : Fin cfg0.N) (d) : (dat m c I).before 2 t d = iblk m c 2 t :=
  ((dat m c I).before_in_eq_fetched 2 rfl (fun _ => rfl) (fun _ _ _ => rfl) (fun t => rfl) t d).trans rfl
theorem before_3 (t : Fin cfg0.N) (d) : (dat m c I).before 3 t d = iblk m c 3 t :=
  ((dat m c I).before_in_eq_fetched 3 rfl (fun _ => rfl) (fun _ _ _ => rfl) (fun t => rfl) t d).trans rfl

/-- The output window is the one held to a predicate. -/
def fgt : Fin cfg0.W → Bool
  | ⟨4, _⟩ => true
  | _ => false
/-- Its predicate. -/
def Rl : (w : Fin cfg0.W) → Fin cfg0.N → ((cfg0.win w).block.Idx → Elt F (cfg0.win w).elt) → Prop
  | ⟨4, _⟩ => fun t X => O t X
  | _ => fun _ _ => True

theorem defs₀_row (t : Fin cfg0.N) : defs₀ (F := F) .tc cfg0.body (cfg0.bodyArgs t (cfg0.slots t)) = bodyAt0 t := by
  unfold defs₀; rw [Defs.onTc_tc]

/-- The first step of a head is the only one at which the second guard may hold. -/
theorem cond2_of (i : grid0.Coords) (h1 : ¬ (k0_cond1 i = 1#1)) : ¬ (cond2 i = 1#1) := by
  intro h2; apply h1
  have key : ∀ a b : BitVec 1, Scalar.cmpi .ne (Scalar.extui (Scalar.andi a b)) 0#32 = 1#1 → Scalar.cmpi .ne (Scalar.extui a) 0#32 = 1#1 := by decide
  exact key _ _ h2

set_option maxHeartbeats 4000000 in
/-- One step, over the window buffers. -/
theorem body_step (sp : Spec m c I O) (t : Fin cfg0.N) :
    iprop(PhiI m c I t.val ∗ (dat m c I).owesAt () t.castSucc
      ∗ (∃ d, owns (c : Thread nD τ) (st0_0 t) fullShare ((dat m c I).before 0 t d))
      ∗ (∃ d, owns (c : Thread nD τ) (st0_1 t) fullShare ((dat m c I).before 1 t d))
      ∗ (∃ d, owns (c : Thread nD τ) (st0_2 t) fullShare ((dat m c I).before 2 t d))
      ∗ (∃ d, owns (c : Thread nD τ) (st0_3 t) fullShare ((dat m c I).before 3 t d))
      ∗ (∃ Y, ⌜((dat m c I).toRRel fgt (Rl O)).Finds 4 t Y⌝ ∗ owns (c : Thread nD τ) (st0_4 t) fullShare Y))
    ⊢ wp frame (wpE (defs₀ (F := F)) Variants.none c none) Set.univ (bodyAt0 t) fun _ =>
        iprop(PhiI m c I (t.val + 1) ∗ (dat m c I).owesAt () t.succ
          ∗ owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ (∃ X, ⌜Rl O 4 t X⌝ ∗ owns (c : Thread nD τ) (st0_4 t) fullShare X)) := by
  simp only [before_0, before_1, before_2, before_3]
  unfold Dat.owesAt Pipeline.owesWithin owns
  iintro ⟨⟨%s, %hI, Hst, Hr, ⟨Hq0, Hq1⟩, Hh0, Hh1⟩, ⟨%W, -, HW⟩, ⟨%d0, H0⟩, ⟨%d1, H1⟩, ⟨%d2, H2⟩, ⟨%d3, H3⟩, ⟨%Y, -, H4⟩⟩
  icases H0 with ⟨%f2, %hf2, H0⟩
  icases H1 with ⟨%f3, %hf3, H1⟩
  icases H2 with ⟨%f4, %hf4, H2⟩
  icases H3 with ⟨%f5, %hf5, H3⟩
  icases H4 with ⟨%f8, -, H4⟩
  by_cases h1 : k0_cond1 (grid0.coords t) = 1#1
  · iapply (runA (F := F) c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) f2 f3 f4 f5 f8 s (V m c main_arg4) (V m c main_arg5) h1 W _)
    isplitl [H0 H1 H2 H3 H4 Hst Hq0 Hq1 Hh0 Hh1]
    · isplitl [H0]; · iexact H0
      isplitl [H1]; · iexact H1
      isplitl [H2]; · iexact H2
      isplitl [H3]; · iexact H3
      isplitl [H4]; · iexact H4
      isplitl [Hst]; · iexact Hst
      isplitl [Hq0]; · iexact Hq0
      isplitl [Hq1]; · iexact Hq1
      isplitl [Hh0]; · iexact Hh0
      iexact Hh1
    isplitl [HW]; · iexact HW
    iintro ⟨%s', %o, %W', ⟨H0, H1, H2, H3, H4, Hst, Hq0, Hq1, Hh0, Hh1⟩, HW, %hR⟩
    isplitl [Hst Hr Hq0 Hq1 Hh0 Hh1]
    · iexists s'
      isplitr; · ipureintro; exact sp.stepA t h1 f2 f3 f4 s s' hf2 hf3 hf4 hR
      isplitl [Hst]; · iexact Hst
      isplitl [Hr]; · iexact Hr
      isplitl [Hq0 Hq1]
      · isplitl [Hq0]; · iexact Hq0
        iexact Hq1
      isplitl [Hh0]; · iexact Hh0
      iexact Hh1
    isplitl [HW]
    · iexists W'; isplitr
      · ipureintro; exact fun _ _ => Or.inl trivial
      · iexact HW
    isplitl [H0]; · iexists f2; isplitr; · ipureintro; exact hf2
                    iexact H0
    isplitl [H1]; · iexists f3; isplitr; · ipureintro; exact hf3
                    iexact H1
    isplitl [H2]; · iexists f4; isplitr; · ipureintro; exact hf4
                    iexact H2
    isplitl [H3]; · iexists f5; isplitr; · ipureintro; exact hf5
                    iexact H3
    iexists ((st0_4 t).view.read (Elt F) o)
    isplitr; · ipureintro; exact sp.outA t h1 _
    iexists o; isplitr; · ipureintro; rfl
    iexact H4
  · iapply (runB (F := F) c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) f2 f3 f4 f5 f8 s (V m c main_arg4) (V m c main_arg5) h1 (cond2_of _ h1) W _)
    isplitl [H0 H1 H2 H3 H4 Hst Hq0 Hq1 Hh0 Hh1]
    · isplitl [H0]; · iexact H0
      isplitl [H1]; · iexact H1
      isplitl [H2]; · iexact H2
      isplitl [H3]; · iexact H3
      isplitl [H4]; · iexact H4
      isplitl [Hst]; · iexact Hst
      isplitl [Hq0]; · iexact Hq0
      isplitl [Hq1]; · iexact Hq1
      isplitl [Hh0]; · iexact Hh0
      iexact Hh1
    isplitl [HW]; · iexact HW
    iintro ⟨%s', %o, %W', ⟨H0, H1, H2, H3, H4, Hst, Hq0, Hq1, Hh0, Hh1⟩, HW, %hR⟩
    isplitl [Hst Hr Hq0 Hq1 Hh0 Hh1]
    · iexists s'
      isplitr; · ipureintro; exact (sp.stepB t h1 f2 f3 f5 f8 o s s' hf2 hf3 hf5 hI hR).1
      isplitl [Hst]; · iexact Hst
      isplitl [Hr]; · iexact Hr
      isplitl [Hq0 Hq1]
      · isplitl [Hq0]; · iexact Hq0
        iexact Hq1
      isplitl [Hh0]; · iexact Hh0
      iexact Hh1
    isplitl [HW]
    · iexists W'; isplitr
      · ipureintro; exact fun _ _ => Or.inl trivial
      · iexact HW
    isplitl [H0]; · iexists f2; isplitr; · ipureintro; exact hf2
                    iexact H0
    isplitl [H1]; · iexists f3; isplitr; · ipureintro; exact hf3
                    iexact H1
    isplitl [H2]; · iexists f4; isplitr; · ipureintro; exact hf4
                    iexact H2
    isplitl [H3]; · iexists f5; isplitr; · ipureintro; exact hf5
                    iexact H3
    iexists ((st0_4 t).view.read (Elt F) o)
    isplitr; · ipureintro; exact (sp.stepB t h1 f2 f3 f5 f8 o s s' hf2 hf3 hf5 hI hR).2
    iexists o; isplitr; · ipureintro; rfl
    iexact H4

/-- The body obligation of the data, the output window held to its predicate. -/
theorem bodyRel (sp : Spec m c I O) : BodyObligationRel (dat m c I) (defs₀ (F := F)) Variants.none () Set.univ fgt (Rl O) := fun t => by
  rw [bigSep_W0, bigSep_W0, defs₀_row]
  dsimp only [fgt]
  exact body_step m c I O sp t

end

/-- THE RUN: at any invariant and predicate that a step establishes, the kernel terminates without fault, the inputs end as
    they were, the output array is one that blocks meeting the predicate can have left, and every semaphore ends at zero. -/
theorem run_of (I : (c : Dev nD) → ℕ → St F c → Prop) (O : (c : Dev nD) → Fin cfg0.N → (S1x256x128.Idx → Elt F .bf16) → Prop)
    (sp : ∀ c, Spec m c (I c) (O c)) :
    θ_run defs (onTc (τ := τ) (main (F := F))) (s₀ m ρ)
      (fun r => RDat.FramePost cfg0 (fun c => (dat m c (I c)).toRRel fgt (Rl (O c))) (V m) r ∧ r.2.sem = (fun _ => 0)) :=
  RDat.θ_run_frame_dma cfgs 0 launch0 osem0 defs₀ Variants.none (fun c => (dat m c (I c)).toRRel fgt (Rl (O c))) ownSemFacts0 H0 H0_sub m ρ main
    (fun c => (bodyRel m c (I c) (O c) (sp c)).toRRel) (fun c => (dat m c (I c)).share_full fun _ => rfl) (fun _ _ => rfl) (V m) (hmain m Variants.none) (fun _ _ => rfl)
    (fun c => by
      rw [PhiD0_eq]
      show _ ⊢ PhiI m c (I c) 0
      iintro ⟨⟨⟨%y, HY⟩, ⟨%k, HK⟩, ⟨%v, HV⟩, ⟨%x, HS⟩, ⟨%mm, HM⟩, ⟨%a, HA⟩⟩, Hr, Hq, Hh⟩
      iexists (St.mk y k v x mm a)
      isplitr; · ipureintro; exact (sp c).init _
      isplitl [HY HK HV HS HM HA]
      · isplitl [HY]; · iapply (wPs_of c cc0_scratch0 y); iexact HY
        isplitl [HK]; · iapply (wPs_of c cc0_scratch1 k); iexact HK
        isplitl [HV]; · iapply (wPs_of c cc0_scratch2 v); iexact HV
        isplitl [HS]; · iapply (wPs_of c cc0_scratch3 x); iexact HS
        isplitl [HM]; · iapply (wPs_of c cc0_scratch4 mm); iexact HM
        iapply (wPs_of c cc0_scratch5 a); iexact HA
      isplitl [Hr]; · iexact Hr
      isplitl [Hq]; · iexact Hq
      iexact Hh)
    (fun c => by
      rw [PhiD0_eq]
      show PhiI m c (I c) _ ⊢ _
      iintro ⟨%s, -, Hst, Hr, Hq, Hh⟩
      icases Hst with ⟨HY, HK, HV, HS, HM, HA⟩
      isplitl [HY HK HV HS HM HA]
      · isplitl [HY]; · iexists s.Y; iapply (wPt_of c cc0_scratch0 s.Y); iexact HY
        isplitl [HK]; · iexists s.K; iapply (wPt_of c cc0_scratch1 s.K); iexact HK
        isplitl [HV]; · iexists s.V; iapply (wPt_of c cc0_scratch2 s.V); iexact HV
        isplitl [HS]; · iexists s.S; iapply (wPt_of c cc0_scratch3 s.S); iexact HS
        isplitl [HM]; · iexists s.M; iapply (wPt_of c cc0_scratch4 s.M); iexact HM
        iexists s.A; iapply (wPt_of c cc0_scratch5 s.A); iexact HA
      isplitl [Hr]; · iexact Hr
      isplitl [Hq]; · iexact Hq
      iexact Hh)
    _ (fun _ h => h)

end Cert.KernelIdeal.Attn

end
-- ==== Proof.KernelIdeal.FrameRun.lean ====
/- Hand-written. The frame of the attention call, at any reading of the floats: the run of Body.lean with nothing asked of the
   scratch buffers or of the written blocks. -/
module

public import proofs.«01_k».proof.Proof.KernelIdeal.Body

@[expose] public section

set_option maxRecDepth 16384

noncomputable section

namespace Cert.KernelIdeal.Attn

open Cert.KernelIdeal Cert.KernelIdeal.Gen
open Idealize.ShloMosaic Idealize.ShloMosaic.TcCoe
open Idealize.SL.Sem
open Idealize.ShloMosaic.Pipeline (Dat RDat Cfg Window)

variable {F : FTy → Type} [FloatOps F] [Named F]
variable (m : (ℓ : Loc nD τ sig) → Buf (Elt F) ℓ) (ρ : Dev nD → PrngReg)

/-- The argument arrays end as they were, read off the run's post. -/
theorem args_of_post (I : (c : Dev nD) → ℕ → St F c → Prop) (O : (c : Dev nD) → Fin cfg0.N → (S1x256x128.Idx → Elt F .bf16) → Prop)
    (r : PUnit × MemSt nD τ sig (Elt F))
    (h : RDat.FramePost cfg0 (fun c => (dat m c (I c)).toRRel fgt (Rl (O c))) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨h.arr_in c 0 rfl, h.arr_in c 1 rfl, h.arr_in c 2 rfl, h.arr_in c 3 rfl,
    (h c).2 main_arg4 (Pipeline.mem_restRefs_of main_arg4 (by decide) (by decide)),
    (h c).2 main_arg5 (Pipeline.mem_restRefs_of main_arg5 (by decide) (by decide))⟩

/-- THE FRAME: the call terminates, nothing faults, its six argument arrays end unchanged, every semaphore ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of_post m _ _ r h.1, h.2⟩)
    (run_of m ρ (fun _ _ _ => True) (fun _ _ _ => True) fun _ =>
      ⟨fun _ => trivial, fun _ _ _ _ _ _ _ _ _ _ _ => trivial, fun _ _ _ => trivial, fun _ _ _ _ _ _ _ _ _ _ _ _ _ _ => ⟨trivial, trivial⟩⟩)

end Cert.KernelIdeal.Attn

end
-- ==== Proof.KernelIdeal.Trip.lean ====
/- Hand-written. One trip of the attention kernel's loop over the chunks of keys, at any reading of the floats: what it yields
   and what it stores, stated through nine sub-blocks of 128 keys that all have one form. -/
module

public import proofs.«01_k».proof.Proof.KernelIdeal.Run

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-- The sub-block offset inside a chunk, as the word the kernel adds. -/
abbrev ow (j : Fin 9) : BitVec 32 := BitVec.ofNat 32 (128 * j.val)

theorem slicesJ : ∀ j : Fin 9, S1152x256.Slices ![128 * j.val, 0] S128x256 := by decide +kernel

section
variable (c : Dev nD) (k : Fin k0_t2_loop.trips) (j : Fin 9)

/-- The stored scores of sub-block `j` of chunk `k`. -/
abbrev ldY (f9 : WBuf (F := F) c scY) : Vec F S128x256 .f32 :=
  View.readAt (Elt F) scY.view (Rect.unit (s := S29952x256) (k0_off6 k (ow j)) S128x256.size (k0_off6_inb k j)).toLoadRect f9
/-- The values of sub-block `j`. -/
abbrev ldV (XV : WBuf (F := F) c scV) : Vec F S128x128 .fp8e4m3 :=
  View.readAt (Elt F) scV.view (Rect.unit (s := S128x29952) (k0_off7 k (ow j)) S128x128.size (k0_off7_inb k j)).toLoadRect XV
/-- The key scales of sub-block `j`. -/
abbrev ldS (XS : WBuf (F := F) c scS) : Vec F S128x128 .f32 :=
  View.readAt (Elt F) scS.view (Rect.unit (s := S29952x128) (k0_off8 k (ow j)) S128x128.size (k0_off8_inb k j)).toLoadRect XS
/-- The keys of the chunk. -/
abbrev ldK (XK : WBuf (F := F) c scK) : Vec F S1152x128 .bf16 :=
  View.readAt (Elt F) scK.view (Rect.unit (s := S29952x128) (k0_off5 k) S1152x128.size (k0_off5_inb k)).toLoadRect XK
end

/-- The weights of a sub-block, from its scores. -/
def blkP (v8 : Vec F S1x1x256 .f32) (v12 : Vec F S8x256 .f32) (y : Vec F S128x256 .f32) : FVec F S128x256 .f32 :=
  exp2 (subf (mulf y (broadcastTo S128x256 (k0_pay59 v8) broadcasts_S1x256_S128x256))
    (broadcastTo S128x256 (k0_pay60 v8 v12) broadcasts_S1x256_S128x256))

/-- Eight partial sums of a sub-block's weights. -/
def blkL (p : FVec F S128x256 .f32) : FVec F S8x256 .f32 :=
  multiReduction .add [0] S8x256 (shapeCast S16x8x256 p shapeCasts_S128x256_S16x8x256) 0x00000000#32 reduces_S16x8x256_S8x256 (.inl rfl) rfl

/-- The values of a sub-block weighted by its clipped weights. -/
def blkD (p : FVec F S128x256 .f32) (w : Vec F S128x128 .fp8e4m3) : FVec F S128x256 .f32 :=
  matmul dot_S128x128_S128x256_S128x256_1_0_0_1_n_n none w
    (truncf .fp8e4m3 (minimumf (broadcast S128x256 (Scalar.ofBits (F := F) .f32 0x43E00000#32))
      (maximumf (broadcast S128x256 (Scalar.ofBits (F := F) .f32 0x00000000#32)) p)) bitsLt_fp8e4m3_f32)
    (constant S128x256 .f32 0x00000000#32)

/-- The new scores of sub-block `j`. -/
def blkY (j : Fin 9) (v18 : Vec F S1x256x128 .bf16) (kk : Vec F S1152x128 .bf16) (sc : Vec F S128x128 .f32) : FVec F S128x256 .f32 :=
  mulf (extractStridedSlice S128x256 ![128 * j.val, 0] (k0_pay3 (k0_pay61 v18) kk) (slicesJ j))
    (concatenate S128x256 1 [⟨S128x128, sc⟩, ⟨S128x128, sc⟩] concatenates_S128x128_S128x128_S128x256_d1)

/-- Eight partial maxima of a sub-block's new scores. -/
def blkX (y : FVec F S128x256 .f32) : FVec F S8x256 .f32 :=
  multiReduction .maximumf [0] S8x256 (shapeCast S16x8x256 y shapeCasts_S128x256_S16x8x256) 0xFF800000#32 reduces_S16x8x256_S8x256 (.inl rfl) rfl

section Trip
variable (c : Dev nD) (i : grid0.Coords)
    (arg2 : Memref sig .tc .vmem S1x256x128 .bf16) (harg2 : arg2.IsWhole) (arg3 : Memref sig .tc .vmem S1x1x256 .f32) (harg3 : arg3.IsWhole)
    (arg4 : Memref sig .tc .vmem S1x234x128 .f32) (harg4 : arg4.IsWhole) (arg5 : Memref sig .tc .smem S1x1x1 .f32) (harg5 : arg5.IsWhole)
    (arg8 : Memref sig .tc .vmem S1x256x128 .bf16) (harg8 : arg8.IsWhole)
    (v8 : Vec F S1x1x256 .f32) (v12 : Vec F S8x256 .f32) (v18 : Vec F S1x256x128 .bf16)
    (XK : WBuf (F := F) c scK) (XV : WBuf (F := F) c scV) (XS : WBuf (F := F) c scS) (k : Fin k0_t2_loop.trips)

/-- The loop's trip on this kernel's scratch buffers. -/
abbrev tR :=
  trip_k0_t2 (F := F) Variants.none c none i arg2 harg2 arg3 harg3 arg4 harg4 arg5 harg5 hbK (Memref.isWhole_whole _) hbV (Memref.isWhole_whole _) arg8 harg8
          scY (Memref.isWhole_whole _) scK (Memref.isWhole_whole _) scV (Memref.isWhole_whole _) scS (Memref.isWhole_whole _) scM (Memref.isWhole_whole _) scA (Memref.isWhole_whole _) cc0_scratch6
    v8 v12 v18 XK XV XS k

variable (acc : FVec F S8x256 .f32 × FVec F S8x256 .f32) (f9 : WBuf (F := F) c scY) (f14 : WBuf (F := F) c scA)

/-- The weights of sub-block `j` of the trip. -/
abbrev tP (j : Fin 9) : FVec F S128x256 .f32 := blkP v8 v12 (ldY c k j f9)
/-- The new scores of sub-block `j` of the trip. -/
abbrev tY (j : Fin 9) : FVec F S128x256 .f32 := blkY j v18 (ldK c k XK) (ldS c k j XS)
/-- The weighted values of sub-block `j` of the trip. -/
abbrev tD (j : Fin 9) : FVec F S128x256 .f32 := blkD (tP c v8 v12 k f9 j) (ldV c k j XV)

set_option maxHeartbeats 2000000 in
/-- What a trip yields: the partial sums of weights, each sub-block added in turn, and the partial maxima likewise. -/
theorem trip_yield :
    (tR c i arg2 harg2 arg3 harg3 arg4 harg4 arg5 harg5 arg8 harg8 v8 v12 v18 XK XV XS k).1 acc f9 f14
      = (addf (addf (addf (addf (addf (addf (addf (addf (addf acc.1
            (blkL (tP c v8 v12 k f9 0))) (blkL (tP c v8 v12 k f9 1))) (blkL (tP c v8 v12 k f9 2)))
            (blkL (tP c v8 v12 k f9 3))) (blkL (tP c v8 v12 k f9 4))) (blkL (tP c v8 v12 k f9 5)))
            (blkL (tP c v8 v12 k f9 6))) (blkL (tP c v8 v12 k f9 7))) (blkL (tP c v8 v12 k f9 8)),
         maximumf (maximumf (maximumf (maximumf (maximumf (maximumf (maximumf (maximumf (maximumf acc.2
            (blkX (tY c v18 XK XS k 0))) (blkX (tY c v18 XK XS k 1))) (blkX (tY c v18 XK XS k 2)))
            (blkX (tY c v18 XK XS k 3))) (blkX (tY c v18 XK XS k 4))) (blkX (tY c v18 XK XS k 5)))
            (blkX (tY c v18 XK XS k 6))) (blkX (tY c v18 XK XS k 7))) (blkX (tY c v18 XK XS k 8))) := by
  unfold tR trip_k0_t2
  rfl

set_option maxHeartbeats 2000000 in
/-- What a trip stores into the scores: each sub-block's new scores at its rows. -/
theorem trip_storesY :
    (tR c i arg2 harg2 arg3 harg3 arg4 harg4 arg5 harg5 arg8 harg8 v8 v12 v18 XK XV XS k).2.1 acc f9 f14
      = ([8, 7, 6, 5, 4, 3, 2, 1, 0] : List (Fin 9)).map fun j =>
          (⟨Rect.unit (s := S29952x256) (k0_off6 k (ow j)) S128x256.size (k0_off6_inb k j),
            shapeCast S128x256 (tY c v18 XK XS k j) shapeCasts_S128x256_S128x256⟩ : View.Piece (Elt F) S29952x256 .f32) := by
  unfold tR trip_k0_t2
  rfl

set_option maxHeartbeats 2000000 in
/-- What a trip stores into the accumulator: its contents plus the nine sub-blocks' weighted values. -/
theorem trip_storesA :
    (tR c i arg2 harg2 arg3 harg3 arg4 harg4 arg5 harg5 arg8 harg8 v8 v12 v18 XK XV XS k).2.2.1 acc f9 f14
      = [⟨Rect.unit (s := S128x256) ![0, 0] S128x256.size inb_S128x256_S128x256_0_0,
          k0_pay65 (addf (View.readAt (Elt F) scA.view (Rect.unit (s := S128x256) ![0, 0] S128x256.size inb_S128x256_S128x256_0_0).toLoadRect f14)
            (addf (addf (addf (addf (addf (addf (addf (addf (tD c v8 v12 XV k f9 0)
              (tD c v8 v12 XV k f9 1)) (tD c v8 v12 XV k f9 2)) (tD c v8 v12 XV k f9 3)) (tD c v8 v12 XV k f9 4))
              (tD c v8 v12 XV k f9 5)) (tD c v8 v12 XV k f9 6)) (tD c v8 v12 XV k f9 7)) (tD c v8 v12 XV k f9 8)))⟩] := by
  unfold tR trip_k0_t2
  rfl
end Trip

end Cert.KernelIdeal.Attn
-- ==== Proof.KernelIdeal.Blocks.lean ====
/- Hand-written. The sub-block operations of a chunk read at an index, over the extended reals. -/
module

public import proofs.«01_k».proof.Proof.KernelIdeal.Trip
public import Idealize.ShloMosaic.Lib.Pointwise
public import Idealize.ShloMosaic.Lib.VecWindow
public import Idealize.ShloMosaic.Lib.WritesUnit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The clip to the range of the 8-bit format. -/
abbrev clip8 (x : EReal) : EReal := min (Ideal.ofBits .f32 0x43E00000#32) (max 0 x)

/-- The pattern of minus infinity. -/
theorem ofBits_ninf : Ideal.ofBits .f32 0xFF800000#32 = ⊥ := by
  simp [Ideal.ofBits, Ideal.ieee]

theorem pay59_apply (v8 : Vec Ideal S1x1x256 .f32) (q : Fin 256) :
    k0_pay59 (F := Ideal) v8 (ix2 0 q) = v8 (ix3 0 0 q) * (((Real.sqrt 128)⁻¹ * (Real.log 2)⁻¹ : ℝ) : EReal) := by
  have h : (Named.named (F := Ideal) κ "scale_log2e" (φ := .f32) 0x3E0293EE#32) = (((Real.sqrt 128)⁻¹ * (Real.log 2)⁻¹ : ℝ) : EReal) :=
    IdealRules.named_const.ideal_named_scalar _ _ _ _ rfl
  pointwise [k0_pay59]
  rw [← h]

theorem pay60_apply (v8 : Vec Ideal S1x1x256 .f32) (v12 : Vec Ideal S8x256 .f32) (q : Fin 256) :
    k0_pay60 (F := Ideal) v8 v12 (ix2 0 q)
      = (Finset.univ : Finset (Fin 8)).sup (fun s => v12 (ix2 s q)) * k0_pay59 (F := Ideal) v8 (ix2 0 q)
          - Ideal.ofBits .f32 0x41000000#32 := by
  pointwise [k0_pay60]
  rw [ofBits_ninf]; rfl

theorem blkP_apply (v8 : Vec Ideal S1x1x256 .f32) (v12 : Vec Ideal S8x256 .f32) (y : Vec Ideal S128x256 .f32) (r : Fin 128) (q : Fin 256) :
    blkP (F := Ideal) v8 v12 y (ix2 r q) = Ideal.exp2 (y (ix2 r q) * k0_pay59 (F := Ideal) v8 (ix2 0 q) - k0_pay60 (F := Ideal) v8 v12 (ix2 0 q)) := by
  pointwise [blkP]
  rfl

theorem blkL_apply (p : FVec Ideal S128x256 .f32) (s : Fin 8) (q : Fin 256) :
    blkL (F := Ideal) p (ix2 s q) = ∑ a : Fin 16, p (ix2 ⟨a.val * 8 + s.val, by omega⟩ q) := by
  pointwise [blkL]

theorem blkX_apply (p : FVec Ideal S128x256 .f32) (s : Fin 8) (q : Fin 256) :
    blkX (F := Ideal) p (ix2 s q) = (Finset.univ : Finset (Fin 16)).sup (fun a => p (ix2 ⟨a.val * 8 + s.val, by omega⟩ q)) := by
  pointwise [blkX]
  rw [ofBits_ninf]; rfl

theorem blkD_apply (p : FVec Ideal S128x256 .f32) (w : Vec Ideal S128x128 .fp8e4m3) (d : Fin 128) (q : Fin 256) :
    blkD (F := Ideal) p w (ix2 d q) = ∑ r : Fin 128, w (ix2 d r) * clip8 (p (ix2 r q)) := by
  pointwise [blkD]

theorem blkY_apply (j : Fin 9) (v18 : Vec Ideal S1x256x128 .bf16) (kk : Vec Ideal S1152x128 .bf16) (sc : Vec Ideal S128x128 .f32)
    (t : EReal) (r : Fin 128) (q : Fin 256) (h : ∀ l, sc (ix2 r l) = t) :
    blkY (F := Ideal) j v18 kk sc (ix2 r q)
      = (∑ d : Fin 128, kk (ix2 ⟨128 * j.val + r.val, by omega⟩ d) * v18 (ix3 0 q d)) * t := by
  pointwise [blkY, k0_pay3, k0_pay61]
  split <;> rw [h]

theorem pay1_eq (x : FVec Ideal S8x256 .f32) : k0_pay1 (F := Ideal) x = x := by
  funext j; rw [eq_ix2 j]; pointwise [k0_pay1]

theorem pay65_eq (x : FVec Ideal S128x256 .f32) : k0_pay65 (F := Ideal) x = x := by
  funext j; rw [eq_ix2 j]; pointwise [k0_pay65]

theorem castY_eq (x : FVec Ideal S128x256 .f32) : shapeCast S128x256 x shapeCasts_S128x256_S128x256 = x := by
  funext j; rw [eq_ix2 j]; pointwise

theorem pay62_apply (j : S128x256.Idx) : k0_pay62 (F := Ideal) j = 0 := by
  rw [eq_ix2 j]; pointwise [k0_pay62]

theorem pay63_apply (j : S8x256.Idx) : k0_pay63 (F := Ideal) j = 0 := by
  rw [eq_ix2 j]; pointwise [k0_pay63]

theorem pay64_apply (j : S8x256.Idx) : k0_pay64 (F := Ideal) j = ⊥ := by
  rw [eq_ix2 j]; pointwise [k0_pay64]; exact ofBits_ninf

theorem pay56_apply (x : Vec Ideal S1x1x128 .f32) (r l : Fin 128) : k0_pay56 (F := Ideal) x (ix2 r l) = x (ix3 0 0 r) := by
  pointwise [k0_pay56]

/-- The output block, from the partial sums, the accumulator and the value scale. -/
theorem pay2_apply (l8 : FVec Ideal S8x256 .f32) (a : Vec Ideal S128x256 .f32) (t : EReal) (q : Fin 256) (d : Fin 128) :
    k0_pay2 (F := Ideal) l8 a t (ix3 0 q d) = Ideal.div (a (ix2 d q) * t) (∑ s : Fin 8, l8 (ix2 s q)) := by
  pointwise [k0_pay2]

/-! ## Sums and maxima over ranges of keys -/

theorem sum_8_16 {M : Type} [AddCommMonoid M] (f : ℕ → M) :
    ∑ s : Fin 8, ∑ a : Fin 16, f (a.val * 8 + s.val) = ∑ x ∈ Finset.range 128, f x := by
  rw [Finset.sum_comm, ← Fin.sum_univ_eq_sum_range f 128, ← (finProdFinEquiv (m := 16) (n := 8)).sum_comp, Fintype.sum_prod_type]
  refine Finset.sum_congr rfl fun a _ => Finset.sum_congr rfl fun s _ => congrArg f ?_
  show _ = s.val + 8 * a.val
  omega

theorem sup_8_16 (f : ℕ → EReal) :
    (Finset.univ : Finset (Fin 8)).sup (fun s => (Finset.univ : Finset (Fin 16)).sup fun a => f (a.val * 8 + s.val)) = (Finset.range 128).sup f := by
  refine le_antisymm (Finset.sup_le fun s _ => Finset.sup_le fun a _ => Finset.le_sup (f := f) (Finset.mem_range.2 (by omega)))
    (Finset.sup_le fun x hx => ?_)
  have hx := Finset.mem_range.1 hx
  have h : f x = f ((⟨x / 8, by omega⟩ : Fin 16).val * 8 + (⟨x % 8, by omega⟩ : Fin 8).val) := congrArg f (by show x = x / 8 * 8 + x % 8; omega)
  rw [h]
  exact (Finset.le_sup (f := fun a : Fin 16 => f (a.val * 8 + (⟨x % 8, by omega⟩ : Fin 8).val)) (Finset.mem_univ _)).trans
    (Finset.le_sup (f := fun s : Fin 8 => (Finset.univ : Finset (Fin 16)).sup fun a => f (a.val * 8 + s.val)) (Finset.mem_univ _))

theorem sup_range_add (f : ℕ → EReal) (n m : ℕ) :
    (Finset.range (n + m)).sup f = (Finset.range n).sup f ⊔ (Finset.range m).sup fun x => f (n + x) := by
  induction m with
  | zero => simp
  | succ m ih => rw [← Nat.add_assoc, Finset.range_add_one, Finset.sup_insert, ih, Finset.range_add_one, Finset.sup_insert,
      sup_left_comm]

/-- A range cut in blocks of 128, summed. -/
theorem sum_blocks {M : Type} [AddCommMonoid M] (f : ℕ → M) (m : ℕ) :
    ∑ x ∈ Finset.range (128 * m), f x = ∑ j ∈ Finset.range m, ∑ x ∈ Finset.range 128, f (128 * j + x) := by
  induction m with
  | zero => simp
  | succ m ih => rw [Nat.mul_succ, Finset.sum_range_add, ih, Finset.sum_range_succ _ m]

/-- A chunk's nine sub-blocks, summed. -/
theorem sum_chunk {M : Type} [AddCommMonoid M] (f : ℕ → M) (n : ℕ) :
    ∑ x ∈ Finset.range (n + 1152), f x
      = ∑ x ∈ Finset.range n, f x + ∑ j : Fin 9, ∑ x ∈ Finset.range 128, f (n + 128 * j.val + x) := by
  rw [Finset.sum_range_add, ← Finset.sum_range (n := 9) (fun j => ∑ x ∈ Finset.range 128, f (n + 128 * j + x)),
    show 1152 = 128 * 9 from rfl, sum_blocks]
  simp only [Nat.add_assoc]

/-- A chunk's nine sub-blocks, maximised. -/
theorem sup_chunk (f : ℕ → EReal) (n : ℕ) :
    (Finset.range (n + 1152)).sup f
      = (Finset.range n).sup f ⊔ (Finset.univ : Finset (Fin 9)).sup fun j => (Finset.range 128).sup fun x => f (n + 128 * j.val + x) := by
  rw [sup_range_add]
  congr 1
  refine le_antisymm (Finset.sup_le fun x hx => ?_) (Finset.sup_le fun j _ => Finset.sup_le fun x hx => ?_)
  · have hx := Finset.mem_range.1 hx
    refine le_trans ?_ (Finset.le_sup (f := fun j : Fin 9 => (Finset.range 128).sup fun x => f (n + 128 * j.val + x)) (Finset.mem_univ ⟨x / 128, by omega⟩))
    refine le_trans (le_of_eq (congrArg f ?_)) (Finset.le_sup (f := fun y => f (n + 128 * (x / 128) + y)) (Finset.mem_range.2 (show x % 128 < 128 by omega)))
    omega
  · have hx := Finset.mem_range.1 hx
    rw [Nat.add_assoc]
    exact Finset.le_sup (f := fun y => f (n + y)) (Finset.mem_range.2 (by omega))

end Cert.KernelIdeal.Attn
-- ==== Proof.KernelIdeal.Chunk.lean ====
/- Hand-written. The loop over the chunks of keys, over the extended reals: after `k` chunks the partial sums, the partial maxima,
   the scores and the accumulator are sums, maxima and products over the first `1152 k` keys. -/
module

public import proofs.«01_k».proof.Proof.KernelIdeal.Blocks

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- A load of a rectangle of a rank-2 buffer, at an index. -/
theorem ld2 {sig : RefSig} {κ : Kind} {sp : Space} {e : EltTy} {Val : EltTy → Type} {N M R C : ℕ} (v : View sig κ sp (⟨2, ![N, M]⟩ : Shape) e)
    (f : v.ty.Contents Val) {off : Fin 2 → ℕ} (inb : ∀ a : Fin 2, off a + (![R, C] : Fin 2 → ℕ) a ≤ (![N, M] : Fin 2 → ℕ) a) {o p : ℕ}
    (h : off = ![o, p]) (r : Fin R) (q : Fin C) (hr : o + r.val < N) (hq : p + q.val < M) :
    v.readAt Val (Rect.unit (s := (⟨2, ![N, M]⟩ : Shape)) off ![R, C] inb).toLoadRect f (ix2 r q) = v.read Val f (ix2 ⟨o + r.val, hr⟩ ⟨p + q.val, hq⟩) := by
  subst h
  exact congrArg (v.read Val f) (funext fun a => Fin.ext (match a with
    | ⟨0, _⟩ => by show o + 1 * r.val = o + r.val; omega
    | ⟨1, _⟩ => by show p + 1 * q.val = p + q.val; omega))

section Trip
variable (c : Dev nD) (i : grid0.Coords)
    (arg2 : Memref sig .tc .vmem S1x256x128 .bf16) (harg2 : arg2.IsWhole) (arg3 : Memref sig .tc .vmem S1x1x256 .f32) (harg3 : arg3.IsWhole)
    (arg4 : Memref sig .tc .vmem S1x234x128 .f32) (harg4 : arg4.IsWhole) (arg5 : Memref sig .tc .smem S1x1x1 .f32) (harg5 : arg5.IsWhole)
    (arg8 : Memref sig .tc .vmem S1x256x128 .bf16) (harg8 : arg8.IsWhole)
    (v8 : Vec Ideal S1x1x256 .f32) (v12 : Vec Ideal S8x256 .f32) (v18 : Vec Ideal S1x256x128 .bf16)
    (XK : WBuf (F := Ideal) c scK) (XV : WBuf (F := Ideal) c scV) (XS : WBuf (F := Ideal) c scS) (GY : WBuf (F := Ideal) c scY)

/-- The accumulator at the loop's entry: zeros. -/
abbrev GA0 : WBuf (F := Ideal) c scA :=
  scA.view.writes (Elt Ideal) scA.view.junk [⟨Rect.unit (s := S128x256) ![0, 0] S128x256.size inb_S128x256_S128x256_0_0, k0_pay62 (F := Ideal)⟩]

/-- The loop's state before chunk `k`. -/
abbrev stK (k : ℕ) :=
  st_k0_t2 (F := Ideal) Variants.none c none i arg2 harg2 arg3 harg3 arg4 harg4 arg5 harg5 hbK (Memref.isWhole_whole _) hbV (Memref.isWhole_whole _) arg8 harg8
          scY (Memref.isWhole_whole _) scK (Memref.isWhole_whole _) scV (Memref.isWhole_whole _) scS (Memref.isWhole_whole _) scM (Memref.isWhole_whole _) scA (Memref.isWhole_whole _) cc0_scratch6
    v8 v12 v18 XK XV XS GY (GA0 c) (k0_pay63, k0_pay64) k

/-- The state after a chunk, from the state before it. -/
theorem stK_succ (k : Fin k0_t2_loop.trips) :
    stK c i arg2 harg2 arg3 harg3 arg4 harg4 arg5 harg5 arg8 harg8 v8 v12 v18 XK XV XS GY (k.val + 1)
      = (let P := stK c i arg2 harg2 arg3 harg3 arg4 harg4 arg5 harg5 arg8 harg8 v8 v12 v18 XK XV XS GY k.val
         let f9 : WBuf (F := Ideal) c scY := scY.view.writes (Elt Ideal) GY P.2.1
         let f14 : WBuf (F := Ideal) c scA := scA.view.writes (Elt Ideal) (GA0 c) P.2.2
         let t := tR c i arg2 harg2 arg3 harg3 arg4 harg4 arg5 harg5 arg8 harg8 v8 v12 v18 XK XV XS k
         (t.1 P.1 f9 f14, t.2.1 P.1 f9 f14 ++ P.2.1, t.2.2.1 P.1 f9 f14 ++ P.2.2)) := by
  unfold stK
  rw [st_k0_t2_succ]

variable (Kf : ℕ → Fin 128 → EReal) (Sf : ℕ → EReal) (Vf : Fin 128 → ℕ → EReal) (Yo Yn : ℕ → Fin 256 → EReal)

/-- The weight of key `r` for query `q`. -/
abbrev Pf (r : ℕ) (q : Fin 256) : EReal := Ideal.exp2 (Yo r q * k0_pay59 (F := Ideal) v8 (ix2 0 q) - k0_pay60 (F := Ideal) v8 v12 (ix2 0 q))

variable (hK : ∀ (r : Fin 29952) (q : Fin 256),
      (∑ d : Fin 128, scK.view.read (Elt Ideal) XK (ix2 r d) * v18 (ix3 0 q d)) * scS.view.read (Elt Ideal) XS (ix2 r 0) = Yn r.val q)
    (hS : ∀ (r : Fin 29952) (l : Fin 128), scS.view.read (Elt Ideal) XS (ix2 r l) = scS.view.read (Elt Ideal) XS (ix2 r 0))
    (hV : ∀ (d : Fin 128) (r : Fin 29952), scV.view.read (Elt Ideal) XV (ix2 d r) = Vf d r.val)

include hV in
theorem ldV_apply (k : Fin k0_t2_loop.trips) (j : Fin 9) (d : Fin 128) (r : Fin 128) :
    ldV c k j XV (ix2 d r) = Vf d (1152 * k.val + 128 * j.val + r.val) := by
  have hk : k.val < 26 := Nat.lt_of_lt_of_le k.isLt k0_t2_abs.2.1
  unfold ldV
  refine (ld2 scV.view XV (k0_off7_inb k j) (k0_off7_eq k j) d r (by omega) (by omega)).trans ?_
  rw [← hV _ ⟨1152 * k.val + 128 * j.val + r.val, by omega⟩]
  congr 2
  exact Fin.ext (Nat.zero_add _)

include hK hS in
theorem tY_apply (k : Fin k0_t2_loop.trips) (j : Fin 9) (r : Fin 128) (q : Fin 256) :
    tY c v18 XK XS k j (ix2 r q) = Yn (1152 * k.val + 128 * j.val + r.val) q := by
  have hk : k.val < 26 := Nat.lt_of_lt_of_le k.isLt k0_t2_abs.2.1
  have e := hK ⟨1152 * k.val + 128 * j.val + r.val, by omega⟩ q
  refine Eq.trans ?_ e
  refine (blkY_apply j v18 _ _ (scS.view.read (Elt Ideal) XS (ix2 ⟨1152 * k.val + 128 * j.val + r.val, by omega⟩ 0)) r q ?_).trans ?_
  · intro l
    refine (ld2 scS.view XS (k0_off8_inb k j) (k0_off8_eq k j) r l (by omega) (by omega)).trans (hS _ _)
  · congr 1
    refine Finset.sum_congr rfl fun d _ => ?_
    congr 1
    refine (ld2 scK.view XK (k0_off5_inb k) (k0_off5_eq k) ⟨128 * j.val + r.val, by omega⟩ d (by show 1152 * k.val + (128 * j.val + r.val) < 29952; omega) (by omega)).trans ?_
    congr 2
    · exact Fin.ext (Nat.add_assoc _ _ _).symm
    · exact Fin.ext (Nat.zero_add _)

theorem tP_apply (k : Fin k0_t2_loop.trips) (f9 : WBuf (F := Ideal) c scY)
    (hY : ∀ (r : Fin 29952) (q : Fin 256), 1152 * k.val ≤ r.val → scY.view.read (Elt Ideal) f9 (ix2 r q) = Yo r.val q)
    (j : Fin 9) (r : Fin 128) (q : Fin 256) :
    tP c v8 v12 k f9 j (ix2 r q) = Pf v8 v12 Yo (1152 * k.val + 128 * j.val + r.val) q := by
  have hk : k.val < 26 := Nat.lt_of_lt_of_le k.isLt k0_t2_abs.2.1
  refine (blkP_apply v8 v12 _ r q).trans ?_
  have e := hY ⟨1152 * k.val + 128 * j.val + r.val, by omega⟩ q (by show 1152 * k.val ≤ 1152 * k.val + 128 * j.val + r.val; omega)
  have e2 : ldY c k j f9 (ix2 r q) = Yo (1152 * k.val + 128 * j.val + r.val) q := by
    refine (ld2 scY.view f9 (k0_off6_inb k j) (k0_off6_eq k j) r q (by omega) (by omega)).trans (Eq.trans ?_ e)
    congr 2
    exact Fin.ext (Nat.zero_add _)
  rw [e2]

include hK hS in
/-- The scores' buffer after some sub-blocks of a chunk are stored: the new scores at their rows, the earlier contents elsewhere. -/
theorem storesY_apply (k : Fin k0_t2_loop.trips) (Js : List (Fin 9)) (L : List (View.Piece (Elt Ideal) S29952x256 .f32)) (r : Fin 29952) (q : Fin 256) :
    scY.view.read (Elt Ideal) (scY.view.writes (Elt Ideal) GY ((Js.map fun j =>
          (⟨Rect.unit (s := S29952x256) (k0_off6 k (ow j)) S128x256.size (k0_off6_inb k j),
            shapeCast S128x256 (tY c v18 XK XS k j) shapeCasts_S128x256_S128x256⟩ : View.Piece (Elt Ideal) S29952x256 .f32)) ++ L)) (ix2 r q)
      = if ∃ j ∈ Js, 1152 * k.val + 128 * j.val ≤ r.val ∧ r.val < 1152 * k.val + 128 * j.val + 128 then Yn r.val q
        else scY.view.read (Elt Ideal) (scY.view.writes (Elt Ideal) GY L) (ix2 r q) := by
  induction Js with
  | nil => simp
  | cons j Js ih =>
    rw [List.map_cons, List.cons_append]
    by_cases h : 1152 * k.val + 128 * j.val ≤ r.val ∧ r.val < 1152 * k.val + 128 * j.val + 128
    · rw [if_pos ⟨j, by simp, h⟩]
      refine (View.read_writes_cons_rows_of_mem scY.view GY (k0_off6_inb k j) _ _ (ix2 r q)
        (ix2 (⟨r.val - (1152 * k.val + 128 * j.val), by omega⟩ : Fin 128) q) (k0_off6_eq k j) (by show r.val = _ + (r.val - _); omega) rfl).trans ?_
      rw [castY_eq, tY_apply c v18 XK XS Yn hK hS]
      congr 1
      show 1152 * k.val + 128 * j.val + (r.val - (1152 * k.val + 128 * j.val)) = r.val
      omega
    · rw [View.read_writes_cons_rows_of_not_mem scY.view GY (k0_off6_inb k j) _ _ (ix2 r q) (k0_off6_eq k j) (W := 128) rfl
        (by show r.val < _ ∨ _ ≤ r.val; omega), ih]
      congr 1
      simp [h]

theorem sum9 {M : Type} [AddCommMonoid M] (f : Fin 9 → M) : ∑ j, f j = f 0 + f 1 + f 2 + f 3 + f 4 + f 5 + f 6 + f 7 + f 8 := by
  rw [Fin.sum_univ_castSucc, Fin.sum_univ_eight]; rfl

theorem sup9 (f : Fin 9 → EReal) : Finset.univ.sup f = max (max (max (max (max (max (max (max (f 0) (f 1)) (f 2)) (f 3)) (f 4)) (f 5)) (f 6)) (f 7)) (f 8) := by
  rw [show (Finset.univ : Finset (Fin 9)) = {0, 1, 2, 3, 4, 5, 6, 7, 8} from by decide]
  simp only [Finset.sup_insert, Finset.sup_singleton, max_assoc]

/-- The loop's meaning after `n` keys. -/
structure ChunkInv (n : ℕ) (T : (FVec Ideal S8x256 .f32 × FVec Ideal S8x256 .f32) × List (View.Piece (Elt Ideal) S29952x256 .f32)
    × List (View.Piece (Elt Ideal) S128x256 .f32)) : Prop where
  /-- The partial sums add up to the sum of the weights so far. -/
  l : ∀ q, ∑ s : Fin 8, T.1.1 (ix2 s q) = ∑ x ∈ Finset.range n, Pf v8 v12 Yo x q
  /-- The largest partial maximum is the largest new score so far. -/
  x : ∀ q, (Finset.univ : Finset (Fin 8)).sup (fun s => T.1.2 (ix2 s q)) = (Finset.range n).sup fun x => Yn x q
  /-- The first `n` rows hold new scores, the others the old ones. -/
  y : ∀ (r : Fin 29952) (q : Fin 256), scY.view.read (Elt Ideal) (scY.view.writes (Elt Ideal) GY T.2.1) (ix2 r q) = if r.val < n then Yn r.val q else Yo r.val q
  /-- The accumulator holds the weighted values so far. -/
  a : ∀ (d : Fin 128) (q : Fin 256), scA.view.read (Elt Ideal) (scA.view.writes (Elt Ideal) (GA0 c) T.2.2) (ix2 d q)
    = ∑ x ∈ Finset.range n, Vf d x * clip8 (Pf v8 v12 Yo x q)

variable (hY : ∀ (r : Fin 29952) (q : Fin 256), scY.view.read (Elt Ideal) GY (ix2 r q) = Yo r.val q)

include hK hS hV hY in
/-- The loop's meaning after `k` chunks. -/
theorem chunk_inv (k : ℕ) (hk : k ≤ 26) :
    ChunkInv c v8 v12 GY Vf Yo Yn (1152 * k) (stK c i arg2 harg2 arg3 harg3 arg4 harg4 arg5 harg5 arg8 harg8 v8 v12 v18 XK XV XS GY k) := by
  induction k with
  | zero =>
    refine ⟨fun q => ?_, fun q => ?_, fun r q => ?_, fun d q => ?_⟩
    · show ∑ s : Fin 8, k0_pay63 (F := Ideal) (ix2 s q) = _
      simp [pay63_apply]
    · show (Finset.univ : Finset (Fin 8)).sup (fun s => k0_pay64 (F := Ideal) (ix2 s q)) = _
      simp [pay64_apply]
    · rw [if_neg (by omega), ← hY r q]; rfl
    · show scA.view.read (Elt Ideal) (GA0 c) (ix2 d q) = _
      unfold GA0
      rw [View.read_writes_full scA.view _ (off := ![0, 0]) inb_S128x256_S128x256_0_0]
      simp [pay62_apply]
  | succ k ih =>
    have ih := ih (by omega)
    have ht : k < k0_t2_loop.trips := lt_of_lt_of_le (show k < 26 by omega) (by decide +kernel)
    rw [stK_succ c i arg2 harg2 arg3 harg3 arg4 harg4 arg5 harg5 arg8 harg8 v8 v12 v18 XK XV XS GY ⟨k, ht⟩]
    generalize stK c i arg2 harg2 arg3 harg3 arg4 harg4 arg5 harg5 arg8 harg8 v8 v12 v18 XK XV XS GY k = P at ih ⊢
    obtain ⟨il, ix, iy, ia⟩ := ih
    dsimp only
    rw [trip_yield, trip_storesY, trip_storesA]
    have hP := tP_apply c v8 v12 Yo ⟨k, ht⟩ (scY.view.writes (Elt Ideal) GY P.2.1)
      (fun r q h => by rw [iy, if_neg (by have : 1152 * k ≤ r.val := h; omega)])
    have hYn := tY_apply c v18 XK XS Yn hK hS ⟨k, ht⟩
    have hn : 1152 * (k + 1) = 1152 * k + 1152 := by omega
    refine ⟨fun q => ?_, fun q => ?_, fun r q => ?_, fun d q => ?_⟩
    · rw [hn, sum_chunk, ← il q]
      have h1 : ∀ j : Fin 9, ∑ x ∈ Finset.range 128, Pf v8 v12 Yo (1152 * k + 128 * j.val + x) q
          = ∑ s : Fin 8, blkL (tP c v8 v12 ⟨k, ht⟩ (scY.view.writes (Elt Ideal) GY P.2.1) j) (ix2 s q) := fun j => by
        rw [← sum_8_16]
        refine Finset.sum_congr rfl fun s _ => ?_
        rw [blkL_apply]
        exact Finset.sum_congr rfl fun a _ => (hP j ⟨a.val * 8 + s.val, by omega⟩ q).symm
      rw [Finset.sum_congr rfl fun j _ => h1 j, Finset.sum_comm, ← Finset.sum_add_distrib]
      refine Finset.sum_congr rfl fun s _ => ?_
      rw [sum9]
      simp only [ValueIdx.addf_apply, add_assoc]
    · rw [hn, sup_chunk, ← ix q]
      have h1 : ∀ j : Fin 9, ((Finset.range 128).sup fun x => Yn (1152 * k + 128 * j.val + x) q)
          = (Finset.univ : Finset (Fin 8)).sup fun s => blkX (tY c v18 XK XS ⟨k, ht⟩ j) (ix2 s q) := fun j => by
        rw [← sup_8_16]
        refine Finset.sup_congr rfl fun s _ => ?_
        rw [blkX_apply]
        exact Finset.sup_congr rfl fun a _ => (hYn j ⟨a.val * 8 + s.val, by omega⟩ q).symm
      rw [Finset.sup_congr rfl fun j _ => h1 j, Finset.sup_comm, ← Finset.sup_sup]
      refine Finset.sup_congr rfl fun s _ => ?_
      rw [Pi.sup_apply, sup9]
      simp only [ValueIdx.maximumf_apply, max_assoc]
    · rw [storesY_apply c v18 XK XS GY Yn hK hS, iy]
      by_cases h1 : r.val < 1152 * k
      · rw [if_neg, if_pos h1, if_pos (by omega)]
        rintro ⟨j, -, h⟩
        have : 1152 * k + 128 * j.val ≤ r.val := h.1
        omega
      · by_cases h2 : r.val < 1152 * k + 1152
        · rw [if_pos, if_pos (by omega)]
          refine ⟨⟨(r.val - 1152 * k) / 128, by omega⟩, ?_, ?_⟩
          · generalize (⟨(r.val - 1152 * k) / 128, _⟩ : Fin 9) = z
            revert z; decide
          · show 1152 * k + 128 * ((r.val - 1152 * k) / 128) ≤ r.val ∧ r.val < 1152 * k + 128 * ((r.val - 1152 * k) / 128) + 128
            omega
        · rw [if_neg, if_neg h1, if_neg (by omega)]
          rintro ⟨j, -, h⟩
          have : r.val < 1152 * k + 128 * j.val + 128 := h.2
          omega
    · rw [hn, sum_chunk, ← ia d q, List.singleton_append]
      refine (congrFun (View.read_writes_full scA.view (GA0 c) (off := ![0, 0]) inb_S128x256_S128x256_0_0 _ _) _).trans ?_
      rw [pay65_eq]
      have h1 : ∀ j : Fin 9, ∑ x ∈ Finset.range 128, Vf d (1152 * k + 128 * j.val + x) * clip8 (Pf v8 v12 Yo (1152 * k + 128 * j.val + x) q)
          = tD c v8 v12 XV ⟨k, ht⟩ (scY.view.writes (Elt Ideal) GY P.2.1) j (ix2 d q) := fun j => by
        refine Eq.trans ?_ (blkD_apply _ _ d q).symm
        rw [← Fin.sum_univ_eq_sum_range (fun x => Vf d (1152 * k + 128 * j.val + x) * clip8 (Pf v8 v12 Yo (1152 * k + 128 * j.val + x) q)) 128]
        exact Finset.sum_congr rfl fun r _ => by rw [hP, ldV_apply c XV Vf hV]
      rw [Finset.sum_congr rfl fun j _ => h1 j, sum9]
      simp only [ValueIdx.addf_apply]
      congr 1
      exact congrFun (View.readAt_full scA.view _ (off := ![0, 0]) inb_S128x256_S128x256_0_0) _

end Trip

end Cert.KernelIdeal.Attn
-- ==== Proof.KernelIdeal.Fill.lean ====
/- Hand-written. What the first step of a head puts in the scratch buffers: the head's keys, its values, and its key scales spread
   over rows. -/
module

public import proofs.«01_k».proof.Proof.KernelIdeal.Chunk

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

section Fill
variable (c : Dev nD) (i : grid0.Coords)
    (arg2 : Memref sig .tc .vmem S1x256x128 .bf16) (harg2 : arg2.IsWhole) (arg3 : Memref sig .tc .vmem S1x1x256 .f32) (harg3 : arg3.IsWhole)
    (arg4 : Memref sig .tc .vmem S1x234x128 .f32) (harg4 : arg4.IsWhole) (arg5 : Memref sig .tc .smem S1x1x1 .f32) (harg5 : arg5.IsWhole)
    (arg8 : Memref sig .tc .vmem S1x256x128 .bf16) (harg8 : arg8.IsWhole) (h1 : k0_cond1 i = 1#1) (f4 : WBuf (F := Ideal) c arg4)

/-- The pieces of the fill loop's trips before `k`. -/
abbrev pbK (k : ℕ) :=
  pb_k0_t1 (F := Ideal) Variants.none c none i arg2 harg2 arg3 harg3 arg4 harg4 arg5 harg5 hbK (Memref.isWhole_whole _) hbV (Memref.isWhole_whole _) arg8 harg8
          scY (Memref.isWhole_whole _) scK (Memref.isWhole_whole _) scV (Memref.isWhole_whole _) scS (Memref.isWhole_whole _) scM (Memref.isWhole_whole _) scA (Memref.isWhole_whole _) cc0_scratch6
    h1 f4 k

/-- One trip writes one row of scales over 128 rows. -/
theorem pbK_succ (k : Fin k0_t1_loop.trips) :
    pbK c i arg2 harg2 arg3 harg3 arg4 harg4 arg5 harg5 arg8 harg8 h1 f4 (k.val + 1)
      = [(⟨Rect.unit (s := S29952x128) (k0_off4 k) S128x128.size (k0_off4_inb i k h1),
          k0_pay56 (View.readAt (Elt Ideal) arg4.view (Rect.unit (s := S1x234x128) (k0_off3 k) S1x1x128.size (k0_off3_inb i k h1)).toLoadRect f4)⟩ : View.Piece (Elt Ideal) S29952x128 .f32)]
        ++ pbK c i arg2 harg2 arg3 harg3 arg4 harg4 arg5 harg5 arg8 harg8 h1 f4 k.val := by
  unfold pbK
  rw [pb_k0_t1_succ]
  congr 1
  unfold tripL_k0_t1 trip_k0_t1
  rfl

/-- A load of one row of the scales' window. -/
theorem ld3 (f : arg4.view.ty.Contents (Elt Ideal)) {off : Fin 3 → ℕ} (inb : ∀ a, off a + S1x1x128.size a ≤ S1x234x128.size a) {k : ℕ}
    (h : off = ![0, k, 0]) (hk : k < 234) (l : Fin 128) :
    View.readAt (Elt Ideal) arg4.view (Rect.unit (s := S1x234x128) off S1x1x128.size inb).toLoadRect f (ix3 0 0 l) = arg4.view.read (Elt Ideal) f (ix3 0 ⟨k, hk⟩ l) := by
  subst h
  exact congrArg (arg4.view.read (Elt Ideal) f) (funext fun a => Fin.ext (match a with
    | ⟨0, _⟩ => rfl
    | ⟨1, _⟩ => rfl
    | ⟨2, _⟩ => by show 0 + 1 * l.val = l.val; omega))

/-- The scales' buffer after `k` trips of the fill loop: the scale of key `r` all along row `r`. -/
theorem fill_apply (s : ℕ → EReal) (hs : ∀ (a : Fin 234) (l : Fin 128), arg4.view.read (Elt Ideal) f4 (ix3 0 a l) = s (128 * a.val + l.val))
    (G : WBuf (F := Ideal) c scS) (k : ℕ) (hk : k ≤ 234) (r : Fin 29952) (l : Fin 128) (hr : r.val < 128 * k) :
    scS.view.read (Elt Ideal) (scS.view.writes (Elt Ideal) G (pbK c i arg2 harg2 arg3 harg3 arg4 harg4 arg5 harg5 arg8 harg8 h1 f4 k)) (ix2 r l) = s r.val := by
  induction k with
  | zero => omega
  | succ k ih =>
    have ht : k < k0_t1_loop.trips := lt_of_lt_of_le (show k < 234 by omega) (by decide +kernel)
    rw [pbK_succ c i arg2 harg2 arg3 harg3 arg4 harg4 arg5 harg5 arg8 harg8 h1 f4 ⟨k, ht⟩, List.singleton_append]
    by_cases h : 128 * k ≤ r.val
    · refine (View.read_writes_cons_rows_of_mem scS.view G (k0_off4_inb i ⟨k, ht⟩ h1) _ _ (ix2 r l)
        (ix2 (⟨r.val - 128 * k, by omega⟩ : Fin 128) l) (k0_off4_eq ⟨k, ht⟩) (by show r.val = 128 * k + (r.val - _); omega) rfl).trans ?_
      rw [pay56_apply, ld3 arg4 f4 (k0_off3_inb i ⟨k, ht⟩ h1) (k0_off3_eq ⟨k, ht⟩) (show k < 234 by omega), hs]
      congr 1
      show 128 * k + (r.val - 128 * k) = r.val
      omega
    · rw [View.read_writes_cons_rows_of_not_mem scS.view G (k0_off4_inb i ⟨k, ht⟩ h1) _ _ (ix2 r l) (k0_off4_eq ⟨k, ht⟩) (W := 128) rfl
        (by left; show r.val < 128 * k; omega)]
      exact ih (by omega) (by omega)

/-- A block of one leading index, copied out with the leading axis dropped, at an index. -/
theorem sq3 {sig : RefSig} {κ : Kind} {sp : Space} {e : EltTy} {Val : EltTy → Type} {H N M : ℕ} (v : View sig κ sp (⟨3, ![H, N, M]⟩ : Shape) e)
    (f : v.ty.Contents Val) {off : Fin 3 → ℕ} (inb : ∀ a : Fin 3, off a + (![1, N, M] : Fin 3 → ℕ) a ≤ (![H, N, M] : Fin 3 → ℕ) a) (h : Fin H)
    (e : off = ![h.val, 0, 0]) (hc : (⟨3, ![1, N, M]⟩ : Shape).ShapeCasts ⟨2, ![N, M]⟩) (r : Fin N) (q : Fin M) :
    shapeCast ⟨2, ![N, M]⟩ (v.readAt Val (Rect.unit (s := (⟨3, ![H, N, M]⟩ : Shape)) off ![1, N, M] inb).toLoadRect f) hc (ix2 r q)
      = v.read Val f (ix3 h r q) := by
  subst e
  refine (shapeCast_dropUnit_apply ![N, M] _ hc (ix2 r q)).trans ?_
  exact congrArg (v.read Val f) (funext fun a => Fin.ext (match a with
    | ⟨0, _⟩ => rfl
    | ⟨1, _⟩ => by show 0 + 1 * r.val = r.val; omega
    | ⟨2, _⟩ => by show 0 + 1 * q.val = q.val; omega))

/-- What a copy of such a block lands, at an index. -/
theorem sqd {sig : RefSig} {κ : Kind} {sp : Space} {e : EltTy} {Val : EltTy → Type} {H N M : ℕ} (B : Memref sig κ sp (⟨3, ![H, N, M]⟩ : Shape) e)
    (f : B.view.ty.Contents Val) {off : Fin 3 → ℕ} (inb : ∀ a : Fin 3, off a + (![1, N, M] : Fin 3 → ℕ) a ≤ (![H, N, M] : Fin 3 → ℕ) a) (h : Fin H)
    (e : off = ![h.val, 0, 0]) (hq : (⟨3, ![1, N, M]⟩ : Shape).Squeezes ⟨2, ![N, M]⟩) (r : Fin N) (q : Fin M) :
    ReadAs.same.apply (View.read Val ((B.slice (Rect.unit (s := (⟨3, ![H, N, M]⟩ : Shape)) off ![1, N, M] inb) (fun _ => rfl)).squeeze ⟨2, ![N, M]⟩ hq).view f) (ix2 r q)
      = B.view.read Val f (ix3 h r q) := by
  have hc : (⟨3, ![1, N, M]⟩ : Shape).ShapeCasts ⟨2, ![N, M]⟩ := Shape.Squeezes.numel_eq hq
  refine Eq.trans ?_ (sq3 B.view f inb h e hc r q)
  exact congrFun (Memref.read_squeeze_slice B (Rect.unit (s := (⟨3, ![H, N, M]⟩ : Shape)) off ![1, N, M] inb) (fun _ => rfl) hq hc f) _

/-- What the copy of the keys lands, at an index. -/
theorem dmaK_apply (fhK : WBuf (F := Ideal) c hbK) (h : Fin 32) (hh : (i 0).val = h.val) (r : Fin 29952) (d : Fin 128) :
    dmaK c i h1 fhK (ix2 r d) = fhK (ix3 h r d) := by
  unfold dmaK
  rw [sqd hbK fhK (k0_off1_inb i h1) h (by rw [k0_off1_eq, hh]) squeezes_S1x29952x128_S29952x128 r d]
  rfl

/-- What the copy of the values lands, at an index. -/
theorem dmaV_apply (fhV : WBuf (F := Ideal) c hbV) (h : Fin 32) (hh : (i 0).val = h.val) (d : Fin 128) (r : Fin 29952) :
    dmaV c i h1 fhV (ix2 d r) = fhV (ix3 h d r) := by
  unfold dmaV
  rw [sqd hbV fhV (k0_off2_inb i h1) h (by rw [k0_off2_eq, hh]) squeezes_S1x128x29952_S128x29952 d r]
  rfl

end Fill

end Cert.KernelIdeal.Attn

end
-- ==== Proof.KernelIdeal.Index.lean ====
/- Hand-written. Where a step of the attention call stands: its head and query block, and what its input blocks read of the argument
   arrays. -/
module

public import proofs.«01_k».proof.Proof.KernelIdeal.Fill

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-- The head of a step. -/
theorem coord0 : ∀ t : Fin grid0.N, (grid0.coords t 0).val = t.val / 118 := by decide +kernel
/-- The step within the head. -/
theorem coord1 : ∀ t : Fin grid0.N, (grid0.coords t 1).val = t.val % 118 := by decide +kernel
/-- The first guard holds at the first step of a head. -/
theorem cond1_iff : ∀ t : Fin grid0.N, k0_cond1 (grid0.coords t) = 1#1 ↔ t.val % 118 = 0 := by decide +kernel
/-- The query block read at a step. -/
theorem idx0 : ∀ t : Fin grid0.N, cc0_transform_0 (grid0.coords t) = ![t.val / 118, min (t.val % 118) 116, 0] := by decide +kernel
/-- The block of query scales read at a step: that of the step before. -/
theorem idx1 : ∀ t : Fin grid0.N, cc0_transform_1 (grid0.coords t) = ![t.val / 118, 0, t.val % 118 - 1] := by decide +kernel
/-- The key scales read at a step. -/
theorem idx2 : ∀ t : Fin grid0.N, cc0_transform_2 (grid0.coords t) = ![t.val / 118, 0, 0] := by decide +kernel
/-- The value scale read at a step. -/
theorem idx3 : ∀ t : Fin grid0.N, cc0_transform_3 (grid0.coords t) = ![t.val / 118, 0, 0] := by decide +kernel
/-- The block of the result written at a step. -/
theorem idx4 : ∀ t : Fin grid0.N, cc0_transform_6 (grid0.coords t) = ![t.val / 118 / 16, t.val % 118 - 1, t.val / 118 % 16] := by decide +kernel
/-- A step's block is written back unless the step is the first of its head. -/
theorem flush_iff : ∀ t : Fin grid0.N, win0_4.flush t = true ↔ t.val % 118 ≠ 0 := by decide +kernel

theorem head_lt (t : Fin cfg0.N) : t.val / 118 < 32 := by
  have h : t.val < 3776 := lt_of_lt_of_le t.isLt (by decide +kernel)
  omega

variable (m : (ℓ : Loc nD τ sig) → Buf (Elt Ideal) ℓ) (c : Dev nD)

/-- The queries' block of a step. -/
theorem iblk0_apply (t : Fin cfg0.N) (q : Fin 256) (d : Fin 128) :
    iblk m c 0 t (ix3 0 q d) = m ((c.tc : Thread nD τ).loc main_arg0) (ix3 ⟨t.val / 118, head_lt t⟩ ⟨256 * min (t.val % 118) 116 + q.val, by omega⟩ d) := by
  refine congrArg (m ((c.tc : Thread nD τ).loc main_arg0)) (funext fun a => Fin.ext ?_)
  refine (Pipeline.Window.rect_emb_val win0_0 t (ix3 0 q d) a rfl).trans ?_
  show cc0_transform_0 (grid0.coords t) a * _ + _ = _
  rw [idx0]
  match a with
  | ⟨0, _⟩ => show t.val / 118 * 1 + 0 = t.val / 118; omega
  | ⟨1, _⟩ => show min (t.val % 118) 116 * 256 + q.val = 256 * min (t.val % 118) 116 + q.val; omega
  | ⟨2, _⟩ => show 0 * 128 + d.val = d.val; omega

/-- The query scales' block of a step. -/
theorem iblk1_apply (t : Fin cfg0.N) (q : Fin 256) :
    iblk m c 1 t (ix3 0 0 q) = m ((c.tc : Thread nD τ).loc main_arg1) (ix3 ⟨t.val / 118, head_lt t⟩ 0 ⟨256 * (t.val % 118 - 1) + q.val, by omega⟩) := by
  refine congrArg (m ((c.tc : Thread nD τ).loc main_arg1)) (funext fun a => Fin.ext ?_)
  refine (Pipeline.Window.rect_emb_val win0_1 t (ix3 0 0 q) a rfl).trans ?_
  show cc0_transform_1 (grid0.coords t) a * _ + _ = _
  rw [idx1]
  match a with
  | ⟨0, _⟩ => show t.val / 118 * 1 + 0 = t.val / 118; omega
  | ⟨1, _⟩ => rfl
  | ⟨2, _⟩ => show (t.val % 118 - 1) * 256 + q.val = 256 * (t.val % 118 - 1) + q.val; omega

/-- The key scales' block of a step. -/
theorem iblk2_apply (t : Fin cfg0.N) (a : Fin 234) (l : Fin 128) :
    iblk m c 2 t (ix3 0 a l) = m ((c.tc : Thread nD τ).loc main_arg2) (ix3 ⟨t.val / 118, head_lt t⟩ a l) := by
  refine congrArg (m ((c.tc : Thread nD τ).loc main_arg2)) (funext fun b => Fin.ext ?_)
  refine (Pipeline.Window.rect_emb_val win0_2 t (ix3 0 a l) b rfl).trans ?_
  show cc0_transform_2 (grid0.coords t) b * _ + _ = _
  rw [idx2]
  match b with
  | ⟨0, _⟩ => show t.val / 118 * 1 + 0 = t.val / 118; omega
  | ⟨1, _⟩ => show 0 * 234 + a.val = a.val; omega
  | ⟨2, _⟩ => show 0 * 128 + l.val = l.val; omega

/-- The value scale of a step. -/
theorem iblk3_apply (t : Fin cfg0.N) :
    iblk m c 3 t (ix3 0 0 0) = m ((c.tc : Thread nD τ).loc main_arg3) (ix3 ⟨t.val / 118, head_lt t⟩ 0 0) := by
  refine congrArg (m ((c.tc : Thread nD τ).loc main_arg3)) (funext fun b => Fin.ext ?_)
  refine (Pipeline.Window.rect_emb_val win0_3 t (ix3 0 0 0) b rfl).trans ?_
  show cc0_transform_3 (grid0.coords t) b * _ + _ = _
  rw [idx3]
  match b with
  | ⟨0, _⟩ => show t.val / 118 * 1 + 0 = t.val / 118; omega
  | ⟨1, _⟩ => rfl
  | ⟨2, _⟩ => rfl

end Cert.KernelIdeal.Attn

end
-- ==== Proof.Algebra.lean ====
/- Hand-written. The mathematics the two programs share, over the extended reals: a row of attention computed with powers of two
   and a maximum taken before the scale is the row computed with exponentials and the maximum of the scaled scores. -/
module

public import Idealize.ShloMosaic.Lib.Pointwise
public import Mathlib.Data.EReal.Inv
public import Mathlib.Analysis.SpecialFunctions.Pow.Real

@[expose] public section

noncomputable section

namespace Cert.Attn

open Idealize.ShloMosaic

/-- The score scale times log2 e. -/
abbrev Ck : EReal := (((Real.sqrt 128)⁻¹ * (Real.log 2)⁻¹ : ℝ) : EReal)
/-- The score scale. -/
abbrev Cs : EReal := (((Real.sqrt 128)⁻¹ : ℝ) : EReal)

/-- Clipping to the range of the 8-bit format. -/
def clip (x : EReal) : EReal := min (Ideal.ofBits .f32 0x43E00000#32) (max 0 x)

theorem ofBits_8 : Ideal.ofBits .f32 0x41000000#32 = ((8 : ℝ) : EReal) := by
  simp [Ideal.ofBits, Ideal.ieee]; rw [← EReal.coe_mul]; norm_num
theorem ofBits_256 : Ideal.ofBits .f32 0x43800000#32 = ((256 : ℝ) : EReal) := by
  simp [Ideal.ofBits, Ideal.ieee]; rw [← EReal.coe_mul]; norm_num

theorem Ck_pos : (0 : ℝ) < (Real.sqrt 128)⁻¹ * (Real.log 2)⁻¹ := by
  have := Real.log_pos (show (1 : ℝ) < 2 by norm_num); positivity
theorem Cs_pos : (0 : ℝ) < (Real.sqrt 128)⁻¹ := by positivity

/-- The power of two of a score, shifted by the maximum less eight, is 256 times the exponential shifted by the maximum. -/
theorem exp_shift (u U : EReal) (h : u ≤ U) :
    Ideal.exp2 (u * Ck - (U * Ck - ((8 : ℝ) : EReal))) = Ideal.exp (u * Cs - U * Cs) * ((256 : ℝ) : EReal) := by
  have hk := Ck_pos
  have hs := Cs_pos
  induction U with
  | bot =>
    obtain rfl : u = ⊥ := le_bot_iff.1 h
    rw [EReal.bot_mul_coe_of_pos hk, EReal.bot_mul_coe_of_pos hs]
    simp [EReal.bot_sub]
  | top =>
    rw [EReal.top_mul_coe_of_pos hk, EReal.top_mul_coe_of_pos hs, EReal.top_sub_coe, EReal.sub_top, EReal.sub_top]
    simp
  | coe U =>
    induction u with
    | bot =>
      rw [EReal.bot_mul_coe_of_pos hk, EReal.bot_mul_coe_of_pos hs]
      simp [EReal.bot_sub]
    | top => exact absurd h (by simp)
    | coe u =>
      rw [← EReal.coe_mul, ← EReal.coe_mul, ← EReal.coe_sub, ← EReal.coe_sub, ← EReal.coe_mul, ← EReal.coe_mul, ← EReal.coe_sub]
      show ((Real.rpow 2 _ : ℝ) : EReal) = ((Real.exp _ : ℝ) : EReal) * _
      rw [← EReal.coe_mul]
      congr 1
      have h2 : Real.log 2 ≠ 0 := (Real.log_pos (by norm_num)).ne'
      have e : u * ((Real.sqrt 128)⁻¹ * (Real.log 2)⁻¹) - (U * ((Real.sqrt 128)⁻¹ * (Real.log 2)⁻¹) - 8)
          = (u * (Real.sqrt 128)⁻¹ - U * (Real.sqrt 128)⁻¹) / Real.log 2 + (8 : ℕ) := by
        push_cast; field_simp; ring
      show (2 : ℝ) ^ (_ : ℝ) = _
      rw [e, Real.rpow_add_natCast (by norm_num), Real.rpow_def_of_pos (by norm_num), mul_div_cancel₀ _ h2]
      norm_num

/-- A nonnegative factor goes through a largest element. -/
theorem sup_mul (n : ℕ) (hn : 0 < n) (f : ℕ → EReal) (b : EReal) (hb : 0 ≤ b) :
    (Finset.range n).sup f * b = (Finset.range n).sup fun r => f r * b := by
  obtain ⟨i, hi, e⟩ := Finset.exists_mem_eq_sup (Finset.range n) ⟨0, by simpa using hn⟩ f
  apply le_antisymm
  · rw [e]; exact Finset.le_sup (f := fun r => f r * b) hi
  · exact Finset.sup_le fun j hj => mul_le_mul_of_nonneg_right (Finset.le_sup hj) hb

theorem exp_nonneg (x : EReal) : 0 ≤ Ideal.exp x := by
  induction x with
  | bot => simp
  | top => simp
  | coe r => exact EReal.coe_nonneg.2 (Real.exp_pos r).le

/-- A sum of nonnegative terms times a real factor. -/
theorem sum_mul (n : ℕ) (p : ℕ → EReal) (hp : ∀ r, 0 ≤ p r) (b : EReal) :
    ∑ r ∈ Finset.range n, p r * b = (∑ r ∈ Finset.range n, p r) * b := by
  induction n with
  | zero => simp
  | succ n ih =>
    rw [Finset.sum_range_succ _ n, Finset.sum_range_succ _ n, ih, EReal.right_distrib_of_nonneg (Finset.sum_nonneg fun r _ => hp r) (hp n)]

/-- Dividing by a 256-fold denominator is dividing the factor by 256 first. -/
theorem div_256 (A v l : EReal) :
    Ideal.div (A * v) (l * ((256 : ℝ) : EReal)) = Ideal.div (A * Ideal.div v ((256 : ℝ) : EReal)) l := by
  have h256 : ((256 : ℝ) : EReal) ≠ 0 := by norm_num
  have e : Ideal.div v ((256 : ℝ) : EReal) = v * (((256 : ℝ)⁻¹ : ℝ) : EReal) := by
    unfold Ideal.div; rw [if_neg h256, EReal.coe_inv]
  rw [e]
  unfold Ideal.div
  by_cases hl : l = 0
  · subst hl
    have : 0 < A * v ↔ 0 < A * (v * (((256 : ℝ)⁻¹ : ℝ) : EReal)) := by
      rw [← mul_assoc]
      have hp : (0 : EReal) < (((256 : ℝ)⁻¹ : ℝ) : EReal) := by rw [← EReal.coe_zero, EReal.coe_lt_coe_iff]; norm_num
      constructor
      · intro h; exact EReal.mul_pos h hp
      · intro h
        by_contra hn
        exact absurd h (not_lt.2 (mul_nonpos_of_nonpos_of_nonneg (not_lt.1 hn) hp.le))
    simp [this]
  · rw [if_neg (mul_ne_zero hl h256), if_neg hl, EReal.mul_inv, EReal.coe_inv, mul_assoc, mul_assoc, mul_assoc, mul_comm l⁻¹]

section Row
variable (n : ℕ) (hn : 0 < n) (d ks V : ℕ → EReal) (a vs : EReal) (ha : 0 ≤ a)

/-- The score of key `r`, before the query's scale. -/
def y (r : ℕ) : EReal := d r * ks r
/-- The weight of key `r` as the kernel computes it. -/
def wK (r : ℕ) : EReal := Ideal.exp2 (y d ks r * (a * Ck) - ((Finset.range n).sup (y d ks) * (a * Ck) - Ideal.ofBits .f32 0x41000000#32))
/-- The scaled score of key `r`. -/
def s (r : ℕ) : EReal := d r * a * ks r * Cs
/-- The weight of key `r`. -/
def wR (r : ℕ) : EReal := Ideal.exp (s d ks a r - (Finset.range n).sup (s d ks a))

include hn ha in
/-- The kernel's weights are 256 times the reference's. -/
theorem wK_eq (r : ℕ) (hr : r < n) : wK n d ks a r = wR n d ks a r * Ideal.ofBits .f32 0x43800000#32 := by
  have hs : ∀ r, s d ks a r = y d ks r * a * Cs := fun r => by unfold s y; rw [mul_right_comm (d r) a]
  have hb : (0 : EReal) ≤ a * Cs := mul_nonneg ha (EReal.coe_nonneg.2 Cs_pos.le)
  have hsup : (Finset.range n).sup (s d ks a) = (Finset.range n).sup (y d ks) * a * Cs := by
    rw [mul_assoc, sup_mul n hn _ _ hb]
    exact Finset.sup_congr rfl fun r _ => by rw [hs, mul_assoc]
  unfold wK wR
  rw [hsup, hs, ofBits_8, ofBits_256, ← mul_assoc, ← mul_assoc]
  exact exp_shift _ _ (mul_le_mul_of_nonneg_right (Finset.le_sup (Finset.mem_range.2 hr)) ha)

include hn ha in
/-- An entry of the output: the kernel's value is the reference's. -/
theorem row_eq :
    Ideal.div ((∑ r ∈ Finset.range n, V r * clip (wK n d ks a r)) * vs) (∑ r ∈ Finset.range n, wK n d ks a r)
      = Ideal.div ((∑ r ∈ Finset.range n, clip (wR n d ks a r * Ideal.ofBits .f32 0x43800000#32) * V r) * Ideal.div vs (Ideal.ofBits .f32 0x43800000#32))
          (∑ r ∈ Finset.range n, wR n d ks a r) := by
  have h := wK_eq n hn d ks a ha
  rw [Finset.sum_congr rfl fun r hr => h r (Finset.mem_range.1 hr), sum_mul n (wR n d ks a) (fun r => exp_nonneg _), ofBits_256, div_256]
  congr 2
  refine Finset.sum_congr rfl fun r hr => ?_
  rw [h r (Finset.mem_range.1 hr), mul_comm, ofBits_256]

end Row

end Cert.Attn

end
-- ==== Proof.KernelIdeal.Step.lean ====
/- Hand-written. What one step of the attention call establishes, over the extended reals: after a step the scratch buffers hold the head's
   keys, values and key scales, and the scores of that step's queries with their maxima; a step after the first writes
   the attention of the queries of the step before. -/
module

public import proofs.«01_k».proof.Proof.KernelIdeal.Index
public import proofs.«01_k».proof.Proof.KernelIdeal.Body
public import proofs.«01_k».proof.Proof.Algebra

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

section Core
variable (c : Dev nD) (i : grid0.Coords)
    (arg2 : Memref sig .tc .vmem S1x256x128 .bf16) (harg2 : arg2.IsWhole) (arg3 : Memref sig .tc .vmem S1x1x256 .f32) (harg3 : arg3.IsWhole)
    (arg4 : Memref sig .tc .vmem S1x234x128 .f32) (harg4 : arg4.IsWhole) (arg5 : Memref sig .tc .smem S1x1x1 .f32) (harg5 : arg5.IsWhole)
    (arg8 : Memref sig .tc .vmem S1x256x128 .bf16) (harg8 : arg8.IsWhole)
    (v8 : Vec Ideal S1x1x256 .f32) (v12 : Vec Ideal S8x256 .f32) (v18 : Vec Ideal S1x256x128 .bf16)
    (XK : WBuf (F := Ideal) c scK) (XV : WBuf (F := Ideal) c scV) (XS : WBuf (F := Ideal) c scS) (GY : WBuf (F := Ideal) c scY)
    (Vf : Fin 128 → ℕ → EReal) (Yo Yn : ℕ → Fin 256 → EReal)

theorem trips_t2 : Scf.trips k0_t2_loop.lb k0_t2_loop.ub k0_t2_loop.st = 26 := by decide +kernel
theorem trips_t1 : Scf.trips k0_t1_loop.lb k0_t1_loop.ub k0_t1_loop.st = 234 := by decide +kernel

/-- The loop over the chunks at its end. -/
theorem stT_inv
    (hK : ∀ (r : Fin 29952) (q : Fin 256),
      (∑ d : Fin 128, scK.view.read (Elt Ideal) XK (ix2 r d) * v18 (ix3 0 q d)) * scS.view.read (Elt Ideal) XS (ix2 r 0) = Yn r.val q)
    (hS : ∀ (r : Fin 29952) (l : Fin 128), scS.view.read (Elt Ideal) XS (ix2 r l) = scS.view.read (Elt Ideal) XS (ix2 r 0))
    (hV : ∀ (d : Fin 128) (r : Fin 29952), scV.view.read (Elt Ideal) XV (ix2 d r) = Vf d r.val)
    (hY : ∀ (r : Fin 29952) (q : Fin 256), scY.view.read (Elt Ideal) GY (ix2 r q) = Yo r.val q) :
    ChunkInv c v8 v12 GY Vf Yo Yn 29952 (stT c i arg2 harg2 arg3 harg3 arg4 harg4 arg5 harg5 arg8 harg8 v8 v12 v18 XK XV XS GY) := by
  have h := chunk_inv c i arg2 harg2 arg3 harg3 arg4 harg4 arg5 harg5 arg8 harg8 v8 v12 v18 XK XV XS GY Vf Yo Yn hK hS hV hY
    (Scf.trips k0_t2_loop.lb k0_t2_loop.ub k0_t2_loop.st) (le_of_eq trips_t2)
  rw [show 1152 * Scf.trips k0_t2_loop.lb k0_t2_loop.ub k0_t2_loop.st = 29952 by rw [trips_t2]] at h
  exact h

end Core

/-! ## The attention of one head, from the argument arrays -/

section Meaning
variable (m : (ℓ : Loc nD τ sig) → Buf (Elt Ideal) ℓ) (c : Dev nD)

/-- The queries. -/
abbrev aQ : S32x29952x128.Idx → EReal := m ((c.tc : Thread nD τ).loc main_arg0)
/-- The query scales. -/
abbrev aQs : S32x1x29952.Idx → EReal := m ((c.tc : Thread nD τ).loc main_arg1)
/-- The key scales. -/
abbrev aKs : S32x234x128.Idx → EReal := m ((c.tc : Thread nD τ).loc main_arg2)
/-- The value scales. -/
abbrev aVs : S32x1x1.Idx → EReal := m ((c.tc : Thread nD τ).loc main_arg3)
/-- The keys. -/
abbrev aK : S32x29952x128.Idx → EReal := m ((c.tc : Thread nD τ).loc main_arg4)
/-- The values, transposed. -/
abbrev aV : S32x128x29952.Idx → EReal := m ((c.tc : Thread nD τ).loc main_arg5)

/-- The product of query `t` and key `r` of head `h`. -/
def kd (h : Fin 32) (t : Fin 29952) (r : ℕ) : EReal :=
  if hr : r < 29952 then ∑ d : Fin 128, aK m c (ix3 h ⟨r, hr⟩ d) * aQ m c (ix3 h t d) else 0
/-- The scale of key `r` of head `h`. -/
def kS (h : Fin 32) (r : ℕ) : EReal :=
  if hr : r < 29952 then aKs m c (ix3 h ⟨r / 128, by omega⟩ ⟨r % 128, by omega⟩) else 0
/-- Component `d` of value `r` of head `h`. -/
def vF (h : Fin 32) (d : Fin 128) (r : ℕ) : EReal :=
  if hr : r < 29952 then aV m c (ix3 h d ⟨r, hr⟩) else 0
/-- The scale of query `t` of head `h`. -/
def qS (h : Fin 32) (t : Fin 29952) : EReal := aQs m c (ix3 h 0 t)
/-- The scale of the values of head `h`. -/
def vS (h : Fin 32) : EReal := aVs m c (ix3 h 0 0)

/-- Component `d` of the attention of query `t` of head `h`, as the kernel computes it. -/
def rowK (h : Fin 32) (t : Fin 29952) (d : Fin 128) : EReal :=
  Ideal.div ((∑ r ∈ Finset.range 29952, vF m c h d r * Cert.Attn.clip (Cert.Attn.wK 29952 (kd m c h t) (kS m c h) (qS m c h t) r)) * vS m c h)
    (∑ r ∈ Finset.range 29952, Cert.Attn.wK 29952 (kd m c h t) (kS m c h) (qS m c h t) r)

/-- Query `q` of block `n`. -/
def qix (n : ℕ) (q : Fin 256) : Fin 29952 := ⟨256 * min n 116 + q.val, by omega⟩

/-- What the scratch buffers hold of head `h` after the step that read query block `n`. -/
structure Held (h : Fin 32) (n : ℕ) (s : St Ideal c) : Prop where
  k : ∀ (r : Fin 29952) (d : Fin 128), scK.view.read (Elt Ideal) s.K (ix2 r d) = aK m c (ix3 h r d)
  v : ∀ (d : Fin 128) (r : Fin 29952), scV.view.read (Elt Ideal) s.V (ix2 d r) = vF m c h d r.val
  sc : ∀ (r : Fin 29952) (l : Fin 128), scS.view.read (Elt Ideal) s.S (ix2 r l) = kS m c h r.val
  y : ∀ (r : Fin 29952) (q : Fin 256), scY.view.read (Elt Ideal) s.Y (ix2 r q) = Cert.Attn.y (kd m c h (qix n q)) (kS m c h) r.val
  x : ∀ q : Fin 256, (Finset.univ : Finset (Fin 8)).sup (fun u => scM.view.read (Elt Ideal) s.M (ix2 u q))
    = (Finset.range 29952).sup (Cert.Attn.y (kd m c h (qix n q)) (kS m c h))

/-- The invariant, `n` steps done: inside a head, what the head's last step left. -/
def Inv (n : ℕ) (s : St Ideal c) : Prop :=
  n % 118 ≠ 0 → ∀ h : Fin 32, h.val = n / 118 → Held m c h (n % 118 - 1) s
/-- The block a step writes: the attention of the queries of the step before. -/
def Out (t : Fin cfg0.N) (X : S1x256x128.Idx → EReal) : Prop :=
  t.val % 118 ≠ 0 → ∀ (q : Fin 256) (d : Fin 128), X (ix3 0 q d) = rowK m c ⟨t.val / 118, head_lt t⟩ (qix (t.val % 118 - 1) q) d

/-- The new scores of a step. -/
theorem newY (h : Fin 32) (t : Fin cfg0.N) (ht : h.val = t.val / 118) (XK : WBuf (F := Ideal) c scK) (XS : WBuf (F := Ideal) c scS)
    (hk : ∀ (r : Fin 29952) (d : Fin 128), scK.view.read (Elt Ideal) XK (ix2 r d) = aK m c (ix3 h r d))
    (hs : ∀ (r : Fin 29952) (l : Fin 128), scS.view.read (Elt Ideal) XS (ix2 r l) = kS m c h r.val) (r : Fin 29952) (q : Fin 256) :
    (∑ d : Fin 128, scK.view.read (Elt Ideal) XK (ix2 r d) * (iblk m c 0 t : S1x256x128.Idx → EReal) (ix3 0 q d)) * scS.view.read (Elt Ideal) XS (ix2 r 0)
      = Cert.Attn.y (kd m c h (qix (t.val % 118) q)) (kS m c h) r.val := by
  obtain rfl : h = ⟨t.val / 118, head_lt t⟩ := Fin.ext ht
  unfold Cert.Attn.y kd
  rw [dif_pos r.isLt, hs]
  congr 1
  refine Finset.sum_congr rfl fun d _ => ?_
  rw [hk]
  congr 1
  exact iblk0_apply m c t q d

/-- THE STEP: what the body establishes of the invariant and of the block it writes. -/
theorem spec : Spec m c (Inv m c) (Out m c) where
  init s := fun h => absurd rfl h
  outA t h1 X := fun h => absurd ((cond1_iff t).1 h1) h
  stepA t h1 f2 f3 f4 s s' e2 e3 e4 := by
    rintro ⟨v12, GY, LM, eK, eV, eS, eY, eM⟩
    intro hn h hh
    have ht := (cond1_iff t).1 h1
    have hht : h.val = t.val / 118 := by omega
    have hc : (grid0.coords t 0).val = h.val := (coord0 t).trans hht.symm
    have hk : ∀ (r : Fin 29952) (d : Fin 128), scK.view.read (Elt Ideal) s'.K (ix2 r d) = aK m c (ix3 h r d) := fun r d => by
      rw [eK, View.read_writes_whole]
      exact dmaK_apply c (grid0.coords t) h1 _ h hc r d
    have hv : ∀ (d : Fin 128) (r : Fin 29952), scV.view.read (Elt Ideal) s'.V (ix2 d r) = vF m c h d r.val := fun d r => by
      rw [eV, View.read_writes_whole]
      refine (dmaV_apply c (grid0.coords t) h1 _ h hc d r).trans ?_
      unfold vF
      rw [dif_pos r.isLt]
    have hs : ∀ (r : Fin 29952) (l : Fin 128), scS.view.read (Elt Ideal) s'.S (ix2 r l) = kS m c h r.val := fun r l => by
      rw [eS]
      refine fill_apply c (grid0.coords t) _ _ _ _ _ _ _ _ _ _ h1 f4 (kS m c h) (fun a l => ?_) s.S _ (le_of_eq trips_t1) r l ?_
      · rw [e4]
        refine (iblk2_apply m c t a l).trans ?_
        obtain rfl : h = ⟨t.val / 118, head_lt t⟩ := Fin.ext hht
        unfold kS
        rw [dif_pos (show 128 * a.val + l.val < 29952 by omega)]
        congr 2
        · exact Fin.ext (show a.val = (128 * a.val + l.val) / 128 by omega)
        · exact Fin.ext (show l.val = (128 * a.val + l.val) % 128 by omega)
      · rw [trips_t1]; omega
    have hI := stT_inv c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4))
      (View.readAt (Elt Ideal) (st0_1 t).view (Rect.unit (s := S1x1x256) ![0, 0, 0] S1x1x256.size inb_S1x1x256_S1x1x256_0_0_0).toLoadRect f3) v12
      (View.readAt (Elt Ideal) (st0_0 t).view (Rect.unit (s := S1x256x128) ![0, 0, 0] S1x256x128.size inb_S1x256x128_S1x256x128_0_0_0).toLoadRect f2)
      s'.K s'.V s'.S GY (fun d r => vF m c h d r) (fun r q => if hr : r < 29952 then scY.view.read (Elt Ideal) GY (ix2 ⟨r, hr⟩ q) else 0)
      (fun r q => Cert.Attn.y (kd m c h (qix (t.val % 118) q)) (kS m c h) r)
      (fun r q => by
        rw [View.readAt_full (st0_0 t).view f2 (off := ![0, 0, 0]) inb_S1x256x128_S1x256x128_0_0_0, e2]
        exact newY m c h t hht s'.K s'.S hk hs r q)
      (fun r l => (hs r l).trans (hs r 0).symm) hv (fun r q => by rw [dif_pos r.isLt])
    have hmod : (t.val + 1) % 118 - 1 = t.val % 118 := by omega
    refine ⟨hk, hv, hs, fun r q => ?_, fun q => ?_⟩
    · rw [eY, hmod]
      refine (hI.y r q).trans ?_
      rw [if_pos r.isLt]
    · rw [eM, hmod, View.read_writes_full scM.view _ (off := ![0, 0]) inb_S8x256_S8x256_0_0, pay1_eq]
      exact hI.x q
  stepB t h1 f2 f3 f5 f8 o s s' e2 e3 e5 hI0 := by
    rintro ⟨eK, eV, eS, eY, eM, eo⟩
    have ht : t.val % 118 ≠ 0 := fun e => h1 ((cond1_iff t).2 e)
    obtain ⟨hk, hv, hs, hy, hx⟩ := hI0 ht ⟨t.val / 118, head_lt t⟩ rfl
    have hI := stT_inv c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4))
      (View.readAt (Elt Ideal) (st0_1 t).view (Rect.unit (s := S1x1x256) ![0, 0, 0] S1x1x256.size inb_S1x1x256_S1x1x256_0_0_0).toLoadRect f3)
      (View.readAt (Elt Ideal) scM.view (Rect.unit (s := S8x256) ![0, 0] S8x256.size inb_S8x256_S8x256_0_0).toLoadRect s.M)
      (View.readAt (Elt Ideal) (st0_0 t).view (Rect.unit (s := S1x256x128) ![0, 0, 0] S1x256x128.size inb_S1x256x128_S1x256x128_0_0_0).toLoadRect f2)
      s.K s.V s.S s.Y (fun d r => vF m c ⟨t.val / 118, head_lt t⟩ d r)
      (fun r q => Cert.Attn.y (kd m c ⟨t.val / 118, head_lt t⟩ (qix (t.val % 118 - 1) q)) (kS m c ⟨t.val / 118, head_lt t⟩) r)
      (fun r q => Cert.Attn.y (kd m c ⟨t.val / 118, head_lt t⟩ (qix (t.val % 118) q)) (kS m c ⟨t.val / 118, head_lt t⟩) r)
      (fun r q => by
        rw [View.readAt_full (st0_0 t).view f2 (off := ![0, 0, 0]) inb_S1x256x128_S1x256x128_0_0_0, e2]
        exact newY m c _ t rfl s.K s.S hk hs r q)
      (fun r l => (hs r l).trans (hs r 0).symm) hv hy
    refine ⟨fun hn h hh => ?_, fun _ q d => ?_⟩
    · obtain rfl : h = ⟨t.val / 118, head_lt t⟩ := Fin.ext (show h.val = t.val / 118 by omega)
      have hmod : (t.val + 1) % 118 - 1 = t.val % 118 := by omega
      refine ⟨eK ▸ hk, eV ▸ hv, eS ▸ hs, fun r q => ?_, fun q => ?_⟩
      · rw [eY, hmod]
        refine (hI.y r q).trans ?_
        rw [if_pos r.isLt]
      · rw [eM, hmod, View.read_writes_full scM.view _ (off := ![0, 0]) inb_S8x256_S8x256_0_0, pay1_eq]
        exact hI.x q
    · have hP : ∀ r, Pf (View.readAt (Elt Ideal) (st0_1 t).view (Rect.unit (s := S1x1x256) ![0, 0, 0] S1x1x256.size inb_S1x1x256_S1x1x256_0_0_0).toLoadRect f3)
          (View.readAt (Elt Ideal) scM.view (Rect.unit (s := S8x256) ![0, 0] S8x256.size inb_S8x256_S8x256_0_0).toLoadRect s.M)
          (fun r q => Cert.Attn.y (kd m c ⟨t.val / 118, head_lt t⟩ (qix (t.val % 118 - 1) q)) (kS m c ⟨t.val / 118, head_lt t⟩) r) r q
          = Cert.Attn.wK 29952 (kd m c ⟨t.val / 118, head_lt t⟩ (qix (t.val % 118 - 1) q)) (kS m c ⟨t.val / 118, head_lt t⟩)
              (qS m c ⟨t.val / 118, head_lt t⟩ (qix (t.val % 118 - 1) q)) r := fun r => by
        have e1 : (iblk m c 1 t : S1x1x256.Idx → EReal) (ix3 0 0 q) = qS m c ⟨t.val / 118, head_lt t⟩ (qix (t.val % 118 - 1) q) := by
          refine (iblk1_apply m c t q).trans ?_
          unfold qS qix
          congr 2
          exact Fin.ext (show 256 * (t.val % 118 - 1) + q.val = 256 * min (t.val % 118 - 1) 116 + q.val by omega)
        unfold Pf Cert.Attn.wK
        rw [pay60_apply, pay59_apply, View.readAt_full (st0_1 t).view f3 (off := ![0, 0, 0]) inb_S1x1x256_S1x1x256_0_0_0, e3, e1,
          View.readAt_full scM.view s.M (off := ![0, 0]) inb_S8x256_S8x256_0_0, hx]
      rw [eo, View.read_writes_full (st0_4 t).view _ (off := ![0, 0, 0]) inb_S1x256x128_S1x256x128_0_0_0]
      refine (pay2_apply _ _ _ q d).trans ?_
      unfold rowK
      refine congrArg₂ Ideal.div (congrArg₂ (· * ·) ?_ ?_) ((hI.l q).trans (Finset.sum_congr rfl fun r _ => hP r))
      · refine Eq.trans ?_ ((hI.a d q).trans (Finset.sum_congr rfl fun r _ => by rw [hP]; rfl))
        rw [View.readCov, View.readAt_full scA.view _ (off := ![0, 0]) inb_S128x256_S128x256_0_0, View.writes_append]
      · rw [View.readAt_full (st0_3 t).view f5 (off := ![0, 0, 0]) inb_S1x1x1_S1x1x1_0_0_0, e5]
        refine Eq.trans ?_ (iblk3_apply m c t)
        exact congrArg (iblk m c 3 t : S1x1x1.Idx → EReal) (funext fun a => match a with
          | ⟨0, _⟩ => Subsingleton.elim (α := Fin 1) _ _
          | ⟨1, _⟩ => Subsingleton.elim (α := Fin 1) _ _
          | ⟨2, _⟩ => Subsingleton.elim (α := Fin 1) _ _)

end Meaning

end Cert.KernelIdeal.Attn

end
-- ==== Proof.KernelIdeal.Result.lean ====
/- Hand-written. The attention call's result, from its argument arrays, over the extended reals. -/
module

public import proofs.«01_k».proof.Proof.KernelIdeal.Step
public import proofs.«01_k».proof.Proof.KernelIdeal.FrameRun

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem
open Idealize.ShloMosaic.Pipeline (Dat RDat Cfg Window)

variable (m : (ℓ : Loc nD τ sig) → Buf (Elt Ideal) ℓ) (ρ : Dev nD → PrngReg)

/-- The whole result: at batch `b`, query `t` and column `128 h + d`, component `d` of the attention of query `t` of head `h`. -/
def resK (c : Dev nD) : S2x29952x2048.Idx → EReal := fun i =>
  rowK m c ⟨(i 0).val * 16 + (i 2).val / 128, by have h0 : (i 0).val < 2 := (i 0).isLt; have h2 : (i 2).val < 2048 := (i 2).isLt; omega⟩ (i 1) ⟨(i 2).val % 128, Nat.mod_lt _ (by decide)⟩

/-- An element of a step's block of the result sits at the step's batch, the queries of the step before and the step's head. -/
theorem emb4 (t : Fin cfg0.N) (y : S1x256x128.Idx) (a : Fin 3) :
    ((win0_4.rect t).emb y a : ℕ) = (![t.val / 118 / 16, t.val % 118 - 1, t.val / 118 % 16] : Fin 3 → ℕ) a * S1x256x128.size a + (y a).val := by
  refine (Pipeline.Window.rect_emb_val win0_4 t y a rfl).trans ?_
  show cc0_transform_6 (grid0.coords t) a * _ + _ = _
  rw [idx4]

/-- A step's block of the result array, read back. -/
theorem read4 (t : Fin cfg0.N) (G : S2x29952x2048.Idx → EReal) (y : S1x256x128.Idx) :
    ((cfg0.win 4).blk t).view.read (Elt Ideal) G y = G ((win0_4.rect t).emb y) := rfl

/-- A block meeting the step's predicate is the result's block. -/
theorem out_block (c : Dev nD) (t : Fin cfg0.N) (ht : t.val % 118 ≠ 0) (X : S1x256x128.Idx → EReal) (ho : Out m c t X) (q : Fin 256) (d : Fin 128) :
    X (ix3 0 q d) = resK m c ((win0_4.rect t).emb (ix3 0 q d)) := by
  have h32 := head_lt t
  refine (ho ht q d).trans ?_
  unfold resK
  have e0 := emb4 t (ix3 0 q d) 0
  have e1 := emb4 t (ix3 0 q d) 1
  have e2 := emb4 t (ix3 0 q d) 2
  have e0' : ((win0_4.rect t).emb (ix3 0 q d) 0 : ℕ) = t.val / 118 / 16 := e0.trans (by show t.val / 118 / 16 * 1 + 0 = _; omega)
  have e1' : ((win0_4.rect t).emb (ix3 0 q d) 1 : ℕ) = (t.val % 118 - 1) * 256 + q.val := e1
  have e2' : ((win0_4.rect t).emb (ix3 0 q d) 2 : ℕ) = t.val / 118 % 16 * 128 + d.val := e2
  congr 1
  · refine Fin.ext ?_
    show t.val / 118 = ((win0_4.rect t).emb (ix3 0 q d) 0 : ℕ) * 16 + ((win0_4.rect t).emb (ix3 0 q d) 2 : ℕ) / 128
    rw [e0', e2']; omega
  · refine Fin.ext ?_
    show 256 * min (t.val % 118 - 1) 116 + q.val = ((win0_4.rect t).emb (ix3 0 q d) 1 : ℕ)
    rw [e1']; omega
  · refine Fin.ext ?_
    show d.val = ((win0_4.rect t).emb (ix3 0 q d) 2 : ℕ) % 128
    rw [e2']; omega

/-- The result array, read off the run's post. -/
theorem out_of_post (r : PUnit × MemSt nD τ sig (Elt Ideal))
    (h : RDat.FramePost cfg0 (fun c => (dat m c (Inv m c)).toRRel fgt (Rl (Out m c))) (V m) r) (c : Dev nD) :
    r.2.mem ((c.tc : Thread nD τ).loc main_v0) = resK m c := by
  obtain ⟨after, hL, hA⟩ := h.exists_exact c
  refine (hA 4).trans ((((dat m c (Inv m c)).toRRel fgt (Rl (Out m c))).withAfter after).arrAt_eq_of_cover 4 (resK m c) (fun t hf => ?_) fun i => ?_)
  · have ho : Out m c t (after 4 t) := Dat.toRRel_leaves (dat m c (Inv m c)) (w := 4) rfl (hL 4 t hf)
    have ht := (flush_iff t).1 hf
    funext y
    have ey : y = (ix3 (0 : Fin 1) (y 1) (y 2) : S1x256x128.Idx) :=
      (eq_ix3 (y : S1x256x128.Idx)).trans (congrArg (fun z => (ix3 z (y 1) (y 2) : S1x256x128.Idx)) (Subsingleton.elim (α := Fin 1) (y 0) 0))
    rw [ey]
    have e1 := out_block m c t ht (after 4 t) ho (y 1) (y 2)
    have e2 : (((dat m c (Inv m c)).toRRel fgt (Rl (Out m c))).withAfter after).flushed 4 t (ix3 (0 : Fin 1) (y 1) (y 2) : S1x256x128.Idx) = after 4 t (ix3 (0 : Fin 1) (y 1) (y 2) : S1x256x128.Idx) := rfl
    refine e2.trans ?_
    exact e1.trans (read4 t (resK m c) (ix3 (0 : Fin 1) (y 1) (y 2))).symm
  · obtain ⟨b, u, j, rfl⟩ : ∃ (b : Fin 2) (u : Fin 29952) (j : Fin 2048), (i : S2x29952x2048.Idx) = ix3 b u j := ⟨_, _, _, eq_ix3 i⟩
    have hN : 118 * (16 * b.val + j.val / 128) + u.val / 256 + 1 < cfg0.N := lt_of_lt_of_le (show _ < 3776 by omega) (by decide +kernel)
    refine ⟨⟨118 * (16 * b.val + j.val / 128) + u.val / 256 + 1, hN⟩, (flush_iff _).2 (by show (118 * (16 * b.val + j.val / 128) + u.val / 256 + 1) % 118 ≠ 0; omega), ?_⟩
    have e := View.emb_mem_set (((cfg0.win 4).blk ⟨118 * (16 * b.val + j.val / 128) + u.val / 256 + 1, hN⟩).view)
      (ix3 (0 : Fin 1) (⟨u.val % 256, Nat.mod_lt _ (by decide)⟩ : Fin 256) (⟨j.val % 128, Nat.mod_lt _ (by decide)⟩ : Fin 128) : S1x256x128.Idx)
    refine (congrArg (· ∈ _) ?_).mp e
    refine funext fun a => Fin.ext ((emb4 ⟨118 * (16 * b.val + j.val / 128) + u.val / 256 + 1, hN⟩ _ a).trans ?_)
    match a with
    | ⟨0, _⟩ => show (118 * (16 * b.val + j.val / 128) + u.val / 256 + 1) / 118 / 16 * 1 + 0 = b.val; omega
    | ⟨1, _⟩ => show ((118 * (16 * b.val + j.val / 128) + u.val / 256 + 1) % 118 - 1) * 256 + u.val % 256 = u.val; omega
    | ⟨2, _⟩ => show (118 * (16 * b.val + j.val / 128) + u.val / 256 + 1) / 118 % 16 * 128 + j.val % 128 = j.val; omega

/-- THE VALUE: the call ends with `resK` of its argument arrays in its result, and the argument arrays unchanged. -/
theorem value :
    θ_run defs (onTc (τ := τ) (main (F := Ideal))) ⟨m, fun _ => 0, ρ⟩ (fun r => ∀ c : Dev nD,
      r.2.mem ((c.tc : Thread nD τ).loc main_v0) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨out_of_post m r h.1 c, args_of_post m _ _ r h.1 c⟩)
    (run_of m ρ (fun c => Inv m c) (fun c => Out m c) fun c => spec m c)

end Cert.KernelIdeal.Attn

end
-- ==== Proof.ReferenceIdeal.Read.lean ====
/- Hand-written. The reference's result at an index, over the extended reals. -/
module

public import proofs.«01_k».proof.Proof.Gen.ReferenceIdeal.Frame
public import proofs.«01_k».proof.Proof.Algebra
public import Idealize.ShloMosaic.Lib.Pointwise

@[expose] public section

set_option maxRecDepth 16384

noncomputable section

namespace Cert.ReferenceIdeal.Attn

open Cert.ReferenceIdeal Cert.ReferenceIdeal.Gen
open Idealize.ShloMosaic Idealize.ShloMosaic.TcCoe Idealize.ShloMosaic.Tactic

variable (q k : Vec Ideal S32x29952x128 .bf16) (vt : Vec Ideal S32x128x29952 .fp8e4m3) (qs : Vec Ideal S32x1x29952 .f32) (ks : Vec Ideal S32x234x128 .f32)
    (vs : Vec Ideal S32x1x1 .f32)

theorem ofBits_ninf : Ideal.ofBits .f32 0xFF800000#32 = ⊥ := by
  simp [Ideal.ofBits, Ideal.ieee]

/-- The scaled score. -/
def sR (h : Fin 32) (t u : Fin 29952) : EReal :=
  (∑ d : Fin 128, q (ix3 h t d) * k (ix3 h u d)) * qs (ix3 h 0 t) * ks (ix3 h ⟨u.val / 128, by omega⟩ ⟨u.val % 128, by omega⟩) * Cert.Attn.Cs

theorem pay2_apply (h : Fin 32) (t u : Fin 29952) :
    k0_pay2 (F := Ideal) q k qs ks (ix3 h t u) = Ideal.exp (sR q k qs ks h t u - Finset.univ.sup fun u => sR q k qs ks h t u) := by
  have hn : (Named.named (F := Ideal) κ "scale" (φ := .f32) 0x3DB504F3#32) = Cert.Attn.Cs :=
    IdealRules.named_const.ideal_named_scalar _ _ _ _ rfl
  pointwise [k0_pay2]
  rw [hn, ofBits_ninf]; rfl

theorem pay3_apply (h : Fin 32) (t : Fin 29952) :
    k0_pay3 (F := Ideal) q k qs ks (ix3 h t 0) = ∑ u : Fin 29952, k0_pay2 (F := Ideal) q k qs ks (ix3 h t u) := by
  pointwise [k0_pay3]

theorem pay4_apply (h : Fin 32) (t : Fin 29952) (d : Fin 128) :
    k0_pay4 (F := Ideal) q k vt qs ks (ix3 h t d)
      = ∑ u : Fin 29952, Cert.Attn.clip (k0_pay2 (F := Ideal) q k qs ks (ix3 h t u) * Ideal.ofBits .f32 0x43800000#32) * vt (ix3 h d u) := by
  pointwise [k0_pay4]
  rfl

theorem pay5_apply (h : Fin 32) (t : Fin 29952) (d : Fin 128) :
    k0_pay5 (F := Ideal) vs (ix3 h t d) = Ideal.div (vs (ix3 h 0 0)) (Ideal.ofBits .f32 0x43800000#32) := by
  pointwise [k0_pay5]

theorem pay1_apply (l : FVec Ideal S32x29952x1 .f32) (a v : FVec Ideal S32x29952x128 .f32) (b : Fin 2) (h : Fin 16) (t : Fin 29952) (d : Fin 128) :
    k0_pay1 (F := Ideal) l a v (ix3 b t ⟨h.val * 128 + d.val, by omega⟩)
      = Ideal.div (a (ix3 ⟨b.val * 16 + h.val, by omega⟩ t d) * v (ix3 ⟨b.val * 16 + h.val, by omega⟩ t d)) (l (ix3 ⟨b.val * 16 + h.val, by omega⟩ t 0)) := by
  pointwise [k0_pay1]

/-- The reference's result, from the argument arrays. -/
theorem out_apply (b : Fin 2) (h : Fin 16) (t : Fin 29952) (d : Fin 128) :
    out0_6 (F := Ideal) q qs ks vs k vt (ix3 b t ⟨h.val * 128 + d.val, by omega⟩)
      = Ideal.div ((∑ u : Fin 29952, Cert.Attn.clip (Ideal.exp (sR q k qs ks ⟨b.val * 16 + h.val, by omega⟩ t u
              - Finset.univ.sup fun u => sR q k qs ks ⟨b.val * 16 + h.val, by omega⟩ t u) * Ideal.ofBits .f32 0x43800000#32) * vt (ix3 ⟨b.val * 16 + h.val, by omega⟩ d u))
            * Ideal.div (vs (ix3 ⟨b.val * 16 + h.val, by omega⟩ 0 0)) (Ideal.ofBits .f32 0x43800000#32))
          (∑ u : Fin 29952, Ideal.exp (sR q k qs ks ⟨b.val * 16 + h.val, by omega⟩ t u
              - Finset.univ.sup fun u => sR q k qs ks ⟨b.val * 16 + h.val, by omega⟩ t u)) := by
  unfold out0_6
  have hz : (![0, 0, 0] : Fin 3 → ℕ) = fun _ => 0 := by decide
  rw [View.canon_unit_zero hz]
  have e : ∀ {n0 n1 n2 : ℕ} {e : EltTy} (inb : ∀ a : Fin 3, (![0, 0, 0] : Fin 3 → ℕ) a + (![n0, n1, n2] : Fin 3 → ℕ) a ≤ (![n0, n1, n2] : Fin 3 → ℕ) a)
      (X : (⟨3, ![n0, n1, n2]⟩ : Shape).Idx → Elt Ideal e), View.ld X (Rect.unit (s := (⟨3, ![n0, n1, n2]⟩ : Shape)) ![0, 0, 0] ![n0, n1, n2] inb) = X :=
    fun inb X => View.ld_unit_zero (S := ⟨3, _⟩) hz inb X
  erw [e, e, e, e, e, e]
  rw [pay1_apply, pay3_apply, pay4_apply, pay5_apply]
  simp only [pay2_apply]

end Cert.ReferenceIdeal.Attn

end
-- ==== Proof.ReferenceIdeal.Value.lean ====
/- Hand-written. The reference's run: its result array ends holding its payload of the argument arrays. -/
module

public import proofs.«01_k».proof.Proof.ReferenceIdeal.Read
public import Idealize.ShloMosaic.Lib.Pipeline.Value
public import Idealize.ShloMosaic.Lib.Pipeline.ValueKit

@[expose] public section

set_option maxRecDepth 16384

noncomputable section

namespace Cert.ReferenceIdeal.Attn

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat RDat Cfg Window)

variable (m : (ℓ : Loc nD τ sig) → Buf (Elt Ideal) ℓ) (ρ : Dev nD → PrngReg) (c : Dev nD)

/-- The reference's result, from the argument arrays. -/
def resR : S2x29952x2048.Idx → EReal :=
  out0_6 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem iblk0 (t : Fin cfg0.N) : iblk m c 0 t = m ((c.tc : Thread nD τ).loc main_arg0) :=
  funext fun y => congrArg (m ((c.tc : Thread nD τ).loc main_arg0)) (funext fun a => Fin.ext (Pipeline.Window.rect_emb_val_of_index_zero win0_0 t a rfl y))
theorem iblk1 (t : Fin cfg0.N) : iblk m c 1 t = m ((c.tc : Thread nD τ).loc main_arg1) :=
  funext fun y => congrArg (m ((c.tc : Thread nD τ).loc main_arg1)) (funext fun a => Fin.ext (Pipeline.Window.rect_emb_val_of_index_zero win0_1 t a rfl y))
theorem iblk2 (t : Fin cfg0.N) : iblk m c 2 t = m ((c.tc : Thread nD τ).loc main_arg2) :=
  funext fun y => congrArg (m ((c.tc : Thread nD τ).loc main_arg2)) (funext fun a => Fin.ext (Pipeline.Window.rect_emb_val_of_index_zero win0_2 t a rfl y))
theorem iblk3 (t : Fin cfg0.N) : iblk m c 3 t = m ((c.tc : Thread nD τ).loc main_arg3) :=
  funext fun y => congrArg (m ((c.tc : Thread nD τ).loc main_arg3)) (funext fun a => Fin.ext (Pipeline.Window.rect_emb_val_of_index_zero win0_3 t a rfl y))
theorem iblk4 (t : Fin cfg0.N) : iblk m c 4 t = m ((c.tc : Thread nD τ).loc main_arg4) :=
  funext fun y => congrArg (m ((c.tc : Thread nD τ).loc main_arg4)) (funext fun a => Fin.ext (Pipeline.Window.rect_emb_val_of_index_zero win0_4 t a rfl y))
theorem iblk5 (t : Fin cfg0.N) : iblk m c 5 t = m ((c.tc : Thread nD τ).loc main_arg5) :=
  funext fun y => congrArg (m ((c.tc : Thread nD τ).loc main_arg5)) (funext fun a => Fin.ext (Pipeline.Window.rect_emb_val_of_index_zero win0_5 t a rfl y))

theorem after6 (t : Fin cfg0.N) : (dats m 0 c).after 6 t = resR m c := by
  rw [after0_6, iblk0, iblk1, iblk2, iblk3, iblk4, iblk5]
  rfl

theorem wholeAt6 : (cfg0.win 6).WholeAt t0_0 := by decide +kernel

/-- The result array after the run, by what the one step leaves. -/
theorem arr6_of (G : S2x29952x2048.Idx → EReal) (h : (dats m 0 c).after 6 t0_0 = G) : (dats m 0 c).arrAt 6 cfg0.N = G :=
  (dats m 0 c).arrAt_eq_of_after_last 6 t0_0 wholeAt6 G fun j => by
    rw [h]
    rfl

/-- The result array after the run. -/
theorem arr6 : (dats m 0 c).arrAt 6 cfg0.N = resR m c := arr6_of m c _ (after6 m c t0_0)

/-- THE VALUE: the reference ends with `resR` of its argument arrays in its result, and the argument arrays unchanged. -/
theorem value :
    θ_run defs (onTc (τ := τ) (main (F := Ideal))) ⟨m, fun _ => 0, ρ⟩ (fun r => ∀ c : Dev nD,
      r.2.mem ((c.tc : Thread nD τ).loc main_v0) = resR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (arr6 m c), h.2 c⟩) (θ_run_and (run_main m ρ) (unchanged m ρ))

end Cert.ReferenceIdeal.Attn

end
-- ==== Proof.Agree.lean ====
/- Hand-written. The kernel's attention is the reference's, over the extended reals, when the query scales are not negative. -/
module

public import proofs.«01_k».proof.Defs
public import proofs.«01_k».proof.Proof.KernelIdeal.Result
public import proofs.«01_k».proof.Proof.ReferenceIdeal.Value
public import Idealize.ShloMosaic.Lib.ReduceAll

@[expose] public section

set_option maxRecDepth 16384

noncomputable section

namespace Cert.Attn

open Idealize.ShloMosaic Idealize.ShloMosaic.TcCoe Idealize.ShloMosaic.Tactic
open Idealize.SL Idealize.SL.Sem

/-- The side conditions of the precondition's function. -/
theorem preFacts : Cert.Pre__scales_nonneg.Facts where
  bcast_S_S32x1x29952 := by decide
  reducesTo_S32x1x29952_S_d0_1_2 := by decide
  h_S_ := by decide

/-- Where the precondition's function is one, no query scale is negative. -/
theorem pre_nonneg (x0 : FVec Ideal Cert.KernelIdeal.S32x29952x128 .bf16) (x1 : FVec Ideal Cert.KernelIdeal.S32x1x29952 .f32) (x2 : FVec Ideal Cert.KernelIdeal.S32x234x128 .f32)
    (x3 : FVec Ideal Cert.KernelIdeal.S32x1x1 .f32) (x4 : FVec Ideal Cert.KernelIdeal.S32x29952x128 .bf16) (x5 : FVec Ideal Cert.KernelIdeal.S32x128x29952 .fp8e4m3)
    (h : (@Cert.Pre__scales_nonneg.fn preFacts Ideal _ x0 x1 x2 x3 x4 x5) = fun _ => 1#1) (i : Cert.KernelIdeal.S32x1x29952.Idx) : (0 : EReal) ≤ x1 i := by
  have e := congrFun h (fun a => a.elim0)
  unfold Cert.Pre__scales_nonneg.fn at e
  haveI : Subsingleton Cert.Pre__scales_nonneg.S_.Idx := ⟨fun a b => funext fun k => k.elim0⟩
  have e2 := Host.reduce_andi_all _ _ _ _ _ e i
  have e3 : Ideal.cmp .oge (x1 i) (Ideal.ieee 8 23 (0#32)) = 1 := e2
  have z : Ideal.ieee 8 23 (0#32) = 0 := by simp [Ideal.ieee]
  rw [z] at e3
  exact (Ideal.cmp_oge_eq_one _ _).1 e3

/-- A sum over the keys, as a sum over a range. -/
theorem sum_keys (f : ℕ → EReal) (g : Fin 29952 → EReal) (h : ∀ u, g u = f u.val) : ∑ u, g u = ∑ r ∈ Finset.range 29952, f r := by
  rw [← Fin.sum_univ_eq_sum_range f 29952]
  exact Finset.sum_congr rfl fun u _ => h u

/-- A maximum over the keys, as a maximum over a range. -/
theorem sup_keys (f : ℕ → EReal) (g : Fin 29952 → EReal) (h : ∀ u, g u = f u.val) : Finset.univ.sup g = (Finset.range 29952).sup f :=
  le_antisymm (Finset.sup_le fun u _ => (h u).le.trans (Finset.le_sup (f := f) (Finset.mem_range.2 u.isLt)))
    (Finset.sup_le fun r hr => (h ⟨r, Finset.mem_range.1 hr⟩).ge.trans (Finset.le_sup (f := g) (Finset.mem_univ _)))

section
variable (m : (ℓ : Loc Cert.KernelIdeal.nD Cert.KernelIdeal.τ Cert.KernelIdeal.sig) → Buf (Elt Ideal) ℓ) (c : Dev Cert.KernelIdeal.nD)

open Cert.KernelIdeal.Attn in
/-- The reference's scores are those of the kernel's sums. -/
theorem sR_eq (h : Fin 32) (t u : Fin 29952) :
    Cert.ReferenceIdeal.Attn.sR (aQ m c) (aK m c) (aQs m c) (aKs m c) h t u = s (kd m c h t) (kS m c h) (qS m c h t) u.val := by
  unfold Cert.ReferenceIdeal.Attn.sR s kd kS qS
  rw [dif_pos u.isLt, dif_pos u.isLt]
  congr 3
  exact Finset.sum_congr rfl fun d _ => mul_comm _ _

open Cert.KernelIdeal.Attn in
/-- The two results agree, element by element. -/
theorem res_eq (hq : ∀ i, (0 : EReal) ≤ aQs m c i) :
    resK m c = Cert.ReferenceIdeal.Gen.out0_6 (F := Ideal) (aQ m c) (aQs m c) (aKs m c) (aVs m c) (aK m c) (aV m c) := by
  funext i
  obtain ⟨b, t, j, rfl⟩ : ∃ (b : Fin 2) (t : Fin 29952) (j : Fin 2048), i = ix3 b t j := ⟨_, _, _, eq_ix3 i⟩
  obtain ⟨h, d, hj⟩ : ∃ (h : Fin 16) (d : Fin 128), j.val = h.val * 128 + d.val :=
    ⟨⟨j.val / 128, by omega⟩, ⟨j.val % 128, by omega⟩, by show j.val = j.val / 128 * 128 + j.val % 128; omega⟩
  have hj2 : h.val * 128 + d.val < 2048 := by omega
  rw [show j = ⟨h.val * 128 + d.val, hj2⟩ from Fin.ext hj]
  rw [Cert.ReferenceIdeal.Attn.out_apply]
  have hh : b.val * 16 + h.val < 32 := by omega
  have el : resK m c (ix3 b t ⟨h.val * 128 + d.val, by omega⟩) = rowK m c ⟨b.val * 16 + h.val, hh⟩ t d := by
    unfold resK
    congr 1
    · exact Fin.ext (show b.val * 16 + (h.val * 128 + d.val) / 128 = b.val * 16 + h.val by omega)
    · exact Fin.ext (show (h.val * 128 + d.val) % 128 = d.val by omega)
  rw [el]
  unfold rowK
  rw [row_eq 29952 (by decide) _ _ (vF m c ⟨b.val * 16 + h.val, hh⟩ d) _ _
    (show (0 : EReal) ≤ qS m c ⟨b.val * 16 + h.val, hh⟩ t from hq _)]
  have hw : ∀ u : Fin 29952, Ideal.exp (Cert.ReferenceIdeal.Attn.sR (aQ m c) (aK m c) (aQs m c) (aKs m c) ⟨b.val * 16 + h.val, hh⟩ t u
      - Finset.univ.sup fun u => Cert.ReferenceIdeal.Attn.sR (aQ m c) (aK m c) (aQs m c) (aKs m c) ⟨b.val * 16 + h.val, hh⟩ t u)
      = wR 29952 (kd m c ⟨b.val * 16 + h.val, hh⟩ t) (kS m c ⟨b.val * 16 + h.val, hh⟩) (qS m c ⟨b.val * 16 + h.val, hh⟩ t) u.val := fun u => by
    unfold wR
    rw [sR_eq, sup_keys _ _ fun u => sR_eq m c ⟨b.val * 16 + h.val, hh⟩ t u]
  refine congrArg₂ Ideal.div (congrArg₂ (· * ·) ?_ rfl) ?_
  · refine (sum_keys _ _ fun u => ?_).symm
    rw [hw]
    unfold vF
    rw [dif_pos u.isLt]
  · exact (sum_keys _ _ hw).symm

end

/-- THE VALUE CLAIM: with query scales that are not negative, the kernel and the reference leave the same result. -/
theorem algebraic : @Cert.algebraic_KernelIdeal_ReferenceIdeal_pre__scales_nonneg Cert.KernelIdeal.Gen.facts Cert.ReferenceIdeal.Gen.facts preFacts := by
  intro m g m' g' hpre hargs
  refine ⟨fun c => Cert.KernelIdeal.Attn.resK m c, Cert.KernelIdeal.Attn.value m g, ?_⟩
  refine (θ_run Cert.ReferenceIdeal.defs _ _).mono (fun r h c => ⟨(h c).1.trans ?_, (h c).2⟩) (Cert.ReferenceIdeal.Attn.value m' g')
  show _ = Cert.KernelIdeal.Attn.resK m c
  rw [res_eq m c (pre_nonneg _ _ _ _ _ _ (hpre c))]
  obtain ⟨e0, e1, e2, e3, e4, e5⟩ := hargs c
  unfold Cert.ReferenceIdeal.Attn.resR
  rw [e0, e1, e2, e3, e4, e5]

end Cert.Attn

end
-- ==== Proof.VQuant.lean ====
/- Hand-written. The call that quantises the values: its codes are the reference's, over the extended reals. -/
module

public import proofs.«01_k».proof.Defs
public import proofs.«01_k».proof.Proof.Gen.KernelVIdeal.Value
public import proofs.«01_k».proof.Proof.Gen.ReferenceVIdeal.Value
public import Idealize.ShloMosaic.Lib.Pointwise
public import Idealize.ShloMosaic.Lib.StableHlo.ReadAt

@[expose] public section

set_option maxRecDepth 16384

noncomputable section

namespace Cert.KernelVIdeal.VQuant

open Cert.KernelVIdeal Cert.KernelVIdeal.Gen
open Idealize.ShloMosaic Idealize.ShloMosaic.TcCoe Idealize.ShloMosaic.Tactic
open Idealize.SL Idealize.SL.Sem

/-- A value's code: the value times its head's inverse scale, clipped to -448..448. -/
def code (x s : EReal) : EReal := min (Ideal.ofBits .f32 0x43E00000#32) (max (Ideal.ofBits .f32 0xC3E00000#32) (x * s))

/-- The codes of all values. -/
def codes (v : S2x29952x16x128.Idx → EReal) (s : S2x16.Idx → EReal) : S2x29952x16x128.Idx → EReal :=
  fun i => code (v i) (s (ix2 (i 0) (i 2)))

variable (m : (ℓ : Loc nD τ sig) → Buf (Elt Ideal) ℓ) (ρ : Dev nD → PrngReg) (c : Dev nD)

/-- The inverse scales, spread over the lanes by the host. -/
theorem entry_scales (b : Fin 2) (h : Fin 16) (d : Fin 128) :
    V m c main_v1 (ix3 b h d) = m ((c.tc : Thread nD τ).loc main_arg1) (ix2 b h) := by
  unfold V
  after_reads_at

/-- The block of values of a step. -/
theorem idx0 : ∀ t : Fin grid0.N, cc0_transform_0 (grid0.coords t) = ![t.val / 234, t.val % 234, 0, 0] := by decide +kernel
/-- The block of inverse scales of a step. -/
theorem idx1 : ∀ t : Fin grid0.N, cc0_transform_1 (grid0.coords t) = ![t.val / 234, 0, 0] := by decide +kernel
/-- The block of codes of a step. -/
theorem idx2 : ∀ t : Fin grid0.N, cc0_transform_2 (grid0.coords t) = ![t.val / 234, t.val % 234, 0, 0] := by decide +kernel
theorem N_lt (t : Fin cfg0.N) : t.val < 468 := lt_of_lt_of_le t.isLt (by decide +kernel)

/-- The body's payload at an index. -/
theorem pay_apply (P0 : Vec Ideal S1x128x16x128 .bf16) (P1 : Vec Ideal S1x16x128 .f32) (r : Fin 128) (h : Fin 16) (d : Fin 128) :
    k0_pay1 (F := Ideal) P0 P1 (ix4 0 r h d) = code (P0 (ix4 0 r h d)) (P1 (ix3 0 h d)) := by
  pointwise [k0_pay1]
  rfl

theorem iblk0_apply (t : Fin cfg0.N) (r : Fin 128) (h : Fin 16) (d : Fin 128) :
    iblk m c 0 t (ix4 0 r h d) = m ((c.tc : Thread nD τ).loc main_arg0)
      (ix4 ⟨t.val / 234, by have := N_lt t; omega⟩ ⟨128 * (t.val % 234) + r.val, by omega⟩ h d) := by
  show V m c main_arg0 _ = _
  rw [V_main_arg0]
  refine congrArg (m ((c.tc : Thread nD τ).loc main_arg0)) (funext fun a => Fin.ext ?_)
  refine (Pipeline.Window.rect_emb_val win0_0 t (ix4 0 r h d) a rfl).trans ?_
  show cc0_transform_0 (grid0.coords t) a * _ + _ = _
  rw [idx0]
  match a with
  | ⟨0, _⟩ => show t.val / 234 * 1 + 0 = t.val / 234; omega
  | ⟨1, _⟩ => show t.val % 234 * 128 + r.val = 128 * (t.val % 234) + r.val; omega
  | ⟨2, _⟩ => show 0 * 16 + h.val = h.val; omega
  | ⟨3, _⟩ => show 0 * 128 + d.val = d.val; omega

theorem iblk1_apply (t : Fin cfg0.N) (h : Fin 16) (d : Fin 128) :
    iblk m c 1 t (ix3 0 h d) = m ((c.tc : Thread nD τ).loc main_arg1) (ix2 ⟨t.val / 234, by have := N_lt t; omega⟩ h) := by
  rw [← entry_scales m c _ h d]
  refine congrArg (V m c main_v1) (funext fun a => Fin.ext ?_)
  refine (Pipeline.Window.rect_emb_val win0_1 t (ix3 0 h d) a rfl).trans ?_
  show cc0_transform_1 (grid0.coords t) a * _ + _ = _
  rw [idx1]
  match a with
  | ⟨0, _⟩ => show t.val / 234 * 1 + 0 = t.val / 234; omega
  | ⟨1, _⟩ => show 0 * 16 + h.val = h.val; omega
  | ⟨2, _⟩ => show 0 * 128 + d.val = d.val; omega

/-- Where an index of a step's block of codes stands in the array. -/
theorem emb2 (t : Fin cfg0.N) (r : Fin 128) (h : Fin 16) (d : Fin 128) :
    ((cfg0.win 2).blk t).view.emb (ix4 0 r h d)
      = (ix4 ⟨t.val / 234, by have := N_lt t; omega⟩ ⟨128 * (t.val % 234) + r.val, by omega⟩ h d : S2x29952x16x128.Idx) := by
  refine funext fun a => Fin.ext ?_
  refine (Pipeline.Window.rect_emb_val win0_2 t (ix4 0 r h d) a rfl).trans ?_
  show cc0_transform_2 (grid0.coords t) a * _ + _ = _
  rw [idx2]
  match a with
  | ⟨0, _⟩ => show t.val / 234 * 1 + 0 = t.val / 234; omega
  | ⟨1, _⟩ => show t.val % 234 * 128 + r.val = 128 * (t.val % 234) + r.val; omega
  | ⟨2, _⟩ => show 0 * 16 + h.val = h.val; omega
  | ⟨3, _⟩ => show 0 * 128 + d.val = d.val; omega

/-- What a step writes back is its block of `codes`. -/
theorem flushed (t : Fin cfg0.N) : (dats m 0 c).flushed 2 t
    = ((cfg0.win 2).blk t).view.read (Elt Ideal) (codes (m ((c.tc : Thread nD τ).loc main_arg0)) (m ((c.tc : Thread nD τ).loc main_arg1))) := by
  rw [Value.flushed2]
  funext y
  obtain ⟨r, h, d, rfl⟩ : ∃ (r : Fin 128) (h : Fin 16) (d : Fin 128), y = (ix4 0 r h d : S1x128x16x128.Idx) := by
    refine ⟨y 1, y 2, y 3, (eq_ix4 (n0 := 1) (n1 := 128) (n2 := 16) (n3 := 128) y).trans ?_⟩
    congr 1
    exact Subsingleton.elim (α := Fin 1) _ _
  show out0_2 (iblk m c 0 t) (iblk m c 1 t) (ix4 0 r h d) = codes _ _ (((cfg0.win 2).blk t).view.emb (ix4 0 r h d))
  rw [emb2]
  unfold out0_2
  have hz : (![0, 0, 0, 0] : Fin 4 → ℕ) = fun _ => 0 := by decide
  have hz3 : (![0, 0, 0] : Fin 3 → ℕ) = fun _ => 0 := by decide
  rw [View.canon_unit_zero hz, View.ld_unit_zero (S := S1x128x16x128) hz, View.ld_unit_zero (S := S1x16x128) hz3]
  rw [pay_apply, iblk0_apply, iblk1_apply]
  rfl

/-- Every index of the array is in the block of a step that writes back. -/
theorem covered (i : S2x29952x16x128.Idx) : ∃ t : Fin cfg0.N, (cfg0.win 2).flush t = true ∧ i ∈ ((cfg0.win 2).blk t).view.set := by
  obtain ⟨b, u, h, d, rfl⟩ : ∃ (b : Fin 2) (u : Fin 29952) (h : Fin 16) (d : Fin 128), i = ix4 b u h d := ⟨_, _, _, _, eq_ix4 i⟩
  have ht : b.val * 234 + u.val / 128 < cfg0.N := lt_of_lt_of_le (show b.val * 234 + u.val / 128 < 468 by omega) (by decide +kernel)
  refine ⟨⟨b.val * 234 + u.val / 128, ht⟩, flush0_2 _, ?_⟩
  have e := ((cfg0.win 2).blk ⟨b.val * 234 + u.val / 128, ht⟩).view.emb_mem_set (ix4 0 ⟨u.val % 128, by omega⟩ h d : S1x128x16x128.Idx)
  rw [emb2] at e
  have e0 : (b.val * 234 + u.val / 128) / 234 = b.val := by omega
  have e1 : 128 * ((b.val * 234 + u.val / 128) % 234) + u.val % 128 = u.val := by omega
  simp only [e0, e1] at e
  exact e

/-- The call leaves `codes` of its arguments. -/
theorem value :
    θ_run defs (onTc (τ := τ) (main (F := Ideal))) ⟨m, fun _ => 0, ρ⟩ (fun r => ∀ c : Dev nD,
      r.2.mem ((c.tc : Thread nD τ).loc main_v2) = codes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((dats m 0 c).arrAt_eq_of_cover 2 _ (fun t _ => flushed m c t) covered), (h c).2⟩)
    (Value.run_blocks m ρ)

end Cert.KernelVIdeal.VQuant

namespace Cert.ReferenceVIdeal.VQuant

open Cert.ReferenceVIdeal Cert.ReferenceVIdeal.Gen
open Idealize.ShloMosaic Idealize.ShloMosaic.TcCoe Idealize.ShloMosaic.Tactic
open Idealize.SL Idealize.SL.Sem

/-- The reference's codes. -/
theorem ref_apply (v : Vec Ideal S2x29952x16x128 .bf16) (s : Vec Ideal S2x16 .f32) : k0_pay1 (F := Ideal) v s = Cert.KernelVIdeal.VQuant.codes v s := by
  funext i
  obtain ⟨b, u, h, d, rfl⟩ : ∃ (b : Fin 2) (u : Fin 29952) (h : Fin 16) (d : Fin 128), i = ix4 b u h d := ⟨_, _, _, _, eq_ix4 i⟩
  pointwise [k0_pay1]
  rfl

/-- THE VALUE CLAIM for the codes of the values: the call and the reference leave the same codes. -/
theorem algebraic : @Cert.algebraic_KernelVIdeal_ReferenceVIdeal Cert.KernelVIdeal.Gen.facts Cert.ReferenceVIdeal.Gen.facts := by
  intro m g m' g' hpre hargs
  refine ⟨fun c => Cert.KernelVIdeal.VQuant.codes _ _, Cert.KernelVIdeal.VQuant.value m g, ?_⟩
  refine (θ_run Cert.ReferenceVIdeal.defs _ _).mono (fun r h c => ⟨(h c).1.trans ?_, (h c).2⟩) (Cert.ReferenceVIdeal.Value.run (F := Ideal) m' g')
  rw [(hargs c).1, (hargs c).2]
  exact ref_apply _ _

end Cert.ReferenceVIdeal.VQuant

end
-- ==== Proof.Qkv.Spec.lean ====
/- Hand-written. The quantisation of one token's head, as a function of its 128 numbers. -/
module

public import Idealize.ShloMosaic.PureOps.Ideal
public import Idealize.ShloMosaic.PureOps.Reduce
public import Idealize.ShloMosaic.PureOps.Ideal.Laws
public import Idealize.ShloMosaic.Lib.Pointwise

@[expose] public section

noncomputable section

namespace Cert.Qkv

open Idealize.ShloMosaic

/-- The greatest magnitude of a row. -/
def amax (r : Fin 128 → EReal) : EReal :=
  Finset.univ.fold max (Ideal.ofBits .f32 0xFF800000#32) fun k => (FloatOps.absf (F := Ideal) (φ := .f32) (r k) : EReal)

/-- A row's scale: its greatest magnitude over 127, or one where all its numbers are zero. -/
def scale (r : Fin 128 → EReal) : EReal :=
  Scalar.select (FloatOps.cmpf (F := Ideal) (φ := .f32) .oeq (amax r) (Scalar.ofBits .f32 0x00000000#32)) (Scalar.ofBits (F := Ideal) .f32 0x3F800000#32)
    (FloatOps.divf (F := Ideal) (φ := .f32) (amax r) (Scalar.ofBits .f32 0x42FE0000#32))

/-- A number's code: the number over its row's scale, rounded and clipped to -127..127. -/
def code (x s : EReal) : BitVec 8 :=
  FloatOps.fptosi (F := Ideal) (φ := .f32) 8 (FloatOps.minimumf (F := Ideal) (φ := .f32) (Scalar.ofBits .f32 0x42FE0000#32)
    (FloatOps.maximumf (F := Ideal) (φ := .f32) (Scalar.ofBits .f32 0xC2FE0000#32) (FloatOps.roundeven (F := Ideal) (φ := .f32) (FloatOps.divf (F := Ideal) (φ := .f32) x s))))

/-- A row rotated: each pair of neighbouring numbers turned by its angle. -/
def rot (x : Fin 128 → EReal) (th : Fin 64 → EReal) (d : Fin 128) : EReal :=
  if d.val % 2 = 0 then
    x ⟨d.val / 2 * 2, by omega⟩ * Ideal.cos (th ⟨d.val / 2, by omega⟩) - x ⟨d.val / 2 * 2 + 1, by omega⟩ * Ideal.sin (th ⟨d.val / 2, by omega⟩)
  else
    x ⟨d.val / 2 * 2, by omega⟩ * Ideal.sin (th ⟨d.val / 2, by omega⟩) + x ⟨d.val / 2 * 2 + 1, by omega⟩ * Ideal.cos (th ⟨d.val / 2, by omega⟩)

/-- A maximum along the last axis of four, read at an index. -/
theorem max_r4 {n0 n1 n2 n3 : ℕ} (h : (⟨4, ![n0, n1, n2, n3]⟩ : Shape).Reduces [3] ⟨3, ![n0, n1, n2]⟩) (src : FVec Ideal ⟨4, ![n0, n1, n2, n3]⟩ .f32)
    (hφ : FKind.Formats .f32) (hacc : 0xFF800000#32 = FKind.maximumf.neutral .f32 hφ) (a : Fin n0) (b : Fin n1) (e : Fin n2) :
    multiReduction (F := Ideal) .maximumf [3] ⟨3, ![n0, n1, n2]⟩ src 0xFF800000#32 h hφ hacc (ix3 a b e)
      = Finset.univ.fold max (Ideal.ofBits .f32 0xFF800000#32) fun k => (src (ix4 a b e k) : EReal) := by
  rw [multiReduction_maximumf_eq_fold]
  exact h.fold_fiber_r4_a3 (ix3 a b e) _ _ _

/-- A maximum along the last axis of three, read at an index. -/
theorem max_r3 {n0 n1 n2 : ℕ} (h : (⟨3, ![n0, n1, n2]⟩ : Shape).Reduces [2] ⟨2, ![n0, n1]⟩) (src : FVec Ideal ⟨3, ![n0, n1, n2]⟩ .f32)
    (hφ : FKind.Formats .f32) (hacc : 0xFF800000#32 = FKind.maximumf.neutral .f32 hφ) (a : Fin n0) (b : Fin n1) :
    multiReduction (F := Ideal) .maximumf [2] ⟨2, ![n0, n1]⟩ src 0xFF800000#32 h hφ hacc (ix2 a b)
      = Finset.univ.fold max (Ideal.ofBits .f32 0xFF800000#32) fun k => (src (ix3 a b k) : EReal) := by
  rw [multiReduction_maximumf_eq_fold]
  exact h.fold_fiber_r3_a2 (ix2 a b) _ _ _

end Cert.Qkv

end
-- ==== Proof.Qkv.Arr.lean ====
/- Hand-written. The codes and scales of all rows, as plain functions of the rows and of the angles. -/
module

public import proofs.«01_k».proof.Proof.Qkv.Spec
public import Idealize.ShloMosaic.Lib.Pointwise

@[expose] public section

noncomputable section

namespace Cert.Qkv

open Idealize.ShloMosaic

/-- The scales of all rows `x`, each rotated by the angles of its place. -/
def scales (x : Fin 2 → Fin 29952 → Fin 16 → Fin 128 → EReal) (th : Fin 29952 → Fin 64 → EReal) : (⟨3, ![2, 29952, 16]⟩ : Shape).Idx → EReal :=
  fun i => scale (rot (x (i 0) (i 1) (i 2)) (th (i 1)))

/-- The codes of all rows `x`, each rotated by the angles of its place. -/
def codes (x : Fin 2 → Fin 29952 → Fin 16 → Fin 128 → EReal) (th : Fin 29952 → Fin 64 → EReal) : (⟨4, ![2, 29952, 16, 128]⟩ : Shape).Idx → BitVec 8 :=
  fun i => code (rot (x (i 0) (i 1) (i 2)) (th (i 1)) (i 3)) (scale (rot (x (i 0) (i 1) (i 2)) (th (i 1))))

end Cert.Qkv

end
-- ==== Proof.Qkv.Pay.lean ====
/- Hand-written. What a step of the kernel's quantisation computes, read at an index. -/
module

public import proofs.«01_k».proof.Proof.Qkv.Spec
public import proofs.«01_k».proof.Proof.Gen.KernelQkvIdeal.Skeleton
public import Idealize.ShloMosaic.Lib.Pointwise
public import Idealize.ShloMosaic.Lib.Pipeline.Value

@[expose] public section

set_option maxRecDepth 16384

noncomputable section

namespace Cert.KernelQkvIdeal.Rot

open Cert.KernelQkvIdeal Cert.KernelQkvIdeal.Gen
open Idealize.ShloMosaic Idealize.ShloMosaic.TcCoe Idealize.ShloMosaic.Tactic

/-- The rotated numbers of a block. -/
theorem pay8_apply (v0 v2 : Vec Ideal S128x128 .f32) (v4 : Vec Ideal S128x128 .bf16) (v5 : Vec Ideal S1x128x16x128 .bf16) (r : Fin 128) (h : Fin 16) (d : Fin 128) :
    (k0_pay8 (F := Ideal) v0 v2 v4 v5 (ix3 r h d) : EReal)
      = (v5 (ix4 0 r h d) : EReal) * (v0 (ix2 r d) : EReal) + (∑ k : Fin 128, (v5 (ix4 0 r h k) : EReal) * (v4 (ix2 k d) : EReal)) * (v2 (ix2 r d) : EReal) := by
  pointwise [k0_pay8, k0_pay6, k0_pay7]

/-- The scale of a row. -/
theorem pay9_apply (v0 v2 : Vec Ideal S128x128 .f32) (v4 : Vec Ideal S128x128 .bf16) (v5 : Vec Ideal S1x128x16x128 .bf16) (r : Fin 128) (h : Fin 16) :
    (k0_pay9 (F := Ideal) v0 v2 v4 v5 (ix3 r h 0) : EReal) = Cert.Qkv.scale fun k => k0_pay8 (F := Ideal) v0 v2 v4 v5 (ix3 r h k) := by
  have e : (shapeCast S128x16x1 (multiReduction (F := Ideal) .maximumf [2] S128x16 (absf (k0_pay8 (F := Ideal) v0 v2 v4 v5)) 0xFF800000#32 reduces_S128x16x128_S128x16 (.inl rfl) rfl) shapeCasts_S128x16_S128x16x1 (ix3 r h 0) : EReal)
      = Cert.Qkv.amax fun k => k0_pay8 (F := Ideal) v0 v2 v4 v5 (ix3 r h k) := by
    refine (shapeCast_apply _ _ (ix3 r h 0) (ix2 r h) ?_).trans (Cert.Qkv.max_r3 _ _ _ _ r h)
    rw [Shape.rowMajor_val_two, Shape.rowMajor_val_three]
    show r.val * 16 + h.val = (r.val * 16 + h.val) * 1 + 0
    omega
  unfold Cert.Qkv.scale
  rw [← e]
  rfl

/-- The codes of a row. -/
theorem pay10_apply (v0 v2 : Vec Ideal S128x128 .f32) (v4 : Vec Ideal S128x128 .bf16) (v5 : Vec Ideal S1x128x16x128 .bf16) (r : Fin 128) (h : Fin 16) (d : Fin 128) :
    k0_pay10 (F := Ideal) v0 v2 v4 v5 (ix3 r h d)
      = Cert.Qkv.code (k0_pay8 (F := Ideal) v0 v2 v4 v5 (ix3 r h d)) (k0_pay9 (F := Ideal) v0 v2 v4 v5 (ix3 r h 0)) := by
  have e : broadcastTo S128x16x128 (k0_pay9 (F := Ideal) v0 v2 v4 v5) broadcasts_S128x16x1_S128x16x128 (ix3 r h d) = k0_pay9 (F := Ideal) v0 v2 v4 v5 (ix3 r h 0) := by
    pointwise []
  rw [← e]
  rfl

theorem pay11_apply (v : IVec S128x16x128 8) (r : Fin 128) (h : Fin 16) (d : Fin 128) : k0_pay11 v (ix4 0 r h d) = v (ix3 r h d) := by
  pointwise [k0_pay11]

theorem pay12_apply (v : FVec Ideal S128x16x1 .f32) (r : Fin 128) (h : Fin 16) : k0_pay12 v (ix3 0 r h) = v (ix3 r h 0) := by
  pointwise [k0_pay12]

theorem pay1_apply (v : FVec Ideal S128x16 .f32) (r : Fin 128) (h : Fin 16) : k0_pay1 v (ix3 0 r h) = v (ix2 r h) := by
  pointwise [k0_pay1]

/-- The keys' scales are computed as the queries'. -/
theorem pay16_apply (v0 v2 : Vec Ideal S128x128 .f32) (v4 : Vec Ideal S128x128 .bf16) (v5 : Vec Ideal S1x128x16x128 .bf16) (r : Fin 128) (h : Fin 16) :
    k0_pay16 (F := Ideal) (k0_pay6 v0) (k0_pay7 v2) v4 v5 (ix2 r h) = k0_pay9 (F := Ideal) v0 v2 v4 v5 (ix3 r h 0) := by
  have e : k0_pay14 (F := Ideal) (k0_pay6 v0) (k0_pay7 v2) v4 v5 = k0_pay9 (F := Ideal) v0 v2 v4 v5 := rfl
  unfold k0_pay16
  rw [e]
  pointwise []

/-- The keys' codes are computed as the queries'. -/
theorem pay15_eq (v0 v2 : Vec Ideal S128x128 .f32) (v4 : Vec Ideal S128x128 .bf16) (v5 : Vec Ideal S1x128x16x128 .bf16) :
    k0_pay15 (F := Ideal) (k0_pay6 v0) (k0_pay7 v2) v4 v5 = k0_pay11 (k0_pay10 (F := Ideal) v0 v2 v4 v5) := rfl

end Cert.KernelQkvIdeal.Rot

end
-- ==== Proof.Qkv.Ker1.lean ====
/- Hand-written. What the host hands the kernel's quantisation: the tables of cosines and sines, read at an index. -/
module

public import proofs.«01_k».proof.Proof.Gen.KernelQkvIdeal.Value
public import Idealize.ShloMosaic.Lib.Pointwise
public import Idealize.ShloMosaic.Lib.StableHlo.ReadAt

@[expose] public section

set_option maxRecDepth 16384

noncomputable section

namespace Cert.KernelQkvIdeal.Rot

open Cert.KernelQkvIdeal Cert.KernelQkvIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The angles. -/
def th : S29952x64.Idx → EReal := V m c main_v40

/-- The table of cosines, each pair of lanes holding one angle's. -/
theorem cos_apply (u : Fin 29952) (d : Fin 128) : (V m c main_v43 (ix2 u d) : EReal) = Ideal.cos (th m c (ix2 u ⟨d.val / 2, by omega⟩)) := by
  unfold th V
  after_reads_at

/-- The table of sines. -/
theorem sin_apply (u : Fin 29952) (d : Fin 128) : (V m c main_v46 (ix2 u d) : EReal) = Ideal.sin (th m c (ix2 u ⟨d.val / 2, by omega⟩)) := by
  unfold th V
  after_reads_at

end Cert.KernelQkvIdeal.Rot

end
-- ==== Proof.Qkv.Swap.lean ====
/- Hand-written. What the host hands the kernel's quantisation: the table that swaps the two lanes of a pair. -/
module

public import proofs.«01_k».proof.Proof.Gen.KernelQkvIdeal.Value
public import Idealize.ShloMosaic.Lib.Pointwise
public import Idealize.ShloMosaic.Lib.StableHlo.ReadAt

@[expose] public section

set_option maxRecDepth 16384

noncomputable section

namespace Cert.KernelQkvIdeal.Rot

open Cert.KernelQkvIdeal Cert.KernelQkvIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The word that swaps a pair of lanes: minus one on the first of the pair, one on the second, zero elsewhere. -/
def swapWord (k d : ℕ) : BitVec 16 := if d % 2 = 0 then (if k = d + 1 then 0xBF80#16 else 0x0000#16) else (if k + 1 = d then 0x3F80#16 else 0x0000#16)

/-- The table of the swap is that word. -/
theorem swap_words : ∀ k d : Fin 128, lit1 ⟨k.val * 128 + d.val, by omega⟩ = swapWord k.val d.val := by decide +kernel

/-- The swap as the kernel reads it. -/
theorem swap_apply (k d : Fin 128) : (V m c main_cst (ix2 k d) : EReal) = Ideal.ofBits .bf16 (swapWord k.val d.val) := by
  rw [← swap_words k d]
  unfold V
  after_reads_at
  exact congrArg (fun i : Fin 16384 => Ideal.ofBits .bf16 (lit1 i)) (Fin.ext (Shape.rowMajor_val_two (d := ![128, 128]) (ix2 k d)))

end Cert.KernelQkvIdeal.Rot

end
-- ==== Proof.Qkv.Ker2.lean ====
/- Hand-written. The kernel's quantisation of queries and keys: the rotation of a block, and what a step writes. -/
module

public import proofs.«01_k».proof.Proof.Qkv.Arr
public import proofs.«01_k».proof.Proof.Qkv.Pay
public import proofs.«01_k».proof.Proof.Qkv.Ker1
public import proofs.«01_k».proof.Proof.Qkv.Swap
public import Idealize.ShloMosaic.Lib.Pipeline.ValueKit

@[expose] public section

set_option maxRecDepth 16384

noncomputable section

namespace Cert.KernelQkvIdeal.Rot

open Cert.KernelQkvIdeal Cert.KernelQkvIdeal.Gen
open Idealize.ShloMosaic Idealize.ShloMosaic.TcCoe Idealize.ShloMosaic.Tactic
open Idealize.SL Idealize.SL.Sem

/-- The word of minus one. -/
theorem minus_one : Ideal.ofBits .bf16 0xBF80#16 = -1 := by
  simp [Ideal.ofBits, Ideal.ieee]
  rw [← EReal.coe_mul, ← EReal.coe_one]
  exact congrArg _ (by norm_num)

/-- A row times the swap: only one term is not zero. -/
theorem swap_sum (x : Fin 128 → EReal) (d : Fin 128) : (∑ k : Fin 128, x k * Ideal.ofBits .bf16 (swapWord k.val d.val))
    = if d.val % 2 = 0 then -x ⟨d.val / 2 * 2 + 1, by omega⟩ else x ⟨d.val / 2 * 2, by omega⟩ := by
  split_ifs with e
  · rw [Finset.sum_eq_single (⟨d.val / 2 * 2 + 1, by omega⟩ : Fin 128)]
    · have : swapWord (d.val / 2 * 2 + 1) d.val = 0xBF80#16 := by
        unfold swapWord
        rw [if_pos e, if_pos (by omega)]
      show _ * Ideal.ofBits .bf16 (swapWord (d.val / 2 * 2 + 1) d.val) = _
      rw [this, minus_one, mul_neg, mul_one]
    · intro k _ hk
      have : swapWord k.val d.val = 0x0000#16 := by
        unfold swapWord
        rw [if_pos e, if_neg]
        exact fun h => hk (Fin.ext (show k.val = d.val / 2 * 2 + 1 by omega))
      rw [this, Ideal.ofBits_zero_bf16, mul_zero]
    · exact fun h => absurd (Finset.mem_univ _) h
  · rw [Finset.sum_eq_single (⟨d.val / 2 * 2, by omega⟩ : Fin 128)]
    · have : swapWord (d.val / 2 * 2) d.val = 0x3F80#16 := by
        unfold swapWord
        rw [if_neg e, if_pos (by omega)]
      show _ * Ideal.ofBits .bf16 (swapWord (d.val / 2 * 2) d.val) = _
      rw [this, Ideal.ofBits_one_bf16, mul_one]
    · intro k _ hk
      have : swapWord k.val d.val = 0x0000#16 := by
        unfold swapWord
        rw [if_neg e, if_neg]
        exact fun h => hk (Fin.ext (show k.val = d.val / 2 * 2 by omega))
      rw [this, Ideal.ofBits_zero_bf16, mul_zero]
    · exact fun h => absurd (Finset.mem_univ _) h

/-- The row times its cosines plus the swapped row times its sines is the row rotated. -/
theorem rot_eq (x : Fin 128 → EReal) (a : Fin 64 → EReal) (d : Fin 128) :
    x d * Ideal.cos (a ⟨d.val / 2, by omega⟩) + (∑ k : Fin 128, x k * Ideal.ofBits .bf16 (swapWord k.val d.val)) * Ideal.sin (a ⟨d.val / 2, by omega⟩)
      = Cert.Qkv.rot x a d := by
  rw [swap_sum]
  unfold Cert.Qkv.rot
  split_ifs with e
  · have : d = ⟨d.val / 2 * 2, by omega⟩ := Fin.ext (show d.val = d.val / 2 * 2 by omega)
    rw [neg_mul, ← sub_eq_add_neg, ← congrArg x this]
  · have : d = ⟨d.val / 2 * 2 + 1, by omega⟩ := Fin.ext (show d.val = d.val / 2 * 2 + 1 by omega)
    rw [add_comm, ← congrArg x this]

variable (m : (ℓ : Loc nD τ sig) → Buf (Elt Ideal) ℓ) (ρ : Dev nD → PrngReg) (c : Dev nD)

/-- The queries. -/
def xQ (b : Fin 2) (u : Fin 29952) (h : Fin 16) (k : Fin 128) : EReal := m ((c.tc : Thread nD τ).loc main_arg0) (ix4 b u h k)
/-- The keys. -/
def xK (b : Fin 2) (u : Fin 29952) (h : Fin 16) (k : Fin 128) : EReal := m ((c.tc : Thread nD τ).loc main_arg1) (ix4 b u h k)
/-- The angles. -/
def ang (u : Fin 29952) (j : Fin 64) : EReal := th m c (ix2 u j)

theorem idx0 : ∀ t : Fin grid0.N, cc0_transform_0 (grid0.coords t) = ![t.val / 234, t.val % 234, 0, 0] := by decide +kernel
theorem idx1 : ∀ t : Fin grid0.N, cc0_transform_1 (grid0.coords t) = ![t.val / 234, t.val % 234, 0, 0] := by decide +kernel
theorem idx3 : ∀ t : Fin grid0.N, cc0_transform_3 (grid0.coords t) = ![t.val % 234, 0] := by decide +kernel
theorem idx4 : ∀ t : Fin grid0.N, cc0_transform_4 (grid0.coords t) = ![t.val % 234, 0] := by decide +kernel
theorem idx5 : ∀ t : Fin grid0.N, cc0_transform_5 (grid0.coords t) = ![0, 0] := by decide +kernel
theorem N_lt (t : Fin cfg0.N) : t.val < 468 := lt_of_lt_of_le t.isLt (by decide +kernel)

/-- The batch of a step. -/
def bt (t : Fin cfg0.N) : Fin 2 := ⟨t.val / 234, by have := N_lt t; omega⟩
/-- The place a row of a step's block has in the sequence. -/
def row (t : Fin cfg0.N) (r : Fin 128) : Fin 29952 := ⟨128 * (t.val % 234) + r.val, by omega⟩

theorem iblk0_apply (t : Fin cfg0.N) (r : Fin 128) (h : Fin 16) (d : Fin 128) : (iblk m c 0 t (ix4 0 r h d) : EReal) = xQ m c (bt t) (row t r) h d := by
  show V m c main_arg0 _ = _
  rw [V_main_arg0]
  refine congrArg (m ((c.tc : Thread nD τ).loc main_arg0)) (funext fun a => Fin.ext ?_)
  refine (Pipeline.Window.rect_emb_val win0_0 t (ix4 0 r h d) a rfl).trans ?_
  show cc0_transform_0 (grid0.coords t) a * _ + _ = _
  rw [idx0]
  match a with
  | ⟨0, _⟩ => show t.val / 234 * 1 + 0 = t.val / 234; omega
  | ⟨1, _⟩ => show t.val % 234 * 128 + r.val = 128 * (t.val % 234) + r.val; omega
  | ⟨2, _⟩ => show 0 * 16 + h.val = h.val; omega
  | ⟨3, _⟩ => show 0 * 128 + d.val = d.val; omega

theorem iblk1_apply (t : Fin cfg0.N) (r : Fin 128) (h : Fin 16) (d : Fin 128) : (iblk m c 1 t (ix4 0 r h d) : EReal) = xK m c (bt t) (row t r) h d := by
  show V m c main_arg1 _ = _
  rw [V_main_arg1]
  refine congrArg (m ((c.tc : Thread nD τ).loc main_arg1)) (funext fun a => Fin.ext ?_)
  refine (Pipeline.Window.rect_emb_val win0_1 t (ix4 0 r h d) a rfl).trans ?_
  show cc0_transform_1 (grid0.coords t) a * _ + _ = _
  rw [idx1]
  match a with
  | ⟨0, _⟩ => show t.val / 234 * 1 + 0 = t.val / 234; omega
  | ⟨1, _⟩ => show t.val % 234 * 128 + r.val = 128 * (t.val % 234) + r.val; omega
  | ⟨2, _⟩ => show 0 * 16 + h.val = h.val; omega
  | ⟨3, _⟩ => show 0 * 128 + d.val = d.val; omega

theorem iblk3_apply (t : Fin cfg0.N) (r : Fin 128) (d : Fin 128) : (iblk m c 3 t (ix2 r d) : EReal) = Ideal.cos (ang m c (row t r) ⟨d.val / 2, by omega⟩) := by
  refine Eq.trans ?_ (cos_apply m c (row t r) d)
  refine congrArg (V m c main_v43) (funext fun a => Fin.ext ?_)
  refine (Pipeline.Window.rect_emb_val win0_3 t (ix2 r d) a rfl).trans ?_
  show cc0_transform_3 (grid0.coords t) a * _ + _ = _
  rw [idx3]
  match a with
  | ⟨0, _⟩ => show t.val % 234 * 128 + r.val = 128 * (t.val % 234) + r.val; omega
  | ⟨1, _⟩ => show 0 * 128 + d.val = d.val; omega

theorem iblk4_apply (t : Fin cfg0.N) (r : Fin 128) (d : Fin 128) : (iblk m c 4 t (ix2 r d) : EReal) = Ideal.sin (ang m c (row t r) ⟨d.val / 2, by omega⟩) := by
  refine Eq.trans ?_ (sin_apply m c (row t r) d)
  refine congrArg (V m c main_v46) (funext fun a => Fin.ext ?_)
  refine (Pipeline.Window.rect_emb_val win0_4 t (ix2 r d) a rfl).trans ?_
  show cc0_transform_4 (grid0.coords t) a * _ + _ = _
  rw [idx4]
  match a with
  | ⟨0, _⟩ => show t.val % 234 * 128 + r.val = 128 * (t.val % 234) + r.val; omega
  | ⟨1, _⟩ => show 0 * 128 + d.val = d.val; omega

theorem iblk5_apply (t : Fin cfg0.N) (k d : Fin 128) : (iblk m c 5 t (ix2 k d) : EReal) = Ideal.ofBits .bf16 (swapWord k.val d.val) := by
  refine Eq.trans ?_ (swap_apply m c k d)
  refine congrArg (V m c main_cst) (funext fun a => Fin.ext ?_)
  refine (Pipeline.Window.rect_emb_val win0_5 t (ix2 k d) a rfl).trans ?_
  show cc0_transform_5 (grid0.coords t) a * _ + _ = _
  rw [idx5]
  match a with
  | ⟨0, _⟩ => show 0 * 128 + k.val = k.val; omega
  | ⟨1, _⟩ => show 0 * 128 + d.val = d.val; omega

/-- The rotated queries of a step. -/
theorem rotQ (t : Fin cfg0.N) (r : Fin 128) (h : Fin 16) (d : Fin 128) :
    (k0_pay8 (F := Ideal) (iblk m c 3 t) (iblk m c 4 t) (iblk m c 5 t) (iblk m c 0 t) (ix3 r h d) : EReal)
      = Cert.Qkv.rot (xQ m c (bt t) (row t r) h) (ang m c (row t r)) d := by
  refine (pay8_apply _ _ _ _ r h d).trans ?_
  rw [← rot_eq, iblk0_apply, iblk3_apply, iblk4_apply]
  simp only [iblk0_apply, iblk5_apply]

/-- The rotated keys of a step. -/
theorem rotK (t : Fin cfg0.N) (r : Fin 128) (h : Fin 16) (d : Fin 128) :
    (k0_pay8 (F := Ideal) (iblk m c 3 t) (iblk m c 4 t) (iblk m c 5 t) (iblk m c 1 t) (ix3 r h d) : EReal)
      = Cert.Qkv.rot (xK m c (bt t) (row t r) h) (ang m c (row t r)) d := by
  refine (pay8_apply _ _ _ _ r h d).trans ?_
  rw [← rot_eq, iblk1_apply, iblk3_apply, iblk4_apply]
  simp only [iblk1_apply, iblk5_apply]

/-- What a step leaves in its four blocks, whichever step of its batch it is. -/
theorem outs (t : Fin cfg0.N) :
    (outsAt0 m c t.val t.isLt).1 = k0_pay11 (k0_pay10 (F := Ideal) (iblk m c 3 t) (iblk m c 4 t) (iblk m c 5 t) (iblk m c 0 t))
    ∧ (outsAt0 m c t.val t.isLt).2.1 = k0_pay12 (k0_pay9 (F := Ideal) (iblk m c 3 t) (iblk m c 4 t) (iblk m c 5 t) (iblk m c 0 t))
    ∧ (outsAt0 m c t.val t.isLt).2.2.1 = k0_pay15 (F := Ideal) (k0_pay6 (iblk m c 3 t)) (k0_pay7 (iblk m c 4 t)) (iblk m c 5 t) (iblk m c 1 t)
    ∧ (outsAt0 m c t.val t.isLt).2.2.2.1 = k0_pay1 (k0_pay16 (F := Ideal) (k0_pay6 (iblk m c 3 t)) (k0_pay7 (iblk m c 4 t)) (iblk m c 5 t) (iblk m c 1 t)) := by
  by_cases h0 : t.val % 234 = 0
  · rw [outsAt0_A m c t h0 (by omega) (by omega)]
    refine ⟨?_, ?_, ?_, ?_⟩ <;> (frame_out; try rfl)
  · by_cases h2 : t.val % 234 = 233
    · rw [outsAt0_C m c t h0 (by omega) h2]
      refine ⟨?_, ?_, ?_, ?_⟩ <;> (frame_out; try rfl)
    · rw [outsAt0_B m c t h0 (by omega) h2]
      refine ⟨?_, ?_, ?_, ?_⟩ <;> (frame_out; try rfl)

end Cert.KernelQkvIdeal.Rot

end
-- ==== Proof.Qkv.Ker3.lean ====
/- Hand-written. The kernel's quantisation of queries and keys: the arrays it leaves. -/
module

public import proofs.«01_k».proof.Proof.Qkv.Ker2

@[expose] public section

set_option maxRecDepth 16384

noncomputable section

namespace Cert.KernelQkvIdeal.Rot

open Cert.KernelQkvIdeal Cert.KernelQkvIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

/-- The step that holds a row. -/
def step (b : Fin 2) (u : Fin 29952) : Fin cfg0.N :=
  ⟨b.val * 234 + u.val / 128, lt_of_lt_of_le (show b.val * 234 + u.val / 128 < 468 by omega) (by decide +kernel)⟩

theorem bt_step (b : Fin 2) (u : Fin 29952) : bt (step b u) = b := Fin.ext (show (b.val * 234 + u.val / 128) / 234 = b.val by omega)
theorem row_step (b : Fin 2) (u : Fin 29952) : row (step b u) ⟨u.val % 128, by omega⟩ = u :=
  Fin.ext (show 128 * ((b.val * 234 + u.val / 128) % 234) + u.val % 128 = u.val by omega)

theorem idx6 : ∀ t : Fin grid0.N, cc0_transform_6 (grid0.coords t) = ![t.val / 234, t.val % 234, 0, 0] := by decide +kernel

/-- Where an index of a step's block of window 6 stands in the array. -/
theorem emb6 (t : Fin cfg0.N) (r : Fin 128) (h : Fin 16) (d : Fin 128) :
    ((cfg0.win 6).blk t).view.emb (ix4 0 r h d) = (ix4 (bt t) (row t r) h d : S2x29952x16x128.Idx) := by
  refine funext fun a => Fin.ext ?_
  refine (Pipeline.Window.rect_emb_val win0_6 t (ix4 0 r h d) a rfl).trans ?_
  show cc0_transform_6 (grid0.coords t) a * _ + _ = _
  rw [idx6]
  match a with
  | ⟨0, _⟩ => show t.val / 234 * 1 + 0 = t.val / 234; omega
  | ⟨1, _⟩ => show t.val % 234 * 128 + r.val = 128 * (t.val % 234) + r.val; omega
  | ⟨2, _⟩ => show 0 * 16 + h.val = h.val; omega
  | ⟨3, _⟩ => show 0 * 128 + d.val = d.val; omega

/-- Every index of the array is in the block of a step that writes back. -/
theorem covered6 (i : S2x29952x16x128.Idx) : ∃ t : Fin cfg0.N, (cfg0.win 6).flush t = true ∧ i ∈ ((cfg0.win 6).blk t).view.set := by
  obtain ⟨b, u, h, d, rfl⟩ : ∃ (b : Fin 2) (u : Fin 29952) (h : Fin 16) (d : Fin 128), i = ix4 b u h d := ⟨_, _, _, _, eq_ix4 i⟩
  have e := ((cfg0.win 6).blk (step b u)).view.emb_mem_set (ix4 0 ⟨u.val % 128, by omega⟩ h d : S1x128x16x128.Idx)
  rw [emb6, bt_step, row_step] at e
  exact ⟨step b u, flush0_6 _, e⟩

/-- What a step writes back is its block of the codes. -/
theorem flushed6 (t : Fin cfg0.N) : (dats m 0 c).flushed 6 t
    = ((cfg0.win 6).blk t).view.read (Elt Ideal) (Cert.Qkv.codes (xQ m c) (ang m c)) := by
  rw [Value.flushed6]
  funext y
  obtain ⟨r, h, d, rfl⟩ : ∃ (r : Fin 128) (h : Fin 16) (d : Fin 128), y = (ix4 0 r h d : S1x128x16x128.Idx) := by
    refine ⟨y 1, y 2, y 3, (eq_ix4 (n0 := 1) (n1 := 128) (n2 := 16) (n3 := 128) y).trans ?_⟩
    congr 1
    exact Subsingleton.elim (α := Fin 1) _ _
  show (outsAt0 m c t.val t.isLt).1 (ix4 0 r h d) = Cert.Qkv.codes _ _ (((cfg0.win 6).blk t).view.emb (ix4 0 r h d))
  rw [emb6, (outs m c t).1, pay11_apply, pay10_apply, pay9_apply, rotQ]
  unfold Cert.Qkv.codes
  exact congrArg (fun f => Cert.Qkv.code _ (Cert.Qkv.scale f)) (funext fun j => rotQ m c t r h j)

theorem idx7 : ∀ t : Fin grid0.N, cc0_transform_7 (grid0.coords t) = ![t.val / 234, t.val % 234, 0] := by decide +kernel

/-- Where an index of a step's block of window 7 stands in the array. -/
theorem emb7 (t : Fin cfg0.N) (r : Fin 128) (h : Fin 16) :
    ((cfg0.win 7).blk t).view.emb (ix3 0 r h) = (ix3 (bt t) (row t r) h : S2x29952x16.Idx) := by
  refine funext fun a => Fin.ext ?_
  refine (Pipeline.Window.rect_emb_val win0_7 t (ix3 0 r h) a rfl).trans ?_
  show cc0_transform_7 (grid0.coords t) a * _ + _ = _
  rw [idx7]
  match a with
  | ⟨0, _⟩ => show t.val / 234 * 1 + 0 = t.val / 234; omega
  | ⟨1, _⟩ => show t.val % 234 * 128 + r.val = 128 * (t.val % 234) + r.val; omega
  | ⟨2, _⟩ => show 0 * 16 + h.val = h.val; omega

/-- Every index of the array is in the block of a step that writes back. -/
theorem covered7 (i : S2x29952x16.Idx) : ∃ t : Fin cfg0.N, (cfg0.win 7).flush t = true ∧ i ∈ ((cfg0.win 7).blk t).view.set := by
  obtain ⟨b, u, h, rfl⟩ : ∃ (b : Fin 2) (u : Fin 29952) (h : Fin 16), i = ix3 b u h := ⟨_, _, _, eq_ix3 i⟩
  have e := ((cfg0.win 7).blk (step b u)).view.emb_mem_set (ix3 0 ⟨u.val % 128, by omega⟩ h : S1x128x16.Idx)
  rw [emb7, bt_step, row_step] at e
  exact ⟨step b u, flush0_7 _, e⟩

/-- What a step writes back is its block of the scales. -/
theorem flushed7 (t : Fin cfg0.N) : (dats m 0 c).flushed 7 t
    = ((cfg0.win 7).blk t).view.read (Elt Ideal) (Cert.Qkv.scales (xQ m c) (ang m c)) := by
  rw [Value.flushed7]
  funext y
  obtain ⟨r, h, rfl⟩ : ∃ (r : Fin 128) (h : Fin 16), y = (ix3 0 r h : S1x128x16.Idx) := by
    refine ⟨y 1, y 2, (eq_ix3 (n0 := 1) (n1 := 128) (n2 := 16) y).trans ?_⟩
    congr 1
    exact Subsingleton.elim (α := Fin 1) _ _
  show (outsAt0 m c t.val t.isLt).2.1 (ix3 0 r h) = Cert.Qkv.scales _ _ (((cfg0.win 7).blk t).view.emb (ix3 0 r h))
  rw [emb7, (outs m c t).2.1, pay12_apply]
  refine (pay9_apply _ _ _ _ r h).trans ?_
  unfold Cert.Qkv.scales
  exact congrArg Cert.Qkv.scale (funext fun j => rotQ m c t r h j)

theorem idx8 : ∀ t : Fin grid0.N, cc0_transform_8 (grid0.coords t) = ![t.val / 234, t.val % 234, 0, 0] := by decide +kernel

/-- Where an index of a step's block of window 8 stands in the array. -/
theorem emb8 (t : Fin cfg0.N) (r : Fin 128) (h : Fin 16) (d : Fin 128) :
    ((cfg0.win 8).blk t).view.emb (ix4 0 r h d) = (ix4 (bt t) (row t r) h d : S2x29952x16x128.Idx) := by
  refine funext fun a => Fin.ext ?_
  refine (Pipeline.Window.rect_emb_val win0_8 t (ix4 0 r h d) a rfl).trans ?_
  show cc0_transform_8 (grid0.coords t) a * _ + _ = _
  rw [idx8]
  match a with
  | ⟨0, _⟩ => show t.val / 234 * 1 + 0 = t.val / 234; omega
  | ⟨1, _⟩ => show t.val % 234 * 128 + r.val = 128 * (t.val % 234) + r.val; omega
  | ⟨2, _⟩ => show 0 * 16 + h.val = h.val; omega
  | ⟨3, _⟩ => show 0 * 128 + d.val = d.val; omega

/-- Every index of the array is in the block of a step that writes back. -/
theorem covered8 (i : S2x29952x16x128.Idx) : ∃ t : Fin cfg0.N, (cfg0.win 8).flush t = true ∧ i ∈ ((cfg0.win 8).blk t).view.set := by
  obtain ⟨b, u, h, d, rfl⟩ : ∃ (b : Fin 2) (u : Fin 29952) (h : Fin 16) (d : Fin 128), i = ix4 b u h d := ⟨_, _, _, _, eq_ix4 i⟩
  have e := ((cfg0.win 8).blk (step b u)).view.emb_mem_set (ix4 0 ⟨u.val % 128, by omega⟩ h d : S1x128x16x128.Idx)
  rw [emb8, bt_step, row_step] at e
  exact ⟨step b u, flush0_8 _, e⟩

/-- What a step writes back is its block of the codes. -/
theorem flushed8 (t : Fin cfg0.N) : (dats m 0 c).flushed 8 t
    = ((cfg0.win 8).blk t).view.read (Elt Ideal) (Cert.Qkv.codes (xK m c) (ang m c)) := by
  rw [Value.flushed8]
  funext y
  obtain ⟨r, h, d, rfl⟩ : ∃ (r : Fin 128) (h : Fin 16) (d : Fin 128), y = (ix4 0 r h d : S1x128x16x128.Idx) := by
    refine ⟨y 1, y 2, y 3, (eq_ix4 (n0 := 1) (n1 := 128) (n2 := 16) (n3 := 128) y).trans ?_⟩
    congr 1
    exact Subsingleton.elim (α := Fin 1) _ _
  show (outsAt0 m c t.val t.isLt).2.2.1 (ix4 0 r h d) = Cert.Qkv.codes _ _ (((cfg0.win 8).blk t).view.emb (ix4 0 r h d))
  rw [emb8, (outs m c t).2.2.1, pay15_eq, pay11_apply, pay10_apply, pay9_apply, rotK]
  unfold Cert.Qkv.codes
  exact congrArg (fun f => Cert.Qkv.code _ (Cert.Qkv.scale f)) (funext fun j => rotK m c t r h j)

theorem idx9 : ∀ t : Fin grid0.N, cc0_transform_9 (grid0.coords t) = ![t.val / 234, t.val % 234, 0] := by decide +kernel

/-- Where an index of a step's block of window 9 stands in the array. -/
theorem emb9 (t : Fin cfg0.N) (r : Fin 128) (h : Fin 16) :
    ((cfg0.win 9).blk t).view.emb (ix3 0 r h) = (ix3 (bt t) (row t r) h : S2x29952x16.Idx) := by
  refine funext fun a => Fin.ext ?_
  refine (Pipeline.Window.rect_emb_val win0_9 t (ix3 0 r h) a rfl).trans ?_
  show cc0_transform_9 (grid0.coords t) a * _ + _ = _
  rw [idx9]
  match a with
  | ⟨0, _⟩ => show t.val / 234 * 1 + 0 = t.val / 234; omega
  | ⟨1, _⟩ => show t.val % 234 * 128 + r.val = 128 * (t.val % 234) + r.val; omega
  | ⟨2, _⟩ => show 0 * 16 + h.val = h.val; omega

/-- Every index of the array is in the block of a step that writes back. -/
theorem covered9 (i : S2x29952x16.Idx) : ∃ t : Fin cfg0.N, (cfg0.win 9).flush t = true ∧ i ∈ ((cfg0.win 9).blk t).view.set := by
  obtain ⟨b, u, h, rfl⟩ : ∃ (b : Fin 2) (u : Fin 29952) (h : Fin 16), i = ix3 b u h := ⟨_, _, _, eq_ix3 i⟩
  have e := ((cfg0.win 9).blk (step b u)).view.emb_mem_set (ix3 0 ⟨u.val % 128, by omega⟩ h : S1x128x16.Idx)
  rw [emb9, bt_step, row_step] at e
  exact ⟨step b u, flush0_9 _, e⟩

/-- What a step writes back is its block of the scales. -/
theorem flushed9 (t : Fin cfg0.N) : (dats m 0 c).flushed 9 t
    = ((cfg0.win 9).blk t).view.read (Elt Ideal) (Cert.Qkv.scales (xK m c) (ang m c)) := by
  rw [Value.flushed9]
  funext y
  obtain ⟨r, h, rfl⟩ : ∃ (r : Fin 128) (h : Fin 16), y = (ix3 0 r h : S1x128x16.Idx) := by
    refine ⟨y 1, y 2, (eq_ix3 (n0 := 1) (n1 := 128) (n2 := 16) y).trans ?_⟩
    congr 1
    exact Subsingleton.elim (α := Fin 1) _ _
  show (outsAt0 m c t.val t.isLt).2.2.2.1 (ix3 0 r h) = Cert.Qkv.scales _ _ (((cfg0.win 9).blk t).view.emb (ix3 0 r h))
  rw [emb9, (outs m c t).2.2.2, pay1_apply, pay16_apply]
  refine (pay9_apply _ _ _ _ r h).trans ?_
  unfold Cert.Qkv.scales
  exact congrArg Cert.Qkv.scale (funext fun j => rotK m c t r h j)

/-- The call leaves the codes and the scales of its queries and of its keys. -/
theorem value :
    θ_run defs (onTc (τ := τ) (main (F := Ideal))) ⟨m, fun _ => 0, ρ⟩ (fun r => ∀ c : Dev nD,
      r.2.mem ((c.tc : Thread nD τ).loc main_v47_0) = Cert.Qkv.codes (xQ m c) (ang m c)
      ∧ r.2.mem ((c.tc : Thread nD τ).loc main_v47_1) = Cert.Qkv.scales (xQ m c) (ang m c)
      ∧ r.2.mem ((c.tc : Thread nD τ).loc main_v47_2) = Cert.Qkv.codes (xK m c) (ang m c)
      ∧ r.2.mem ((c.tc : Thread nD τ).loc main_v47_3) = Cert.Qkv.scales (xK m c) (ang m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans ((dats m 0 c).arrAt_eq_of_cover 6 _ (fun t _ => flushed6 m c t) covered6),
      (h c).2.1.trans ((dats m 0 c).arrAt_eq_of_cover 7 _ (fun t _ => flushed7 m c t) covered7),
      (h c).2.2.1.trans ((dats m 0 c).arrAt_eq_of_cover 8 _ (fun t _ => flushed8 m c t) covered8),
      (h c).2.2.2.1.trans ((dats m 0 c).arrAt_eq_of_cover 9 _ (fun t _ => flushed9 m c t) covered9),
      (h c).2.2.2.2.2⟩)
    (Value.run_blocks m ρ)

end Cert.KernelQkvIdeal.Rot

end
-- ==== Proof.Qkv.Ref1.lean ====
/- Hand-written. What the host hands the reference's quantisation: the rotated queries and keys, read at an index. -/
module

public import proofs.«01_k».proof.Proof.Gen.ReferenceQkvIdeal.Value
public import proofs.«01_k».proof.Proof.Qkv.Spec
public import Idealize.ShloMosaic.Lib.Pointwise
public import Idealize.ShloMosaic.Lib.StableHlo.ReadAt

@[expose] public section

set_option maxRecDepth 16384

noncomputable section

namespace Cert.ReferenceQkvIdeal.Rot

open Cert.ReferenceQkvIdeal Cert.ReferenceQkvIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The angles. -/
def th : S29952x64.Idx → EReal := V m c main_v40
/-- The queries. -/
def aQ : S2x29952x16x128.Idx → EReal := m ((c.tc : Thread nD τ).loc main_arg0)
/-- The keys. -/
def aK : S2x29952x16x128.Idx → EReal := m ((c.tc : Thread nD τ).loc main_arg1)

/-- The rotated queries. -/
theorem q_rot (b : Fin 2) (u : Fin 29952) (h : Fin 16) (d : Fin 128) :
    (V m c main_v64 (ix4 b u h d) : EReal) = Cert.Qkv.rot (fun k => aQ m c (ix4 b u h k)) (fun j => th m c (ix2 u j)) d := by
  unfold Cert.Qkv.rot th aQ V
  after_reads_at
  rcases Nat.mod_two_eq_zero_or_one d.val with e | e
  · refine (dif_pos (show d.val % 2 < 1 by omega)).trans (Eq.trans ?_ (if_pos e).symm)
    after_reads_at
    after_reads_at
  · refine (dif_neg (show ¬ d.val % 2 < 1 by omega)).trans (Eq.trans ?_ (if_neg (show ¬ d.val % 2 = 0 by omega)).symm)
    after_reads_at
    after_reads_at

/-- The rotated keys. -/
theorem k_rot (b : Fin 2) (u : Fin 29952) (h : Fin 16) (d : Fin 128) :
    (V m c main_v86 (ix4 b u h d) : EReal) = Cert.Qkv.rot (fun k => aK m c (ix4 b u h k)) (fun j => th m c (ix2 u j)) d := by
  unfold Cert.Qkv.rot th aK V
  after_reads_at
  rcases Nat.mod_two_eq_zero_or_one d.val with e | e
  · refine (dif_pos (show d.val % 2 < 1 by omega)).trans (Eq.trans ?_ (if_pos e).symm)
    after_reads_at
    after_reads_at
  · refine (dif_neg (show ¬ d.val % 2 < 1 by omega)).trans (Eq.trans ?_ (if_neg (show ¬ d.val % 2 = 0 by omega)).symm)
    after_reads_at
    after_reads_at

end Cert.ReferenceQkvIdeal.Rot

end
-- ==== Proof.Qkv.Ref2.lean ====
/- Hand-written. The reference for queries and keys: the arrays it leaves. -/
module

public import proofs.«01_k».proof.Proof.Qkv.Arr
public import proofs.«01_k».proof.Proof.Qkv.Ref1

@[expose] public section

set_option maxRecDepth 16384

noncomputable section

namespace Cert.Qkv

open Idealize.ShloMosaic

/-- The scale a greatest magnitude gives. -/
def scaleOf (a : EReal) : EReal :=
  Scalar.select (FloatOps.cmpf (F := Ideal) (φ := .f32) .oeq a (Scalar.ofBits .f32 0x00000000#32)) (Scalar.ofBits (F := Ideal) .f32 0x3F800000#32)
    (FloatOps.divf (F := Ideal) (φ := .f32) a (Scalar.ofBits .f32 0x42FE0000#32))

/-- Scales computed over a whole array, read at an index. -/
theorem scale_vec {s : Shape} (R : FVec Ideal s .f32) (i : s.Idx) :
    (select (cmpf .oeq R (broadcast s (Scalar.ofBits (F := Ideal) .f32 0x00000000#32))) (broadcast s (Scalar.ofBits (F := Ideal) .f32 0x3F800000#32))
      (divf R (broadcast s (Scalar.ofBits (F := Ideal) .f32 0x42FE0000#32))) i : EReal) = scaleOf (R i) := rfl

/-- Codes computed over a whole array, read at an index. -/
theorem code_vec {s : Shape} (x y : FVec Ideal s .f32) (i : s.Idx) :
    fptosi (F := Ideal) 8 (minimumf (broadcast s (Scalar.ofBits (F := Ideal) .f32 0x42FE0000#32))
      (maximumf (broadcast s (Scalar.ofBits (F := Ideal) .f32 0xC2FE0000#32)) (roundeven (divf x y)))) i = code (x i) (y i) := rfl

end Cert.Qkv

namespace Cert.ReferenceQkvIdeal.Rot

open Cert.ReferenceQkvIdeal Cert.ReferenceQkvIdeal.Gen
open Idealize.ShloMosaic Idealize.ShloMosaic.TcCoe Idealize.ShloMosaic.Tactic
open Idealize.SL Idealize.SL.Sem

theorem pay2_eq (P : Vec Ideal S2x29952x16x128 .f32) : k0_pay2 (F := Ideal) P = P :=
  funext fun x => shapeCast_apply _ _ x x rfl

/-- The greatest magnitude of a row. -/
theorem amax_apply (P : Vec Ideal S2x29952x16x128 .f32) (b : Fin 2) (u : Fin 29952) (h : Fin 16) :
    (multiReduction (F := Ideal) .maximumf [3] S2x29952x16 (absf (k0_pay2 (F := Ideal) P)) 0xFF800000#32 reduces_S2x29952x16x128_S2x29952x16 (.inl rfl) rfl (ix3 b u h) : EReal)
      = Cert.Qkv.amax fun k => P (ix4 b u h k) := by
  rw [pay2_eq]
  exact Cert.Qkv.max_r4 _ _ _ _ b u h

/-- The scale of a row. -/
theorem pay3_apply (P : Vec Ideal S2x29952x16x128 .f32) (b : Fin 2) (u : Fin 29952) (h : Fin 16) :
    (k0_pay3 (F := Ideal) P (ix3 b u h) : EReal) = Cert.Qkv.scale fun k => P (ix4 b u h k) := by
  have e := amax_apply P b u h
  refine (Cert.Qkv.scale_vec (multiReduction (F := Ideal) .maximumf [3] S2x29952x16 (absf (k0_pay2 (F := Ideal) P)) 0xFF800000#32 reduces_S2x29952x16x128_S2x29952x16 (.inl rfl) rfl) (ix3 b u h)).trans ?_
  rw [e]
  rfl

/-- A scale spread over its row. -/
theorem spread (s : Vec Ideal S2x29952x16 .f32) (b : Fin 2) (u : Fin 29952) (h : Fin 16) (d : Fin 128) :
    broadcastTo S2x29952x16x128 (shapeCast S2x29952x16x1 s shapeCasts_S2x29952x16_S2x29952x16x1) broadcasts_S2x29952x16x1_S2x29952x16x128 (ix4 b u h d)
      = s (ix3 b u h) := by
  pointwise []

/-- The code of a number. -/
theorem pay4_apply (P : Vec Ideal S2x29952x16x128 .f32) (b : Fin 2) (u : Fin 29952) (h : Fin 16) (d : Fin 128) :
    k0_pay4 (F := Ideal) P (ix4 b u h d) = Cert.Qkv.code (P (ix4 b u h d)) (k0_pay3 (F := Ideal) P (ix3 b u h)) := by
  have e := spread (k0_pay3 (F := Ideal) P) b u h d
  refine (Cert.Qkv.code_vec (k0_pay2 (F := Ideal) P) (broadcastTo S2x29952x16x128 (shapeCast S2x29952x16x1 (k0_pay3 (F := Ideal) P) shapeCasts_S2x29952x16_S2x29952x16x1) broadcasts_S2x29952x16x1_S2x29952x16x128) (ix4 b u h d)).trans ?_
  rw [e, pay2_eq]

theorem pay6_eq (P : Vec Ideal S2x29952x16x128 .f32) : k0_pay6 (F := Ideal) P = k0_pay3 (F := Ideal) P := rfl
theorem pay1_eq (P : Vec Ideal S2x29952x16x128 .f32) : k0_pay1 (k0_pay5 (F := Ideal) P) (k0_pay7 (F := Ideal) P) = k0_pay4 (F := Ideal) P := rfl

theorem hz4 : (![0, 0, 0, 0] : Fin 4 → ℕ) = fun _ => 0 := by decide
theorem hz3 : (![0, 0, 0] : Fin 3 → ℕ) = fun _ => 0 := by decide

variable (m : (ℓ : Loc nD τ sig) → Buf (Elt Ideal) ℓ) (ρ : Dev nD → PrngReg) (c : Dev nD)

/-- The queries. -/
def xQ (b : Fin 2) (u : Fin 29952) (h : Fin 16) (k : Fin 128) : EReal := m ((c.tc : Thread nD τ).loc main_arg0) (ix4 b u h k)
/-- The keys. -/
def xK (b : Fin 2) (u : Fin 29952) (h : Fin 16) (k : Fin 128) : EReal := m ((c.tc : Thread nD τ).loc main_arg1) (ix4 b u h k)
/-- The angles. -/
def ang (u : Fin 29952) (j : Fin 64) : EReal := th m c (ix2 u j)

theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S2x29952x16x128.Idx) : ((cfg0.win 0).blk t).view.emb j = j := by
  obtain ⟨e0, e1, e2, e3⟩ := idx_zero0 t
  funext a; apply Fin.ext
  match a with
  | ⟨0, _⟩ => show win0_0.index t (0 : Fin 4) * 2 + 1 * (j 0).val = (j 0).val; omega
  | ⟨1, _⟩ => show win0_0.index t (1 : Fin 4) * 29952 + 1 * (j 1).val = (j 1).val; omega
  | ⟨2, _⟩ => show win0_0.index t (2 : Fin 4) * 16 + 1 * (j 2).val = (j 2).val; omega
  | ⟨3, _⟩ => show win0_0.index t (3 : Fin 4) * 128 + 1 * (j 3).val = (j 3).val; omega

theorem idx_zero1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- An index of window 1's block is the same index of its array. -/
theorem emb1 (t : Fin cfg0.N) (j : S2x29952x16x128.Idx) : ((cfg0.win 1).blk t).view.emb j = j := by
  obtain ⟨e0, e1, e2, e3⟩ := idx_zero1 t
  funext a; apply Fin.ext
  match a with
  | ⟨0, _⟩ => show win0_1.index t (0 : Fin 4) * 2 + 1 * (j 0).val = (j 0).val; omega
  | ⟨1, _⟩ => show win0_1.index t (1 : Fin 4) * 29952 + 1 * (j 1).val = (j 1).val; omega
  | ⟨2, _⟩ => show win0_1.index t (2 : Fin 4) * 16 + 1 * (j 2).val = (j 2).val; omega
  | ⟨3, _⟩ => show win0_1.index t (3 : Fin 4) * 128 + 1 * (j 3).val = (j 3).val; omega

theorem idx_zero2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)

/-- An index of window 2's block is the same index of its array. -/
theorem emb2 (t : Fin cfg0.N) (j : S2x29952x16x128.Idx) : ((cfg0.win 2).blk t).view.emb j = j := by
  obtain ⟨e0, e1, e2, e3⟩ := idx_zero2 t
  funext a; apply Fin.ext
  match a with
  | ⟨0, _⟩ => show win0_2.index t (0 : Fin 4) * 2 + 1 * (j 0).val = (j 0).val; omega
  | ⟨1, _⟩ => show win0_2.index t (1 : Fin 4) * 29952 + 1 * (j 1).val = (j 1).val; omega
  | ⟨2, _⟩ => show win0_2.index t (2 : Fin 4) * 16 + 1 * (j 2).val = (j 2).val; omega
  | ⟨3, _⟩ => show win0_2.index t (3 : Fin 4) * 128 + 1 * (j 3).val = (j 3).val; omega

theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S2x29952x16.Idx) : ((cfg0.win 3).blk t).view.emb j = j := by
  obtain ⟨e0, e1, e2⟩ := idx_zero3 t
  funext a; apply Fin.ext
  match a with
  | ⟨0, _⟩ => show win0_3.index t (0 : Fin 3) * 2 + 1 * (j 0).val = (j 0).val; omega
  | ⟨1, _⟩ => show win0_3.index t (1 : Fin 3) * 29952 + 1 * (j 1).val = (j 1).val; omega
  | ⟨2, _⟩ => show win0_3.index t (2 : Fin 3) * 16 + 1 * (j 2).val = (j 2).val; omega

theorem idx_zero4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

/-- An index of window 4's block is the same index of its array. -/
theorem emb4 (t : Fin cfg0.N) (j : S2x29952x16x128.Idx) : ((cfg0.win 4).blk t).view.emb j = j := by
  obtain ⟨e0, e1, e2, e3⟩ := idx_zero4 t
  funext a; apply Fin.ext
  match a with
  | ⟨0, _⟩ => show win0_4.index t (0 : Fin 4) * 2 + 1 * (j 0).val = (j 0).val; omega
  | ⟨1, _⟩ => show win0_4.index t (1 : Fin 4) * 29952 + 1 * (j 1).val = (j 1).val; omega
  | ⟨2, _⟩ => show win0_4.index t (2 : Fin 4) * 16 + 1 * (j 2).val = (j 2).val; omega
  | ⟨3, _⟩ => show win0_4.index t (3 : Fin 4) * 128 + 1 * (j 3).val = (j 3).val; omega

theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S2x29952x16.Idx) : ((cfg0.win 5).blk t).view.emb j = j := by
  obtain ⟨e0, e1, e2⟩ := idx_zero5 t
  funext a; apply Fin.ext
  match a with
  | ⟨0, _⟩ => show win0_5.index t (0 : Fin 3) * 2 + 1 * (j 0).val = (j 0).val; omega
  | ⟨1, _⟩ => show win0_5.index t (1 : Fin 3) * 29952 + 1 * (j 1).val = (j 1).val; omega
  | ⟨2, _⟩ => show win0_5.index t (2 : Fin 3) * 16 + 1 * (j 2).val = (j 2).val; omega

theorem read0 (t : Fin cfg0.N) (A : Vec Ideal S2x29952x16x128 .f32) : ((cfg0.win 0).blk t).view.read (Elt Ideal) A = A := by
  funext j
  show A (((cfg0.win 0).blk t).view.emb j) = A j
  rw [emb0]

theorem iblk0_ref (t : Fin cfg0.N) : iblk m c 0 t = V m c (Pipeline.arrRef spec0 0) := by
  unfold iblk
  exact read0 t _

theorem iblk0_eq (t : Fin cfg0.N) : iblk m c 0 t = V m c main_v64 := iblk0_ref m c t

theorem read1 (t : Fin cfg0.N) (A : Vec Ideal S2x29952x16x128 .f32) : ((cfg0.win 1).blk t).view.read (Elt Ideal) A = A := by
  funext j
  show A (((cfg0.win 1).blk t).view.emb j) = A j
  rw [emb1]

theorem iblk1_ref (t : Fin cfg0.N) : iblk m c 1 t = V m c (Pipeline.arrRef spec0 1) := by
  unfold iblk
  exact read1 t _

theorem iblk1_eq (t : Fin cfg0.N) : iblk m c 1 t = V m c main_v86 := iblk1_ref m c t

theorem final2 : (dats m 0 c).arrAt 2 cfg0.N = Cert.Qkv.codes (xQ m c) (ang m c) := by
  refine (dats m 0 c).arrAt_eq_of_cover 2 _ (fun t _ => ?_) (fun i => ⟨⟨0, by decide +kernel⟩, flush0_2 _, ?_⟩)
  · rw [Value.flushed2]
    funext y
    obtain ⟨b, u, h, d, rfl⟩ : ∃ (b : Fin 2) (u : Fin 29952) (h : Fin 16) (d : Fin 128), y = ix4 b u h d := ⟨_, _, _, _, eq_ix4 y⟩
    show out0_2 (iblk m c 0 t) (iblk m c 1 t) (ix4 b u h d) = Cert.Qkv.codes _ _ (((cfg0.win 2).blk t).view.emb (ix4 b u h d))
    rw [emb2, iblk0_eq, iblk1_eq]
    unfold out0_2
    rw [View.canon_unit_zero hz4, View.ld_unit_zero (S := S2x29952x16x128) hz4]

    refine (pay4_apply _ b u h d).trans ?_
    rw [q_rot, pay3_apply]
    exact congrArg (fun f => Cert.Qkv.code _ (Cert.Qkv.scale f)) (funext fun j => q_rot m c b u h j)
  · have e := ((cfg0.win 2).blk ⟨0, by decide +kernel⟩).view.emb_mem_set i
    rw [emb2] at e
    exact e

theorem final3 : (dats m 0 c).arrAt 3 cfg0.N = Cert.Qkv.scales (xQ m c) (ang m c) := by
  refine (dats m 0 c).arrAt_eq_of_cover 3 _ (fun t _ => ?_) (fun i => ⟨⟨0, by decide +kernel⟩, flush0_3 _, ?_⟩)
  · rw [Value.flushed3]
    funext y
    obtain ⟨b, u, h, rfl⟩ : ∃ (b : Fin 2) (u : Fin 29952) (h : Fin 16), y = ix3 b u h := ⟨_, _, _, eq_ix3 y⟩
    show out0_3 (iblk m c 0 t) (iblk m c 1 t) (ix3 b u h) = Cert.Qkv.scales _ _ (((cfg0.win 3).blk t).view.emb (ix3 b u h))
    rw [emb3, iblk0_eq, iblk1_eq]
    unfold out0_3
    rw [View.canon_unit_zero hz3, View.ld_unit_zero (S := S2x29952x16x128) hz4]

    refine (pay3_apply _ b u h).trans ?_
    exact congrArg Cert.Qkv.scale (funext fun j => q_rot m c b u h j)
  · have e := ((cfg0.win 3).blk ⟨0, by decide +kernel⟩).view.emb_mem_set i
    rw [emb3] at e
    exact e

theorem final4 : (dats m 0 c).arrAt 4 cfg0.N = Cert.Qkv.codes (xK m c) (ang m c) := by
  refine (dats m 0 c).arrAt_eq_of_cover 4 _ (fun t _ => ?_) (fun i => ⟨⟨0, by decide +kernel⟩, flush0_4 _, ?_⟩)
  · rw [Value.flushed4]
    funext y
    obtain ⟨b, u, h, d, rfl⟩ : ∃ (b : Fin 2) (u : Fin 29952) (h : Fin 16) (d : Fin 128), y = ix4 b u h d := ⟨_, _, _, _, eq_ix4 y⟩
    show out0_4 (iblk m c 0 t) (iblk m c 1 t) (ix4 b u h d) = Cert.Qkv.codes _ _ (((cfg0.win 4).blk t).view.emb (ix4 b u h d))
    rw [emb4, iblk0_eq, iblk1_eq]
    unfold out0_4
    rw [View.canon_unit_zero hz4, View.ld_unit_zero (S := S2x29952x16x128) hz4]
    rw [pay1_eq]
    refine (pay4_apply _ b u h d).trans ?_
    rw [k_rot, pay3_apply]
    exact congrArg (fun f => Cert.Qkv.code _ (Cert.Qkv.scale f)) (funext fun j => k_rot m c b u h j)
  · have e := ((cfg0.win 4).blk ⟨0, by decide +kernel⟩).view.emb_mem_set i
    rw [emb4] at e
    exact e

theorem final5 : (dats m 0 c).arrAt 5 cfg0.N = Cert.Qkv.scales (xK m c) (ang m c) := by
  refine (dats m 0 c).arrAt_eq_of_cover 5 _ (fun t _ => ?_) (fun i => ⟨⟨0, by decide +kernel⟩, flush0_5 _, ?_⟩)
  · rw [Value.flushed5]
    funext y
    obtain ⟨b, u, h, rfl⟩ : ∃ (b : Fin 2) (u : Fin 29952) (h : Fin 16), y = ix3 b u h := ⟨_, _, _, eq_ix3 y⟩
    show out0_5 (iblk m c 0 t) (iblk m c 1 t) (ix3 b u h) = Cert.Qkv.scales _ _ (((cfg0.win 5).blk t).view.emb (ix3 b u h))
    rw [emb5, iblk0_eq, iblk1_eq]
    unfold out0_5
    rw [View.canon_unit_zero hz3, View.ld_unit_zero (S := S2x29952x16x128) hz4]
    rw [pay6_eq]
    refine (pay3_apply _ b u h).trans ?_
    exact congrArg Cert.Qkv.scale (funext fun j => k_rot m c b u h j)
  · have e := ((cfg0.win 5).blk ⟨0, by decide +kernel⟩).view.emb_mem_set i
    rw [emb5] at e
    exact e

/-- The reference leaves the codes and the scales of its queries and of its keys. -/
theorem value :
    θ_run defs (onTc (τ := τ) (main (F := Ideal))) ⟨m, fun _ => 0, ρ⟩ (fun r => ∀ c : Dev nD,
      r.2.mem ((c.tc : Thread nD τ).loc main_v87_0) = Cert.Qkv.codes (xQ m c) (ang m c)
      ∧ r.2.mem ((c.tc : Thread nD τ).loc main_v87_1) = Cert.Qkv.scales (xQ m c) (ang m c)
      ∧ r.2.mem ((c.tc : Thread nD τ).loc main_v87_2) = Cert.Qkv.codes (xK m c) (ang m c)
      ∧ r.2.mem ((c.tc : Thread nD τ).loc main_v87_3) = Cert.Qkv.scales (xK m c) (ang m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final2 m c), (h c).2.1.trans (final3 m c), (h c).2.2.1.trans (final4 m c),
      (h c).2.2.2.1.trans (final5 m c), (h c).2.2.2.2⟩)
    (Value.run_blocks m ρ)

end Cert.ReferenceQkvIdeal.Rot

end
-- ==== Proof.Qkv.Theta.lean ====
/- Hand-written. The two programs compute the same angles. -/
module

public import proofs.«01_k».proof.Proof.Qkv.Ref1
public import proofs.«01_k».proof.Proof.Qkv.Ker1

@[expose] public section

set_option maxRecDepth 16384

noncomputable section

namespace Cert.Qkv

open Idealize.ShloMosaic Idealize.ShloMosaic.TcCoe Idealize.ShloMosaic.Tactic
open Idealize.SL Idealize.SL.Sem

/-- The two programs' tables of which coordinate a pair turns by. -/
theorem lit0_eq : Cert.KernelQkvIdeal.lit0 = Cert.ReferenceQkvIdeal.lit0 := funext (by decide)

/-- Both programs read a token's coordinates in the same way. -/
theorem gather_congr {a b e : Cert.KernelQkvIdeal.S29952x1.Idx → BitVec 32} {a' b' e' : Cert.ReferenceQkvIdeal.S29952x1.Idx → BitVec 32}
    (ha : a = a') (hb : b = b') (he : e = e') (u : Fin 29952) (j : Fin 64) :
    (Host.gather Cert.KernelQkvIdeal.gather_S29952x3_S64x1_S29952x64_0_1_n_n_1_1_299521
        (sitofp (F := Ideal) FTy.f32
          (concatenate Cert.KernelQkvIdeal.S29952x3 1 [⟨Cert.KernelQkvIdeal.S29952x1, a⟩, ⟨Cert.KernelQkvIdeal.S29952x1, b⟩, ⟨Cert.KernelQkvIdeal.S29952x1, e⟩]
            Cert.KernelQkvIdeal.Gen.concatenates_S29952x1_S29952x1_S29952x1_S29952x3_d1))
        (broadcastInDim Cert.KernelQkvIdeal.S64x1 ![0] Cert.KernelQkvIdeal.Gen.bcast_S64_S64x1_0
          (select (constantI Cert.KernelQkvIdeal.S64 1 0#1)
            (addi (fun i => Cert.KernelQkvIdeal.lit0 (Cert.KernelQkvIdeal.S64.rowMajor i))
              (broadcastInDim Cert.KernelQkvIdeal.S64 ![] Cert.KernelQkvIdeal.Gen.bcast_S_S64 (constantI Cert.KernelQkvIdeal.S_ 32 3#32)))
            fun i => Cert.KernelQkvIdeal.lit0 (Cert.KernelQkvIdeal.S64.rowMajor i)))
        (ix2 u j) : EReal)
    = Host.gather Cert.ReferenceQkvIdeal.gather_S29952x3_S64x1_S29952x64_0_1_n_n_1_1_299521
        (sitofp (F := Ideal) FTy.f32
          (concatenate Cert.ReferenceQkvIdeal.S29952x3 1 [⟨Cert.ReferenceQkvIdeal.S29952x1, a'⟩, ⟨Cert.ReferenceQkvIdeal.S29952x1, b'⟩, ⟨Cert.ReferenceQkvIdeal.S29952x1, e'⟩]
            Cert.ReferenceQkvIdeal.Gen.concatenates_S29952x1_S29952x1_S29952x1_S29952x3_d1))
        (broadcastInDim Cert.ReferenceQkvIdeal.S64x1 ![0] Cert.ReferenceQkvIdeal.Gen.bcast_S64_S64x1_0
          (select (constantI Cert.ReferenceQkvIdeal.S64 1 0#1)
            (addi (fun i => Cert.ReferenceQkvIdeal.lit0 (Cert.ReferenceQkvIdeal.S64.rowMajor i))
              (broadcastInDim Cert.ReferenceQkvIdeal.S64 ![] Cert.ReferenceQkvIdeal.Gen.bcast_S_S64 (constantI Cert.ReferenceQkvIdeal.S_ 32 3#32)))
            fun i => Cert.ReferenceQkvIdeal.lit0 (Cert.ReferenceQkvIdeal.S64.rowMajor i)))
        (ix2 u j) := by
  subst ha hb he
  rw [lit0_eq]
  rfl

/-- The angles of the kernel are the reference's. -/
theorem theta_eq (m : (ℓ : Loc Cert.KernelQkvIdeal.nD Cert.KernelQkvIdeal.τ Cert.KernelQkvIdeal.sig) → Buf (Elt Ideal) ℓ) (c : Dev Cert.KernelQkvIdeal.nD)
    (m' : (ℓ : Loc Cert.ReferenceQkvIdeal.nD Cert.ReferenceQkvIdeal.τ Cert.ReferenceQkvIdeal.sig) → Buf (Elt Ideal) ℓ) (c' : Dev Cert.ReferenceQkvIdeal.nD) (u : Fin 29952) (j : Fin 64) :
    Cert.KernelQkvIdeal.Rot.th m c (ix2 u j) = Cert.ReferenceQkvIdeal.Rot.th m' c' (ix2 u j) := by
  unfold Cert.KernelQkvIdeal.Rot.th Cert.ReferenceQkvIdeal.Rot.th Cert.KernelQkvIdeal.Gen.V Cert.ReferenceQkvIdeal.Gen.V
  after_reads_at
  after_reads_at
  refine congrArg₂ (fun x y : EReal => x * y) (gather_congr ?_ ?_ ?_ u j) ?_
  · funext y
    rw [eq_ix2 (n0 := 29952) (n1 := 1) y]
    after_reads_at
  · funext y
    rw [eq_ix2 (n0 := 29952) (n1 := 1) y]
    after_reads_at
  · funext y
    rw [eq_ix2 (n0 := 29952) (n1 := 1) y]
    after_reads_at
  · rfl

end Cert.Qkv

end
-- ==== Proof.Qkv.Agree.lean ====
/- Hand-written. The call that quantises queries and keys: its codes and scales are the reference's, over the extended reals. -/
module

public import proofs.«01_k».proof.Defs
public import proofs.«01_k».proof.Proof.Qkv.Ker3
public import proofs.«01_k».proof.Proof.Qkv.Ref2
public import proofs.«01_k».proof.Proof.Qkv.Theta

@[expose] public section

noncomputable section

namespace Cert.Qkv

open Idealize.ShloMosaic Idealize.ShloMosaic.TcCoe
open Idealize.SL Idealize.SL.Sem

/-- THE VALUE CLAIM for the codes and scales of queries and keys: the call and the reference leave the same. -/
theorem algebraic : @Cert.algebraic_KernelQkvIdeal_ReferenceQkvIdeal Cert.KernelQkvIdeal.Gen.facts Cert.ReferenceQkvIdeal.Gen.facts := by
  intro m g m' g' hpre hargs
  refine ⟨fun c => _, fun c => _, fun c => _, fun c => _, Cert.KernelQkvIdeal.Rot.value m g, ?_⟩
  have e (c : Dev Cert.KernelQkvIdeal.nD) : Cert.ReferenceQkvIdeal.Rot.ang m' c = Cert.KernelQkvIdeal.Rot.ang m c :=
    funext fun u => funext fun j => (theta_eq m c m' c u j).symm
  have eQ (c : Dev Cert.KernelQkvIdeal.nD) : Cert.ReferenceQkvIdeal.Rot.xQ m' c = Cert.KernelQkvIdeal.Rot.xQ m c := by
    funext b u h k
    unfold Cert.ReferenceQkvIdeal.Rot.xQ Cert.KernelQkvIdeal.Rot.xQ
    exact congrFun (hargs c).1 _
  have eK (c : Dev Cert.KernelQkvIdeal.nD) : Cert.ReferenceQkvIdeal.Rot.xK m' c = Cert.KernelQkvIdeal.Rot.xK m c := by
    funext b u h k
    unfold Cert.ReferenceQkvIdeal.Rot.xK Cert.KernelQkvIdeal.Rot.xK
    exact congrFun (hargs c).2.1 _
  refine (θ_run Cert.ReferenceQkvIdeal.defs _ _).mono (fun r h c => ?_) (Cert.ReferenceQkvIdeal.Rot.value m' g')
  have h' := h c
  rw [e c, eQ c, eK c] at h'
  exact h'

end Cert.Qkv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.FrameRun
public import proofs.«01_k».proof.Proof.KernelIdeal.FrameRun
public import proofs.«01_k».proof.Proof.Gen.KernelV
public import proofs.«01_k».proof.Proof.Gen.KernelV.Skeleton
public import proofs.«01_k».proof.Proof.Gen.KernelV.Launch
public import proofs.«01_k».proof.Proof.Gen.KernelV.Points
public import proofs.«01_k».proof.Proof.Gen.KernelV.Frame
public import proofs.«01_k».proof.Proof.Gen.KernelVIdeal
public import proofs.«01_k».proof.Proof.Gen.KernelVIdeal.Skeleton
public import proofs.«01_k».proof.Proof.Gen.KernelVIdeal.Launch
public import proofs.«01_k».proof.Proof.Gen.KernelVIdeal.Points
public import proofs.«01_k».proof.Proof.Gen.KernelVIdeal.Frame
public import proofs.«01_k».proof.Proof.Gen.ReferenceVIdeal
public import proofs.«01_k».proof.Proof.Gen.ReferenceVIdeal.Skeleton
public import proofs.«01_k».proof.Proof.Gen.ReferenceVIdeal.Launch
public import proofs.«01_k».proof.Proof.Gen.ReferenceVIdeal.Points
public import proofs.«01_k».proof.Proof.Gen.ReferenceVIdeal.Frame
public import proofs.«01_k».proof.Proof.Gen.KernelVIdeal.Value
public import proofs.«01_k».proof.Proof.Gen.ReferenceVIdeal.Value
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.ReferenceQkvIdeal
public import proofs.«01_k».proof.Proof.Gen.ReferenceQkvIdeal.Skeleton
public import proofs.«01_k».proof.Proof.Gen.ReferenceQkvIdeal.Launch
public import proofs.«01_k».proof.Proof.Gen.ReferenceQkvIdeal.Points
public import proofs.«01_k».proof.Proof.Gen.ReferenceQkvIdeal.Frame
public import proofs.«01_k».proof.Proof.Gen.KernelQkvIdeal.Value
public import proofs.«01_k».proof.Proof.Gen.ReferenceQkvIdeal.Value
public import proofs.«01_k».proof.Proof.Agree
public import proofs.«01_k».proof.Proof.VQuant
public import proofs.«01_k».proof.Proof.Qkv.Agree
public import Idealize.ShloMosaic.Adequacy
public import Idealize.ShloMosaic.Init

@[expose] public section

noncomputable section

namespace Cert.Proof

open Idealize.ShloMosaic Idealize.SL.Sem Cert.Kernel

/-- The one named constant of the idealized call: what is printed is the rounding of the real number it names. -/
theorem preserves : Cert.preserves_Kernel_KernelIdeal :=
  IdealRules.named_const.statement Cert.KernelIdeal.κ "scale_log2e" .f32 0x3E0293EE#32 _ rfl

/-- The claims, proved. -/
theorem claim : Cert.Claim := ⟨Cert.Kernel.Gen.facts, Cert.KernelIdeal.Gen.facts, Cert.ReferenceIdeal.Gen.facts,
  Cert.KernelQkv.Gen.facts, Cert.KernelQkvIdeal.Gen.facts, Cert.ReferenceQkvIdeal.Gen.facts,
  Cert.KernelV.Gen.facts, Cert.KernelVIdeal.Gen.facts, Cert.ReferenceVIdeal.Gen.facts, Cert.Attn.preFacts,
  fun m g _ => Cert.Kernel.Attn.frame m g,
  fun m g _ => Cert.KernelIdeal.Attn.frame m g,
  fun m g _ => Cert.KernelIdeal.Attn.frame m g,
  fun m g _ => Cert.ReferenceIdeal.Gen.frame m g,
  fun m g _ => Cert.ReferenceIdeal.Gen.frame m g,
  fun m g _ => Cert.KernelQkv.Gen.frame m g,
  fun m g _ => Cert.KernelQkvIdeal.Gen.frame m g,
  fun m g _ => Cert.ReferenceQkvIdeal.Gen.frame m g,
  fun m g _ => Cert.KernelV.Gen.frame m g,
  fun m g _ => Cert.KernelVIdeal.Gen.frame m g,
  fun m g _ => Cert.ReferenceVIdeal.Gen.frame m g,
  preserves,
  Cert.Attn.algebraic,
  trivial,
  Cert.Qkv.algebraic,
  trivial,
  Cert.ReferenceVIdeal.VQuant.algebraic⟩

end Cert.Proof

end
